-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_FfnFinalRefIdeal (m : (ℓ : Loc Cert.FfnFinalRefIdeal.nD Cert.FfnFinalRefIdeal.τ Cert.FfnFinalRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_OutAttn (m : (ℓ : Loc Cert.OutAttn.nD Cert.OutAttn.τ Cert.OutAttn.sig) → Buf (Elt Bits) ℓ) : Prop :=
  True

def Pre_OutAttnIdeal (m : (ℓ : Loc Cert.OutAttnIdeal.nD Cert.OutAttnIdeal.τ Cert.OutAttnIdeal.sig) → Buf (Elt Ideal) ℓ) : Prop :=
  True

def Pre_OutAttnIdeal_scores_finite [hPre_scores_finite : Cert.Pre_scores_finite.Facts] (m : (ℓ : Loc Cert.OutAttnIdeal.nD Cert.OutAttnIdeal.τ Cert.OutAttnIdeal.sig) → Buf (Elt Ideal) ℓ) : Prop :=
  ∀ c : Dev Cert.OutAttnIdeal.nD,
    (Cert.Pre_scores_finite.fn (F := Ideal) (m ((c.tc : Thread Cert.OutAttnIdeal.nD Cert.OutAttnIdeal.τ).loc Cert.OutAttnIdeal.main_arg0)) (m ((c.tc : Thread Cert.OutAttnIdeal.nD Cert.OutAttnIdeal.τ).loc Cert.OutAttnIdeal.main_arg1)) (m ((c.tc : Thread Cert.OutAttnIdeal.nD Cert.OutAttnIdeal.τ).loc Cert.OutAttnIdeal.main_arg2)) (m ((c.tc : Thread Cert.OutAttnIdeal.nD Cert.OutAttnIdeal.τ).loc Cert.OutAttnIdeal.main_arg3)) (m ((c.tc : Thread Cert.OutAttnIdeal.nD Cert.OutAttnIdeal.τ).loc Cert.OutAttnIdeal.main_arg4)) (m ((c.tc : Thread Cert.OutAttnIdeal.nD Cert.OutAttnIdeal.τ).loc Cert.OutAttnIdeal.main_arg5)) (m ((c.tc : Thread Cert.OutAttnIdeal.nD Cert.OutAttnIdeal.τ).loc Cert.OutAttnIdeal.main_arg6)) (m ((c.tc : Thread Cert.OutAttnIdeal.nD Cert.OutAttnIdeal.τ).loc Cert.OutAttnIdeal.main_arg7)) (m ((c.tc : Thread Cert.OutAttnIdeal.nD Cert.OutAttnIdeal.τ).loc Cert.OutAttnIdeal.main_arg8)) (m ((c.tc : Thread Cert.OutAttnIdeal.nD Cert.OutAttnIdeal.τ).loc Cert.OutAttnIdeal.main_arg9))) = (fun _ => 1#1)

def Pre_OutAttnRefIdeal (m : (ℓ : Loc Cert.OutAttnRefIdeal.nD Cert.OutAttnRefIdeal.τ Cert.OutAttnRefIdeal.sig) → Buf (Elt Ideal) ℓ) : Prop :=
  True

def Pre_OutAttnRefIdeal_scores_finite [hPre_scores_finite : Cert.Pre_scores_finite.Facts] (m : (ℓ : Loc Cert.OutAttnRefIdeal.nD Cert.OutAttnRefIdeal.τ Cert.OutAttnRefIdeal.sig) → Buf (Elt Ideal) ℓ) : Prop :=
  ∀ c : Dev Cert.OutAttnRefIdeal.nD,
    (Cert.Pre_scores_finite.fn (F := Ideal) (m ((c.tc : Thread Cert.OutAttnRefIdeal.nD Cert.OutAttnRefIdeal.τ).loc Cert.OutAttnRefIdeal.main_arg0)) (m ((c.tc : Thread Cert.OutAttnRefIdeal.nD Cert.OutAttnRefIdeal.τ).loc Cert.OutAttnRefIdeal.main_arg1)) (m ((c.tc : Thread Cert.OutAttnRefIdeal.nD Cert.OutAttnRefIdeal.τ).loc Cert.OutAttnRefIdeal.main_arg2)) (m ((c.tc : Thread Cert.OutAttnRefIdeal.nD Cert.OutAttnRefIdeal.τ).loc Cert.OutAttnRefIdeal.main_arg3)) (m ((c.tc : Thread Cert.OutAttnRefIdeal.nD Cert.OutAttnRefIdeal.τ).loc Cert.OutAttnRefIdeal.main_arg4)) (m ((c.tc : Thread Cert.OutAttnRefIdeal.nD Cert.OutAttnRefIdeal.τ).loc Cert.OutAttnRefIdeal.main_arg5)) (m ((c.tc : Thread Cert.OutAttnRefIdeal.nD Cert.OutAttnRefIdeal.τ).loc Cert.OutAttnRefIdeal.main_arg6)) (m ((c.tc : Thread Cert.OutAttnRefIdeal.nD Cert.OutAttnRefIdeal.τ).loc Cert.OutAttnRefIdeal.main_arg7)) (m ((c.tc : Thread Cert.OutAttnRefIdeal.nD Cert.OutAttnRefIdeal.τ).loc Cert.OutAttnRefIdeal.main_arg8)) (m ((c.tc : Thread Cert.OutAttnRefIdeal.nD Cert.OutAttnRefIdeal.τ).loc Cert.OutAttnRefIdeal.main_arg9))) = (fun _ => 1#1)

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_lb_below_one [hPre_lb_below_one : Cert.Pre_lb_below_one.Facts] (m : (ℓ : Loc Cert.MixerIdeal.nD Cert.MixerIdeal.τ Cert.MixerIdeal.sig) → Buf (Elt Ideal) ℓ) : Prop :=
  ∀ c : Dev Cert.MixerIdeal.nD,
    (Cert.Pre_lb_below_one.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11)) (m ((c.tc : Thread Cert.MixerIdeal.nD Cert.MixerIdeal.τ).loc Cert.MixerIdeal.main_arg12)) (m ((c.tc : Thread Cert.MixerIdeal.nD Cert.MixerIdeal.τ).loc Cert.MixerIdeal.main_arg13)) (m ((c.tc : Thread Cert.MixerIdeal.nD Cert.MixerIdeal.τ).loc Cert.MixerIdeal.main_arg14)) (m ((c.tc : Thread Cert.MixerIdeal.nD Cert.MixerIdeal.τ).loc Cert.MixerIdeal.main_arg15)) (m ((c.tc : Thread Cert.MixerIdeal.nD Cert.MixerIdeal.τ).loc Cert.MixerIdeal.main_arg16)) (m ((c.tc : Thread Cert.MixerIdeal.nD Cert.MixerIdeal.τ).loc Cert.MixerIdeal.main_arg17)) (m ((c.tc : Thread Cert.MixerIdeal.nD Cert.MixerIdeal.τ).loc Cert.MixerIdeal.main_arg18)) (m ((c.tc : Thread Cert.MixerIdeal.nD Cert.MixerIdeal.τ).loc Cert.MixerIdeal.main_arg19)) (m ((c.tc : Thread Cert.MixerIdeal.nD Cert.MixerIdeal.τ).loc Cert.MixerIdeal.main_arg20)) (m ((c.tc : Thread Cert.MixerIdeal.nD Cert.MixerIdeal.τ).loc Cert.MixerIdeal.main_arg21))) = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_lb_below_one [hPre_lb_below_one : Cert.Pre_lb_below_one.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_lb_below_one.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10)) (m ((c.tc : Thread Cert.MixerRefIdeal.nD Cert.MixerRefIdeal.τ).loc Cert.MixerRefIdeal.main_arg11)) (m ((c.tc : Thread Cert.MixerRefIdeal.nD Cert.MixerRefIdeal.τ).loc Cert.MixerRefIdeal.main_arg12)) (m ((c.tc : Thread Cert.MixerRefIdeal.nD Cert.MixerRefIdeal.τ).loc Cert.MixerRefIdeal.main_arg13)) (m ((c.tc : Thread Cert.MixerRefIdeal.nD Cert.MixerRefIdeal.τ).loc Cert.MixerRefIdeal.main_arg14)) (m ((c.tc : Thread Cert.MixerRefIdeal.nD Cert.MixerRefIdeal.τ).loc Cert.MixerRefIdeal.main_arg15)) (m ((c.tc : Thread Cert.MixerRefIdeal.nD Cert.MixerRefIdeal.τ).loc Cert.MixerRefIdeal.main_arg16)) (m ((c.tc : Thread Cert.MixerRefIdeal.nD Cert.MixerRefIdeal.τ).loc Cert.MixerRefIdeal.main_arg17)) (m ((c.tc : Thread Cert.MixerRefIdeal.nD Cert.MixerRefIdeal.τ).loc Cert.MixerRefIdeal.main_arg18)) (m ((c.tc : Thread Cert.MixerRefIdeal.nD Cert.MixerRefIdeal.τ).loc Cert.MixerRefIdeal.main_arg19)) (m ((c.tc : Thread Cert.MixerRefIdeal.nD Cert.MixerRefIdeal.τ).loc Cert.MixerRefIdeal.main_arg20)) (m ((c.tc : Thread Cert.MixerRefIdeal.nD Cert.MixerRefIdeal.τ).loc Cert.MixerRefIdeal.main_arg21))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4)
      ∧ r.2.mem ((c.tc : Thread Cert.FfnFinal.nD Cert.FfnFinal.τ).loc Cert.FfnFinal.main_arg5) = m ((c.tc : Thread Cert.FfnFinal.nD Cert.FfnFinal.τ).loc Cert.FfnFinal.main_arg5))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
      ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ r.2.sem = fun _ => 0)

def quiescent_FfnFinalRefIdeal [hFfnFinalRefIdeal : Cert.FfnFinalRefIdeal.Facts] : Prop :=
  ∀ (m : (ℓ : Loc Cert.FfnFinalRefIdeal.nD Cert.FfnFinalRefIdeal.τ Cert.FfnFinalRefIdeal.sig) → Buf (Elt Ideal) ℓ) (g : Dev Cert.FfnFinalRefIdeal.nD → PrngReg), Pre_FfnFinalRefIdeal m →
    θ_run (Cert.FfnFinalRefIdeal.defs (F := Ideal)) (onTc (τ := Cert.FfnFinalRefIdeal.τ) (Cert.FfnFinalRefIdeal.main (F := Ideal))) ⟨m, fun _ => 0, g⟩ (fun r => (∀ c : Dev Cert.FfnFinalRefIdeal.nD,
      r.2.mem ((c.tc : Thread Cert.FfnFinalRefIdeal.nD Cert.FfnFinalRefIdeal.τ).loc Cert.FfnFinalRefIdeal.main_arg0) = m ((c.tc : Thread Cert.FfnFinalRefIdeal.nD Cert.FfnFinalRefIdeal.τ).loc Cert.FfnFinalRefIdeal.main_arg0)
      ∧ r.2.mem ((c.tc : Thread Cert.FfnFinalRefIdeal.nD Cert.FfnFinalRefIdeal.τ).loc Cert.FfnFinalRefIdeal.main_arg1) = m ((c.tc : Thread Cert.FfnFinalRefIdeal.nD Cert.FfnFinalRefIdeal.τ).loc Cert.FfnFinalRefIdeal.main_arg1)
      ∧ r.2.mem ((c.tc : Thread Cert.FfnFinalRefIdeal.nD Cert.FfnFinalRefIdeal.τ).loc Cert.FfnFinalRefIdeal.main_arg2) = m ((c.tc : Thread Cert.FfnFinalRefIdeal.nD Cert.FfnFinalRefIdeal.τ).loc Cert.FfnFinalRefIdeal.main_arg2)
      ∧ r.2.mem ((c.tc : Thread Cert.FfnFinalRefIdeal.nD Cert.FfnFinalRefIdeal.τ).loc Cert.FfnFinalRefIdeal.main_arg3) = m ((c.tc : Thread Cert.FfnFinalRefIdeal.nD Cert.FfnFinalRefIdeal.τ).loc Cert.FfnFinalRefIdeal.main_arg3)
      ∧ r.2.mem ((c.tc : Thread Cert.FfnFinalRefIdeal.nD Cert.FfnFinalRefIdeal.τ).loc Cert.FfnFinalRefIdeal.main_arg4) = m ((c.tc : Thread Cert.FfnFinalRefIdeal.nD Cert.FfnFinalRefIdeal.τ).loc Cert.FfnFinalRefIdeal.main_arg4)
      ∧ r.2.mem ((c.tc : Thread Cert.FfnFinalRefIdeal.nD Cert.FfnFinalRefIdeal.τ).loc Cert.FfnFinalRefIdeal.main_arg5) = m ((c.tc : Thread Cert.FfnFinalRefIdeal.nD Cert.FfnFinalRefIdeal.τ).loc Cert.FfnFinalRefIdeal.main_arg5))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_OutAttn [hOutAttn : Cert.OutAttn.Facts] : Prop :=
  ∀ (m : (ℓ : Loc Cert.OutAttn.nD Cert.OutAttn.τ Cert.OutAttn.sig) → Buf (Elt Bits) ℓ) (g : Dev Cert.OutAttn.nD → PrngReg), Pre_OutAttn m →
    θ_run (Cert.OutAttn.defs (F := Bits)) (onTc (τ := Cert.OutAttn.τ) (Cert.OutAttn.main (F := Bits))) ⟨m, fun _ => 0, g⟩ (fun r => (∀ c : Dev Cert.OutAttn.nD,
      r.2.mem ((c.tc : Thread Cert.OutAttn.nD Cert.OutAttn.τ).loc Cert.OutAttn.main_arg0) = m ((c.tc : Thread Cert.OutAttn.nD Cert.OutAttn.τ).loc Cert.OutAttn.main_arg0)
      ∧ r.2.mem ((c.tc : Thread Cert.OutAttn.nD Cert.OutAttn.τ).loc Cert.OutAttn.main_arg1) = m ((c.tc : Thread Cert.OutAttn.nD Cert.OutAttn.τ).loc Cert.OutAttn.main_arg1)
      ∧ r.2.mem ((c.tc : Thread Cert.OutAttn.nD Cert.OutAttn.τ).loc Cert.OutAttn.main_arg2) = m ((c.tc : Thread Cert.OutAttn.nD Cert.OutAttn.τ).loc Cert.OutAttn.main_arg2)
      ∧ r.2.mem ((c.tc : Thread Cert.OutAttn.nD Cert.OutAttn.τ).loc Cert.OutAttn.main_arg3) = m ((c.tc : Thread Cert.OutAttn.nD Cert.OutAttn.τ).loc Cert.OutAttn.main_arg3)
      ∧ r.2.mem ((c.tc : Thread Cert.OutAttn.nD Cert.OutAttn.τ).loc Cert.OutAttn.main_arg4) = m ((c.tc : Thread Cert.OutAttn.nD Cert.OutAttn.τ).loc Cert.OutAttn.main_arg4)
      ∧ r.2.mem ((c.tc : Thread Cert.OutAttn.nD Cert.OutAttn.τ).loc Cert.OutAttn.main_arg5) = m ((c.tc : Thread Cert.OutAttn.nD Cert.OutAttn.τ).loc Cert.OutAttn.main_arg5)
      ∧ r.2.mem ((c.tc : Thread Cert.OutAttn.nD Cert.OutAttn.τ).loc Cert.OutAttn.main_arg6) = m ((c.tc : Thread Cert.OutAttn.nD Cert.OutAttn.τ).loc Cert.OutAttn.main_arg6)
      ∧ r.2.mem ((c.tc : Thread Cert.OutAttn.nD Cert.OutAttn.τ).loc Cert.OutAttn.main_arg7) = m ((c.tc : Thread Cert.OutAttn.nD Cert.OutAttn.τ).loc Cert.OutAttn.main_arg7)
      ∧ r.2.mem ((c.tc : Thread Cert.OutAttn.nD Cert.OutAttn.τ).loc Cert.OutAttn.main_arg8) = m ((c.tc : Thread Cert.OutAttn.nD Cert.OutAttn.τ).loc Cert.OutAttn.main_arg8)
      ∧ r.2.mem ((c.tc : Thread Cert.OutAttn.nD Cert.OutAttn.τ).loc Cert.OutAttn.main_arg9) = m ((c.tc : Thread Cert.OutAttn.nD Cert.OutAttn.τ).loc Cert.OutAttn.main_arg9))
      ∧ r.2.sem = fun _ => 0)

def quiescent_OutAttnIdeal [hOutAttnIdeal : Cert.OutAttnIdeal.Facts] : Prop :=
  ∀ (m : (ℓ : Loc Cert.OutAttnIdeal.nD Cert.OutAttnIdeal.τ Cert.OutAttnIdeal.sig) → Buf (Elt Ideal) ℓ) (g : Dev Cert.OutAttnIdeal.nD → PrngReg), Pre_OutAttnIdeal m →
    θ_run (Cert.OutAttnIdeal.defs (F := Ideal)) (onTc (τ := Cert.OutAttnIdeal.τ) (Cert.OutAttnIdeal.main (F := Ideal))) ⟨m, fun _ => 0, g⟩ (fun r => (∀ c : Dev Cert.OutAttnIdeal.nD,
      r.2.mem ((c.tc : Thread Cert.OutAttnIdeal.nD Cert.OutAttnIdeal.τ).loc Cert.OutAttnIdeal.main_arg0) = m ((c.tc : Thread Cert.OutAttnIdeal.nD Cert.OutAttnIdeal.τ).loc Cert.OutAttnIdeal.main_arg0)
      ∧ r.2.mem ((c.tc : Thread Cert.OutAttnIdeal.nD Cert.OutAttnIdeal.τ).loc Cert.OutAttnIdeal.main_arg1) = m ((c.tc : Thread Cert.OutAttnIdeal.nD Cert.OutAttnIdeal.τ).loc Cert.OutAttnIdeal.main_arg1)
      ∧ r.2.mem ((c.tc : Thread Cert.OutAttnIdeal.nD Cert.OutAttnIdeal.τ).loc Cert.OutAttnIdeal.main_arg2) = m ((c.tc : Thread Cert.OutAttnIdeal.nD Cert.OutAttnIdeal.τ).loc Cert.OutAttnIdeal.main_arg2)
      ∧ r.2.mem ((c.tc : Thread Cert.OutAttnIdeal.nD Cert.OutAttnIdeal.τ).loc Cert.OutAttnIdeal.main_arg3) = m ((c.tc : Thread Cert.OutAttnIdeal.nD Cert.OutAttnIdeal.τ).loc Cert.OutAttnIdeal.main_arg3)
      ∧ r.2.mem ((c.tc : Thread Cert.OutAttnIdeal.nD Cert.OutAttnIdeal.τ).loc Cert.OutAttnIdeal.main_arg4) = m ((c.tc : Thread Cert.OutAttnIdeal.nD Cert.OutAttnIdeal.τ).loc Cert.OutAttnIdeal.main_arg4)
      ∧ r.2.mem ((c.tc : Thread Cert.OutAttnIdeal.nD Cert.OutAttnIdeal.τ).loc Cert.OutAttnIdeal.main_arg5) = m ((c.tc : Thread Cert.OutAttnIdeal.nD Cert.OutAttnIdeal.τ).loc Cert.OutAttnIdeal.main_arg5)
      ∧ r.2.mem ((c.tc : Thread Cert.OutAttnIdeal.nD Cert.OutAttnIdeal.τ).loc Cert.OutAttnIdeal.main_arg6) = m ((c.tc : Thread Cert.OutAttnIdeal.nD Cert.OutAttnIdeal.τ).loc Cert.OutAttnIdeal.main_arg6)
      ∧ r.2.mem ((c.tc : Thread Cert.OutAttnIdeal.nD Cert.OutAttnIdeal.τ).loc Cert.OutAttnIdeal.main_arg7) = m ((c.tc : Thread Cert.OutAttnIdeal.nD Cert.OutAttnIdeal.τ).loc Cert.OutAttnIdeal.main_arg7)
      ∧ r.2.mem ((c.tc : Thread Cert.OutAttnIdeal.nD Cert.OutAttnIdeal.τ).loc Cert.OutAttnIdeal.main_arg8) = m ((c.tc : Thread Cert.OutAttnIdeal.nD Cert.OutAttnIdeal.τ).loc Cert.OutAttnIdeal.main_arg8)
      ∧ r.2.mem ((c.tc : Thread Cert.OutAttnIdeal.nD Cert.OutAttnIdeal.τ).loc Cert.OutAttnIdeal.main_arg9) = m ((c.tc : Thread Cert.OutAttnIdeal.nD Cert.OutAttnIdeal.τ).loc Cert.OutAttnIdeal.main_arg9))
      ∧ r.2.sem = fun _ => 0)

def quiescent_OutAttnIdeal_pre_scores_finite [hOutAttnIdeal : Cert.OutAttnIdeal.Facts] [hPre_scores_finite : Cert.Pre_scores_finite.Facts] : Prop :=
  ∀ (m : (ℓ : Loc Cert.OutAttnIdeal.nD Cert.OutAttnIdeal.τ Cert.OutAttnIdeal.sig) → Buf (Elt Ideal) ℓ) (g : Dev Cert.OutAttnIdeal.nD → PrngReg), Pre_OutAttnIdeal_scores_finite m →
    θ_run (Cert.OutAttnIdeal.defs (F := Ideal)) (onTc (τ := Cert.OutAttnIdeal.τ) (Cert.OutAttnIdeal.main (F := Ideal))) ⟨m, fun _ => 0, g⟩ (fun r => (∀ c : Dev Cert.OutAttnIdeal.nD,
      r.2.mem ((c.tc : Thread Cert.OutAttnIdeal.nD Cert.OutAttnIdeal.τ).loc Cert.OutAttnIdeal.main_arg0) = m ((c.tc : Thread Cert.OutAttnIdeal.nD Cert.OutAttnIdeal.τ).loc Cert.OutAttnIdeal.main_arg0)
      ∧ r.2.mem ((c.tc : Thread Cert.OutAttnIdeal.nD Cert.OutAttnIdeal.τ).loc Cert.OutAttnIdeal.main_arg1) = m ((c.tc : Thread Cert.OutAttnIdeal.nD Cert.OutAttnIdeal.τ).loc Cert.OutAttnIdeal.main_arg1)
      ∧ r.2.mem ((c.tc : Thread Cert.OutAttnIdeal.nD Cert.OutAttnIdeal.τ).loc Cert.OutAttnIdeal.main_arg2) = m ((c.tc : Thread Cert.OutAttnIdeal.nD Cert.OutAttnIdeal.τ).loc Cert.OutAttnIdeal.main_arg2)
      ∧ r.2.mem ((c.tc : Thread Cert.OutAttnIdeal.nD Cert.OutAttnIdeal.τ).loc Cert.OutAttnIdeal.main_arg3) = m ((c.tc : Thread Cert.OutAttnIdeal.nD Cert.OutAttnIdeal.τ).loc Cert.OutAttnIdeal.main_arg3)
      ∧ r.2.mem ((c.tc : Thread Cert.OutAttnIdeal.nD Cert.OutAttnIdeal.τ).loc Cert.OutAttnIdeal.main_arg4) = m ((c.tc : Thread Cert.OutAttnIdeal.nD Cert.OutAttnIdeal.τ).loc Cert.OutAttnIdeal.main_arg4)
      ∧ r.2.mem ((c.tc : Thread Cert.OutAttnIdeal.nD Cert.OutAttnIdeal.τ).loc Cert.OutAttnIdeal.main_arg5) = m ((c.tc : Thread Cert.OutAttnIdeal.nD Cert.OutAttnIdeal.τ).loc Cert.OutAttnIdeal.main_arg5)
      ∧ r.2.mem ((c.tc : Thread Cert.OutAttnIdeal.nD Cert.OutAttnIdeal.τ).loc Cert.OutAttnIdeal.main_arg6) = m ((c.tc : Thread Cert.OutAttnIdeal.nD Cert.OutAttnIdeal.τ).loc Cert.OutAttnIdeal.main_arg6)
      ∧ r.2.mem ((c.tc : Thread Cert.OutAttnIdeal.nD Cert.OutAttnIdeal.τ).loc Cert.OutAttnIdeal.main_arg7) = m ((c.tc : Thread Cert.OutAttnIdeal.nD Cert.OutAttnIdeal.τ).loc Cert.OutAttnIdeal.main_arg7)
      ∧ r.2.mem ((c.tc : Thread Cert.OutAttnIdeal.nD Cert.OutAttnIdeal.τ).loc Cert.OutAttnIdeal.main_arg8) = m ((c.tc : Thread Cert.OutAttnIdeal.nD Cert.OutAttnIdeal.τ).loc Cert.OutAttnIdeal.main_arg8)
      ∧ r.2.mem ((c.tc : Thread Cert.OutAttnIdeal.nD Cert.OutAttnIdeal.τ).loc Cert.OutAttnIdeal.main_arg9) = m ((c.tc : Thread Cert.OutAttnIdeal.nD Cert.OutAttnIdeal.τ).loc Cert.OutAttnIdeal.main_arg9))
      ∧ r.2.sem = fun _ => 0)

def quiescent_OutAttnRefIdeal [hOutAttnRefIdeal : Cert.OutAttnRefIdeal.Facts] : Prop :=
  ∀ (m : (ℓ : Loc Cert.OutAttnRefIdeal.nD Cert.OutAttnRefIdeal.τ Cert.OutAttnRefIdeal.sig) → Buf (Elt Ideal) ℓ) (g : Dev Cert.OutAttnRefIdeal.nD → PrngReg), Pre_OutAttnRefIdeal m →
    θ_run (Cert.OutAttnRefIdeal.defs (F := Ideal)) (onTc (τ := Cert.OutAttnRefIdeal.τ) (Cert.OutAttnRefIdeal.main (F := Ideal))) ⟨m, fun _ => 0, g⟩ (fun r => (∀ c : Dev Cert.OutAttnRefIdeal.nD,
      r.2.mem ((c.tc : Thread Cert.OutAttnRefIdeal.nD Cert.OutAttnRefIdeal.τ).loc Cert.OutAttnRefIdeal.main_arg0) = m ((c.tc : Thread Cert.OutAttnRefIdeal.nD Cert.OutAttnRefIdeal.τ).loc Cert.OutAttnRefIdeal.main_arg0)
      ∧ r.2.mem ((c.tc : Thread Cert.OutAttnRefIdeal.nD Cert.OutAttnRefIdeal.τ).loc Cert.OutAttnRefIdeal.main_arg1) = m ((c.tc : Thread Cert.OutAttnRefIdeal.nD Cert.OutAttnRefIdeal.τ).loc Cert.OutAttnRefIdeal.main_arg1)
      ∧ r.2.mem ((c.tc : Thread Cert.OutAttnRefIdeal.nD Cert.OutAttnRefIdeal.τ).loc Cert.OutAttnRefIdeal.main_arg2) = m ((c.tc : Thread Cert.OutAttnRefIdeal.nD Cert.OutAttnRefIdeal.τ).loc Cert.OutAttnRefIdeal.main_arg2)
      ∧ r.2.mem ((c.tc : Thread Cert.OutAttnRefIdeal.nD Cert.OutAttnRefIdeal.τ).loc Cert.OutAttnRefIdeal.main_arg3) = m ((c.tc : Thread Cert.OutAttnRefIdeal.nD Cert.OutAttnRefIdeal.τ).loc Cert.OutAttnRefIdeal.main_arg3)
      ∧ r.2.mem ((c.tc : Thread Cert.OutAttnRefIdeal.nD Cert.OutAttnRefIdeal.τ).loc Cert.OutAttnRefIdeal.main_arg4) = m ((c.tc : Thread Cert.OutAttnRefIdeal.nD Cert.OutAttnRefIdeal.τ).loc Cert.OutAttnRefIdeal.main_arg4)
      ∧ r.2.mem ((c.tc : Thread Cert.OutAttnRefIdeal.nD Cert.OutAttnRefIdeal.τ).loc Cert.OutAttnRefIdeal.main_arg5) = m ((c.tc : Thread Cert.OutAttnRefIdeal.nD Cert.OutAttnRefIdeal.τ).loc Cert.OutAttnRefIdeal.main_arg5)
      ∧ r.2.mem ((c.tc : Thread Cert.OutAttnRefIdeal.nD Cert.OutAttnRefIdeal.τ).loc Cert.OutAttnRefIdeal.main_arg6) = m ((c.tc : Thread Cert.OutAttnRefIdeal.nD Cert.OutAttnRefIdeal.τ).loc Cert.OutAttnRefIdeal.main_arg6)
      ∧ r.2.mem ((c.tc : Thread Cert.OutAttnRefIdeal.nD Cert.OutAttnRefIdeal.τ).loc Cert.OutAttnRefIdeal.main_arg7) = m ((c.tc : Thread Cert.OutAttnRefIdeal.nD Cert.OutAttnRefIdeal.τ).loc Cert.OutAttnRefIdeal.main_arg7)
      ∧ r.2.mem ((c.tc : Thread Cert.OutAttnRefIdeal.nD Cert.OutAttnRefIdeal.τ).loc Cert.OutAttnRefIdeal.main_arg8) = m ((c.tc : Thread Cert.OutAttnRefIdeal.nD Cert.OutAttnRefIdeal.τ).loc Cert.OutAttnRefIdeal.main_arg8)
      ∧ r.2.mem ((c.tc : Thread Cert.OutAttnRefIdeal.nD Cert.OutAttnRefIdeal.τ).loc Cert.OutAttnRefIdeal.main_arg9) = m ((c.tc : Thread Cert.OutAttnRefIdeal.nD Cert.OutAttnRefIdeal.τ).loc Cert.OutAttnRefIdeal.main_arg9))
      ∧ r.2.sem = fun _ => 0)

def quiescent_OutAttnRefIdeal_pre_scores_finite [hOutAttnRefIdeal : Cert.OutAttnRefIdeal.Facts] [hPre_scores_finite : Cert.Pre_scores_finite.Facts] : Prop :=
  ∀ (m : (ℓ : Loc Cert.OutAttnRefIdeal.nD Cert.OutAttnRefIdeal.τ Cert.OutAttnRefIdeal.sig) → Buf (Elt Ideal) ℓ) (g : Dev Cert.OutAttnRefIdeal.nD → PrngReg), Pre_OutAttnRefIdeal_scores_finite m →
    θ_run (Cert.OutAttnRefIdeal.defs (F := Ideal)) (onTc (τ := Cert.OutAttnRefIdeal.τ) (Cert.OutAttnRefIdeal.main (F := Ideal))) ⟨m, fun _ => 0, g⟩ (fun r => (∀ c : Dev Cert.OutAttnRefIdeal.nD,
      r.2.mem ((c.tc : Thread Cert.OutAttnRefIdeal.nD Cert.OutAttnRefIdeal.τ).loc Cert.OutAttnRefIdeal.main_arg0) = m ((c.tc : Thread Cert.OutAttnRefIdeal.nD Cert.OutAttnRefIdeal.τ).loc Cert.OutAttnRefIdeal.main_arg0)
      ∧ r.2.mem ((c.tc : Thread Cert.OutAttnRefIdeal.nD Cert.OutAttnRefIdeal.τ).loc Cert.OutAttnRefIdeal.main_arg1) = m ((c.tc : Thread Cert.OutAttnRefIdeal.nD Cert.OutAttnRefIdeal.τ).loc Cert.OutAttnRefIdeal.main_arg1)
      ∧ r.2.mem ((c.tc : Thread Cert.OutAttnRefIdeal.nD Cert.OutAttnRefIdeal.τ).loc Cert.OutAttnRefIdeal.main_arg2) = m ((c.tc : Thread Cert.OutAttnRefIdeal.nD Cert.OutAttnRefIdeal.τ).loc Cert.OutAttnRefIdeal.main_arg2)
      ∧ r.2.mem ((c.tc : Thread Cert.OutAttnRefIdeal.nD Cert.OutAttnRefIdeal.τ).loc Cert.OutAttnRefIdeal.main_arg3) = m ((c.tc : Thread Cert.OutAttnRefIdeal.nD Cert.OutAttnRefIdeal.τ).loc Cert.OutAttnRefIdeal.main_arg3)
      ∧ r.2.mem ((c.tc : Thread Cert.OutAttnRefIdeal.nD Cert.OutAttnRefIdeal.τ).loc Cert.OutAttnRefIdeal.main_arg4) = m ((c.tc : Thread Cert.OutAttnRefIdeal.nD Cert.OutAttnRefIdeal.τ).loc Cert.OutAttnRefIdeal.main_arg4)
      ∧ r.2.mem ((c.tc : Thread Cert.OutAttnRefIdeal.nD Cert.OutAttnRefIdeal.τ).loc Cert.OutAttnRefIdeal.main_arg5) = m ((c.tc : Thread Cert.OutAttnRefIdeal.nD Cert.OutAttnRefIdeal.τ).loc Cert.OutAttnRefIdeal.main_arg5)
      ∧ r.2.mem ((c.tc : Thread Cert.OutAttnRefIdeal.nD Cert.OutAttnRefIdeal.τ).loc Cert.OutAttnRefIdeal.main_arg6) = m ((c.tc : Thread Cert.OutAttnRefIdeal.nD Cert.OutAttnRefIdeal.τ).loc Cert.OutAttnRefIdeal.main_arg6)
      ∧ r.2.mem ((c.tc : Thread Cert.OutAttnRefIdeal.nD Cert.OutAttnRefIdeal.τ).loc Cert.OutAttnRefIdeal.main_arg7) = m ((c.tc : Thread Cert.OutAttnRefIdeal.nD Cert.OutAttnRefIdeal.τ).loc Cert.OutAttnRefIdeal.main_arg7)
      ∧ r.2.mem ((c.tc : Thread Cert.OutAttnRefIdeal.nD Cert.OutAttnRefIdeal.τ).loc Cert.OutAttnRefIdeal.main_arg8) = m ((c.tc : Thread Cert.OutAttnRefIdeal.nD Cert.OutAttnRefIdeal.τ).loc Cert.OutAttnRefIdeal.main_arg8)
      ∧ r.2.mem ((c.tc : Thread Cert.OutAttnRefIdeal.nD Cert.OutAttnRefIdeal.τ).loc Cert.OutAttnRefIdeal.main_arg9) = m ((c.tc : Thread Cert.OutAttnRefIdeal.nD Cert.OutAttnRefIdeal.τ).loc Cert.OutAttnRefIdeal.main_arg9))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13)
      ∧ r.2.mem ((c.tc : Thread Cert.Mixer.nD Cert.Mixer.τ).loc Cert.Mixer.main_arg14) = m ((c.tc : Thread Cert.Mixer.nD Cert.Mixer.τ).loc Cert.Mixer.main_arg14)
      ∧ r.2.mem ((c.tc : Thread Cert.Mixer.nD Cert.Mixer.τ).loc Cert.Mixer.main_arg15) = m ((c.tc : Thread Cert.Mixer.nD Cert.Mixer.τ).loc Cert.Mixer.main_arg15)
      ∧ r.2.mem ((c.tc : Thread Cert.Mixer.nD Cert.Mixer.τ).loc Cert.Mixer.main_arg16) = m ((c.tc : Thread Cert.Mixer.nD Cert.Mixer.τ).loc Cert.Mixer.main_arg16)
      ∧ r.2.mem ((c.tc : Thread Cert.Mixer.nD Cert.Mixer.τ).loc Cert.Mixer.main_arg17) = m ((c.tc : Thread Cert.Mixer.nD Cert.Mixer.τ).loc Cert.Mixer.main_arg17)
      ∧ r.2.mem ((c.tc : Thread Cert.Mixer.nD Cert.Mixer.τ).loc Cert.Mixer.main_arg18) = m ((c.tc : Thread Cert.Mixer.nD Cert.Mixer.τ).loc Cert.Mixer.main_arg18)
      ∧ r.2.mem ((c.tc : Thread Cert.Mixer.nD Cert.Mixer.τ).loc Cert.Mixer.main_arg19) = m ((c.tc : Thread Cert.Mixer.nD Cert.Mixer.τ).loc Cert.Mixer.main_arg19)
      ∧ r.2.mem ((c.tc : Thread Cert.Mixer.nD Cert.Mixer.τ).loc Cert.Mixer.main_arg20) = m ((c.tc : Thread Cert.Mixer.nD Cert.Mixer.τ).loc Cert.Mixer.main_arg20)
      ∧ r.2.mem ((c.tc : Thread Cert.Mixer.nD Cert.Mixer.τ).loc Cert.Mixer.main_arg21) = m ((c.tc : Thread Cert.Mixer.nD Cert.Mixer.τ).loc Cert.Mixer.main_arg21))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
      ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16)
      ∧ r.2.mem ((c.tc : Thread Cert.MixerIdeal.nD Cert.MixerIdeal.τ).loc Cert.MixerIdeal.main_arg17) = m ((c.tc : Thread Cert.MixerIdeal.nD Cert.MixerIdeal.τ).loc Cert.MixerIdeal.main_arg17)
      ∧ r.2.mem ((c.tc : Thread Cert.MixerIdeal.nD Cert.MixerIdeal.τ).loc Cert.MixerIdeal.main_arg18) = m ((c.tc : Thread Cert.MixerIdeal.nD Cert.MixerIdeal.τ).loc Cert.MixerIdeal.main_arg18)
      ∧ r.2.mem ((c.tc : Thread Cert.MixerIdeal.nD Cert.MixerIdeal.τ).loc Cert.MixerIdeal.main_arg19) = m ((c.tc : Thread Cert.MixerIdeal.nD Cert.MixerIdeal.τ).loc Cert.MixerIdeal.main_arg19)
      ∧ r.2.mem ((c.tc : Thread Cert.MixerIdeal.nD Cert.MixerIdeal.τ).loc Cert.MixerIdeal.main_arg20) = m ((c.tc : Thread Cert.MixerIdeal.nD Cert.MixerIdeal.τ).loc Cert.MixerIdeal.main_arg20)
      ∧ r.2.mem ((c.tc : Thread Cert.MixerIdeal.nD Cert.MixerIdeal.τ).loc Cert.MixerIdeal.main_arg21) = m ((c.tc : Thread Cert.MixerIdeal.nD Cert.MixerIdeal.τ).loc Cert.MixerIdeal.main_arg21))
      ∧ r.2.sem = fun _ => 0)

def quiescent_MixerIdeal_pre_lb_below_one [hMixerIdeal : Cert.MixerIdeal.Facts] [hPre_lb_below_one : Cert.Pre_lb_below_one.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_lb_below_one m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
      ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16)
      ∧ r.2.mem ((c.tc : Thread Cert.MixerIdeal.nD Cert.MixerIdeal.τ).loc Cert.MixerIdeal.main_arg17) = m ((c.tc : Thread Cert.MixerIdeal.nD Cert.MixerIdeal.τ).loc Cert.MixerIdeal.main_arg17)
      ∧ r.2.mem ((c.tc : Thread Cert.MixerIdeal.nD Cert.MixerIdeal.τ).loc Cert.MixerIdeal.main_arg18) = m ((c.tc : Thread Cert.MixerIdeal.nD Cert.MixerIdeal.τ).loc Cert.MixerIdeal.main_arg18)
      ∧ r.2.mem ((c.tc : Thread Cert.MixerIdeal.nD Cert.MixerIdeal.τ).loc Cert.MixerIdeal.main_arg19) = m ((c.tc : Thread Cert.MixerIdeal.nD Cert.MixerIdeal.τ).loc Cert.MixerIdeal.main_arg19)
      ∧ r.2.mem ((c.tc : Thread Cert.MixerIdeal.nD Cert.MixerIdeal.τ).loc Cert.MixerIdeal.main_arg20) = m ((c.tc : Thread Cert.MixerIdeal.nD Cert.MixerIdeal.τ).loc Cert.MixerIdeal.main_arg20)
      ∧ r.2.mem ((c.tc : Thread Cert.MixerIdeal.nD Cert.MixerIdeal.τ).loc Cert.MixerIdeal.main_arg21) = m ((c.tc : Thread Cert.MixerIdeal.nD Cert.MixerIdeal.τ).loc Cert.MixerIdeal.main_arg21))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13)
      ∧ r.2.mem ((c.tc : Thread Cert.MixerRefIdeal.nD Cert.MixerRefIdeal.τ).loc Cert.MixerRefIdeal.main_arg14) = m ((c.tc : Thread Cert.MixerRefIdeal.nD Cert.MixerRefIdeal.τ).loc Cert.MixerRefIdeal.main_arg14)
      ∧ r.2.mem ((c.tc : Thread Cert.MixerRefIdeal.nD Cert.MixerRefIdeal.τ).loc Cert.MixerRefIdeal.main_arg15) = m ((c.tc : Thread Cert.MixerRefIdeal.nD Cert.MixerRefIdeal.τ).loc Cert.MixerRefIdeal.main_arg15)
      ∧ r.2.mem ((c.tc : Thread Cert.MixerRefIdeal.nD Cert.MixerRefIdeal.τ).loc Cert.MixerRefIdeal.main_arg16) = m ((c.tc : Thread Cert.MixerRefIdeal.nD Cert.MixerRefIdeal.τ).loc Cert.MixerRefIdeal.main_arg16)
      ∧ r.2.mem ((c.tc : Thread Cert.MixerRefIdeal.nD Cert.MixerRefIdeal.τ).loc Cert.MixerRefIdeal.main_arg17) = m ((c.tc : Thread Cert.MixerRefIdeal.nD Cert.MixerRefIdeal.τ).loc Cert.MixerRefIdeal.main_arg17)
      ∧ r.2.mem ((c.tc : Thread Cert.MixerRefIdeal.nD Cert.MixerRefIdeal.τ).loc Cert.MixerRefIdeal.main_arg18) = m ((c.tc : Thread Cert.MixerRefIdeal.nD Cert.MixerRefIdeal.τ).loc Cert.MixerRefIdeal.main_arg18)
      ∧ r.2.mem ((c.tc : Thread Cert.MixerRefIdeal.nD Cert.MixerRefIdeal.τ).loc Cert.MixerRefIdeal.main_arg19) = m ((c.tc : Thread Cert.MixerRefIdeal.nD Cert.MixerRefIdeal.τ).loc Cert.MixerRefIdeal.main_arg19)
      ∧ r.2.mem ((c.tc : Thread Cert.MixerRefIdeal.nD Cert.MixerRefIdeal.τ).loc Cert.MixerRefIdeal.main_arg20) = m ((c.tc : Thread Cert.MixerRefIdeal.nD Cert.MixerRefIdeal.τ).loc Cert.MixerRefIdeal.main_arg20)
      ∧ r.2.mem ((c.tc : Thread Cert.MixerRefIdeal.nD Cert.MixerRefIdeal.τ).loc Cert.MixerRefIdeal.main_arg21) = m ((c.tc : Thread Cert.MixerRefIdeal.nD Cert.MixerRefIdeal.τ).loc Cert.MixerRefIdeal.main_arg21))
      ∧ r.2.sem = fun _ => 0)

def quiescent_MixerRefIdeal_pre_lb_below_one [hMixerRefIdeal : Cert.MixerRefIdeal.Facts] [hPre_lb_below_one : Cert.Pre_lb_below_one.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_lb_below_one m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13)
      ∧ r.2.mem ((c.tc : Thread Cert.MixerRefIdeal.nD Cert.MixerRefIdeal.τ).loc Cert.MixerRefIdeal.main_arg14) = m ((c.tc : Thread Cert.MixerRefIdeal.nD Cert.MixerRefIdeal.τ).loc Cert.MixerRefIdeal.main_arg14)
      ∧ r.2.mem ((c.tc : Thread Cert.MixerRefIdeal.nD Cert.MixerRefIdeal.τ).loc Cert.MixerRefIdeal.main_arg15) = m ((c.tc : Thread Cert.MixerRefIdeal.nD Cert.MixerRefIdeal.τ).loc Cert.MixerRefIdeal.main_arg15)
      ∧ r.2.mem ((c.tc : Thread Cert.MixerRefIdeal.nD Cert.MixerRefIdeal.τ).loc Cert.MixerRefIdeal.main_arg16) = m ((c.tc : Thread Cert.MixerRefIdeal.nD Cert.MixerRefIdeal.τ).loc Cert.MixerRefIdeal.main_arg16)
      ∧ r.2.mem ((c.tc : Thread Cert.MixerRefIdeal.nD Cert.MixerRefIdeal.τ).loc Cert.MixerRefIdeal.main_arg17) = m ((c.tc : Thread Cert.MixerRefIdeal.nD Cert.MixerRefIdeal.τ).loc Cert.MixerRefIdeal.main_arg17)
      ∧ r.2.mem ((c.tc : Thread Cert.MixerRefIdeal.nD Cert.MixerRefIdeal.τ).loc Cert.MixerRefIdeal.main_arg18) = m ((c.tc : Thread Cert.MixerRefIdeal.nD Cert.MixerRefIdeal.τ).loc Cert.MixerRefIdeal.main_arg18)
      ∧ r.2.mem ((c.tc : Thread Cert.MixerRefIdeal.nD Cert.MixerRefIdeal.τ).loc Cert.MixerRefIdeal.main_arg19) = m ((c.tc : Thread Cert.MixerRefIdeal.nD Cert.MixerRefIdeal.τ).loc Cert.MixerRefIdeal.main_arg19)
      ∧ r.2.mem ((c.tc : Thread Cert.MixerRefIdeal.nD Cert.MixerRefIdeal.τ).loc Cert.MixerRefIdeal.main_arg20) = m ((c.tc : Thread Cert.MixerRefIdeal.nD Cert.MixerRefIdeal.τ).loc Cert.MixerRefIdeal.main_arg20)
      ∧ r.2.mem ((c.tc : Thread Cert.MixerRefIdeal.nD Cert.MixerRefIdeal.τ).loc Cert.MixerRefIdeal.main_arg21) = m ((c.tc : Thread Cert.MixerRefIdeal.nD Cert.MixerRefIdeal.τ).loc Cert.MixerRefIdeal.main_arg21))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnFinal_FfnFinalIdeal : Prop :=
  True

def algebraic_FfnFinalIdeal_FfnFinalRefIdeal [hFfnFinalIdeal : Cert.FfnFinalIdeal.Facts] [hFfnFinalRefIdeal : Cert.FfnFinalRefIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.FfnFinalRefIdeal.nD Cert.FfnFinalRefIdeal.τ Cert.FfnFinalRefIdeal.sig) → Buf (Elt Ideal) ℓ) (g' : Dev Cert.FfnFinalRefIdeal.nD → PrngReg), Pre_FfnFinalIdeal m →
    (∀ c : Dev Cert.FfnFinalIdeal.nD,
      m' ((c.tc : Thread Cert.FfnFinalRefIdeal.nD Cert.FfnFinalRefIdeal.τ).loc Cert.FfnFinalRefIdeal.main_arg0) = m ((c.tc : Thread Cert.FfnFinalIdeal.nD Cert.FfnFinalIdeal.τ).loc Cert.FfnFinalIdeal.main_arg0)
      ∧ m' ((c.tc : Thread Cert.FfnFinalRefIdeal.nD Cert.FfnFinalRefIdeal.τ).loc Cert.FfnFinalRefIdeal.main_arg1) = m ((c.tc : Thread Cert.FfnFinalIdeal.nD Cert.FfnFinalIdeal.τ).loc Cert.FfnFinalIdeal.main_arg1)
      ∧ m' ((c.tc : Thread Cert.FfnFinalRefIdeal.nD Cert.FfnFinalRefIdeal.τ).loc Cert.FfnFinalRefIdeal.main_arg2) = m ((c.tc : Thread Cert.FfnFinalIdeal.nD Cert.FfnFinalIdeal.τ).loc Cert.FfnFinalIdeal.main_arg2)
      ∧ m' ((c.tc : Thread Cert.FfnFinalRefIdeal.nD Cert.FfnFinalRefIdeal.τ).loc Cert.FfnFinalRefIdeal.main_arg3) = m ((c.tc : Thread Cert.FfnFinalIdeal.nD Cert.FfnFinalIdeal.τ).loc Cert.FfnFinalIdeal.main_arg3)
      ∧ m' ((c.tc : Thread Cert.FfnFinalRefIdeal.nD Cert.FfnFinalRefIdeal.τ).loc Cert.FfnFinalRefIdeal.main_arg4) = m ((c.tc : Thread Cert.FfnFinalIdeal.nD Cert.FfnFinalIdeal.τ).loc Cert.FfnFinalIdeal.main_arg4)
      ∧ m' ((c.tc : Thread Cert.FfnFinalRefIdeal.nD Cert.FfnFinalRefIdeal.τ).loc Cert.FfnFinalRefIdeal.main_arg5) = m ((c.tc : Thread Cert.FfnFinalIdeal.nD Cert.FfnFinalIdeal.τ).loc Cert.FfnFinalIdeal.main_arg5)) →
    ∃ (v0 : (c : Dev Cert.FfnFinalIdeal.nD) → Buf (Elt Ideal) ((c.tc : Thread Cert.FfnFinalIdeal.nD Cert.FfnFinalIdeal.τ).loc Cert.FfnFinalIdeal.main_v5)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v5) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
          ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ θ_run (Cert.FfnFinalRefIdeal.defs (F := Ideal)) (onTc (τ := Cert.FfnFinalRefIdeal.τ) (Cert.FfnFinalRefIdeal.main (F := Ideal))) ⟨m', fun _ => 0, g'⟩ (fun r => ∀ c : Dev Cert.FfnFinalRefIdeal.nD,
          r.2.mem ((c.tc : Thread Cert.FfnFinalRefIdeal.nD Cert.FfnFinalRefIdeal.τ).loc Cert.FfnFinalRefIdeal.main_v33) = v0 c
          ∧ r.2.mem ((c.tc : Thread Cert.FfnFinalRefIdeal.nD Cert.FfnFinalRefIdeal.τ).loc Cert.FfnFinalRefIdeal.main_arg0) = m' ((c.tc : Thread Cert.FfnFinalRefIdeal.nD Cert.FfnFinalRefIdeal.τ).loc Cert.FfnFinalRefIdeal.main_arg0)
          ∧ r.2.mem ((c.tc : Thread Cert.FfnFinalRefIdeal.nD Cert.FfnFinalRefIdeal.τ).loc Cert.FfnFinalRefIdeal.main_arg1) = m' ((c.tc : Thread Cert.FfnFinalRefIdeal.nD Cert.FfnFinalRefIdeal.τ).loc Cert.FfnFinalRefIdeal.main_arg1)
          ∧ r.2.mem ((c.tc : Thread Cert.FfnFinalRefIdeal.nD Cert.FfnFinalRefIdeal.τ).loc Cert.FfnFinalRefIdeal.main_arg2) = m' ((c.tc : Thread Cert.FfnFinalRefIdeal.nD Cert.FfnFinalRefIdeal.τ).loc Cert.FfnFinalRefIdeal.main_arg2)
          ∧ r.2.mem ((c.tc : Thread Cert.FfnFinalRefIdeal.nD Cert.FfnFinalRefIdeal.τ).loc Cert.FfnFinalRefIdeal.main_arg3) = m' ((c.tc : Thread Cert.FfnFinalRefIdeal.nD Cert.FfnFinalRefIdeal.τ).loc Cert.FfnFinalRefIdeal.main_arg3)
          ∧ r.2.mem ((c.tc : Thread Cert.FfnFinalRefIdeal.nD Cert.FfnFinalRefIdeal.τ).loc Cert.FfnFinalRefIdeal.main_arg4) = m' ((c.tc : Thread Cert.FfnFinalRefIdeal.nD Cert.FfnFinalRefIdeal.τ).loc Cert.FfnFinalRefIdeal.main_arg4)
          ∧ r.2.mem ((c.tc : Thread Cert.FfnFinalRefIdeal.nD Cert.FfnFinalRefIdeal.τ).loc Cert.FfnFinalRefIdeal.main_arg5) = m' ((c.tc : Thread Cert.FfnFinalRefIdeal.nD Cert.FfnFinalRefIdeal.τ).loc Cert.FfnFinalRefIdeal.main_arg5))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v4_0)) (v1 : (c : Dev Cert.MemKvIdeal.nD) → Buf (Elt Ideal) ((c.tc : Thread Cert.MemKvIdeal.nD Cert.MemKvIdeal.τ).loc Cert.MemKvIdeal.main_v4_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v4_0) = v0 c
          ∧ r.2.mem ((c.tc : Thread Cert.MemKvIdeal.nD Cert.MemKvIdeal.τ).loc Cert.MemKvIdeal.main_v4_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v14) = v0 c
          ∧ r.2.mem ((c.tc : Thread Cert.MemKvRefIdeal.nD Cert.MemKvRefIdeal.τ).loc Cert.MemKvRefIdeal.main_v16) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_OutAttn_OutAttnIdeal : Prop :=
  True

def algebraic_OutAttnIdeal_OutAttnRefIdeal_pre_scores_finite [hOutAttnIdeal : Cert.OutAttnIdeal.Facts] [hOutAttnRefIdeal : Cert.OutAttnRefIdeal.Facts] [hPre_scores_finite : Cert.Pre_scores_finite.Facts] : Prop :=
  ∀ (m : (ℓ : Loc Cert.OutAttnIdeal.nD Cert.OutAttnIdeal.τ Cert.OutAttnIdeal.sig) → Buf (Elt Ideal) ℓ) (g : Dev Cert.OutAttnIdeal.nD → PrngReg)
    (m' : (ℓ : Loc Cert.OutAttnRefIdeal.nD Cert.OutAttnRefIdeal.τ Cert.OutAttnRefIdeal.sig) → Buf (Elt Ideal) ℓ) (g' : Dev Cert.OutAttnRefIdeal.nD → PrngReg), Pre_OutAttnIdeal_scores_finite m →
    (∀ c : Dev Cert.OutAttnIdeal.nD,
      m' ((c.tc : Thread Cert.OutAttnRefIdeal.nD Cert.OutAttnRefIdeal.τ).loc Cert.OutAttnRefIdeal.main_arg0) = m ((c.tc : Thread Cert.OutAttnIdeal.nD Cert.OutAttnIdeal.τ).loc Cert.OutAttnIdeal.main_arg0)
      ∧ m' ((c.tc : Thread Cert.OutAttnRefIdeal.nD Cert.OutAttnRefIdeal.τ).loc Cert.OutAttnRefIdeal.main_arg1) = m ((c.tc : Thread Cert.OutAttnIdeal.nD Cert.OutAttnIdeal.τ).loc Cert.OutAttnIdeal.main_arg1)
      ∧ m' ((c.tc : Thread Cert.OutAttnRefIdeal.nD Cert.OutAttnRefIdeal.τ).loc Cert.OutAttnRefIdeal.main_arg2) = m ((c.tc : Thread Cert.OutAttnIdeal.nD Cert.OutAttnIdeal.τ).loc Cert.OutAttnIdeal.main_arg2)
      ∧ m' ((c.tc : Thread Cert.OutAttnRefIdeal.nD Cert.OutAttnRefIdeal.τ).loc Cert.OutAttnRefIdeal.main_arg3) = m ((c.tc : Thread Cert.OutAttnIdeal.nD Cert.OutAttnIdeal.τ).loc Cert.OutAttnIdeal.main_arg3)
      ∧ m' ((c.tc : Thread Cert.OutAttnRefIdeal.nD Cert.OutAttnRefIdeal.τ).loc Cert.OutAttnRefIdeal.main_arg4) = m ((c.tc : Thread Cert.OutAttnIdeal.nD Cert.OutAttnIdeal.τ).loc Cert.OutAttnIdeal.main_arg4)
      ∧ m' ((c.tc : Thread Cert.OutAttnRefIdeal.nD Cert.OutAttnRefIdeal.τ).loc Cert.OutAttnRefIdeal.main_arg5) = m ((c.tc : Thread Cert.OutAttnIdeal.nD Cert.OutAttnIdeal.τ).loc Cert.OutAttnIdeal.main_arg5)
      ∧ m' ((c.tc : Thread Cert.OutAttnRefIdeal.nD Cert.OutAttnRefIdeal.τ).loc Cert.OutAttnRefIdeal.main_arg6) = m ((c.tc : Thread Cert.OutAttnIdeal.nD Cert.OutAttnIdeal.τ).loc Cert.OutAttnIdeal.main_arg6)
      ∧ m' ((c.tc : Thread Cert.OutAttnRefIdeal.nD Cert.OutAttnRefIdeal.τ).loc Cert.OutAttnRefIdeal.main_arg7) = m ((c.tc : Thread Cert.OutAttnIdeal.nD Cert.OutAttnIdeal.τ).loc Cert.OutAttnIdeal.main_arg7)
      ∧ m' ((c.tc : Thread Cert.OutAttnRefIdeal.nD Cert.OutAttnRefIdeal.τ).loc Cert.OutAttnRefIdeal.main_arg8) = m ((c.tc : Thread Cert.OutAttnIdeal.nD Cert.OutAttnIdeal.τ).loc Cert.OutAttnIdeal.main_arg8)
      ∧ m' ((c.tc : Thread Cert.OutAttnRefIdeal.nD Cert.OutAttnRefIdeal.τ).loc Cert.OutAttnRefIdeal.main_arg9) = m ((c.tc : Thread Cert.OutAttnIdeal.nD Cert.OutAttnIdeal.τ).loc Cert.OutAttnIdeal.main_arg9)) →
    ∃ (v0 : (c : Dev Cert.OutAttnIdeal.nD) → Buf (Elt Ideal) ((c.tc : Thread Cert.OutAttnIdeal.nD Cert.OutAttnIdeal.τ).loc Cert.OutAttnIdeal.main_v9)),
      θ_run (Cert.OutAttnIdeal.defs (F := Ideal)) (onTc (τ := Cert.OutAttnIdeal.τ) (Cert.OutAttnIdeal.main (F := Ideal))) ⟨m, fun _ => 0, g⟩ (fun r => ∀ c : Dev Cert.OutAttnIdeal.nD,
          r.2.mem ((c.tc : Thread Cert.OutAttnIdeal.nD Cert.OutAttnIdeal.τ).loc Cert.OutAttnIdeal.main_v9) = v0 c
          ∧ r.2.mem ((c.tc : Thread Cert.OutAttnIdeal.nD Cert.OutAttnIdeal.τ).loc Cert.OutAttnIdeal.main_arg0) = m ((c.tc : Thread Cert.OutAttnIdeal.nD Cert.OutAttnIdeal.τ).loc Cert.OutAttnIdeal.main_arg0)
          ∧ r.2.mem ((c.tc : Thread Cert.OutAttnIdeal.nD Cert.OutAttnIdeal.τ).loc Cert.OutAttnIdeal.main_arg1) = m ((c.tc : Thread Cert.OutAttnIdeal.nD Cert.OutAttnIdeal.τ).loc Cert.OutAttnIdeal.main_arg1)
          ∧ r.2.mem ((c.tc : Thread Cert.OutAttnIdeal.nD Cert.OutAttnIdeal.τ).loc Cert.OutAttnIdeal.main_arg2) = m ((c.tc : Thread Cert.OutAttnIdeal.nD Cert.OutAttnIdeal.τ).loc Cert.OutAttnIdeal.main_arg2)
          ∧ r.2.mem ((c.tc : Thread Cert.OutAttnIdeal.nD Cert.OutAttnIdeal.τ).loc Cert.OutAttnIdeal.main_arg3) = m ((c.tc : Thread Cert.OutAttnIdeal.nD Cert.OutAttnIdeal.τ).loc Cert.OutAttnIdeal.main_arg3)
          ∧ r.2.mem ((c.tc : Thread Cert.OutAttnIdeal.nD Cert.OutAttnIdeal.τ).loc Cert.OutAttnIdeal.main_arg4) = m ((c.tc : Thread Cert.OutAttnIdeal.nD Cert.OutAttnIdeal.τ).loc Cert.OutAttnIdeal.main_arg4)
          ∧ r.2.mem ((c.tc : Thread Cert.OutAttnIdeal.nD Cert.OutAttnIdeal.τ).loc Cert.OutAttnIdeal.main_arg5) = m ((c.tc : Thread Cert.OutAttnIdeal.nD Cert.OutAttnIdeal.τ).loc Cert.OutAttnIdeal.main_arg5)
          ∧ r.2.mem ((c.tc : Thread Cert.OutAttnIdeal.nD Cert.OutAttnIdeal.τ).loc Cert.OutAttnIdeal.main_arg6) = m ((c.tc : Thread Cert.OutAttnIdeal.nD Cert.OutAttnIdeal.τ).loc Cert.OutAttnIdeal.main_arg6)
          ∧ r.2.mem ((c.tc : Thread Cert.OutAttnIdeal.nD Cert.OutAttnIdeal.τ).loc Cert.OutAttnIdeal.main_arg7) = m ((c.tc : Thread Cert.OutAttnIdeal.nD Cert.OutAttnIdeal.τ).loc Cert.OutAttnIdeal.main_arg7)
          ∧ r.2.mem ((c.tc : Thread Cert.OutAttnIdeal.nD Cert.OutAttnIdeal.τ).loc Cert.OutAttnIdeal.main_arg8) = m ((c.tc : Thread Cert.OutAttnIdeal.nD Cert.OutAttnIdeal.τ).loc Cert.OutAttnIdeal.main_arg8)
          ∧ r.2.mem ((c.tc : Thread Cert.OutAttnIdeal.nD Cert.OutAttnIdeal.τ).loc Cert.OutAttnIdeal.main_arg9) = m ((c.tc : Thread Cert.OutAttnIdeal.nD Cert.OutAttnIdeal.τ).loc Cert.OutAttnIdeal.main_arg9))
      ∧ θ_run (Cert.OutAttnRefIdeal.defs (F := Ideal)) (onTc (τ := Cert.OutAttnRefIdeal.τ) (Cert.OutAttnRefIdeal.main (F := Ideal))) ⟨m', fun _ => 0, g'⟩ (fun r => ∀ c : Dev Cert.OutAttnRefIdeal.nD,
          r.2.mem ((c.tc : Thread Cert.OutAttnRefIdeal.nD Cert.OutAttnRefIdeal.τ).loc Cert.OutAttnRefIdeal.main_v40) = v0 c
          ∧ r.2.mem ((c.tc : Thread Cert.OutAttnRefIdeal.nD Cert.OutAttnRefIdeal.τ).loc Cert.OutAttnRefIdeal.main_arg0) = m' ((c.tc : Thread Cert.OutAttnRefIdeal.nD Cert.OutAttnRefIdeal.τ).loc Cert.OutAttnRefIdeal.main_arg0)
          ∧ r.2.mem ((c.tc : Thread Cert.OutAttnRefIdeal.nD Cert.OutAttnRefIdeal.τ).loc Cert.OutAttnRefIdeal.main_arg1) = m' ((c.tc : Thread Cert.OutAttnRefIdeal.nD Cert.OutAttnRefIdeal.τ).loc Cert.OutAttnRefIdeal.main_arg1)
          ∧ r.2.mem ((c.tc : Thread Cert.OutAttnRefIdeal.nD Cert.OutAttnRefIdeal.τ).loc Cert.OutAttnRefIdeal.main_arg2) = m' ((c.tc : Thread Cert.OutAttnRefIdeal.nD Cert.OutAttnRefIdeal.τ).loc Cert.OutAttnRefIdeal.main_arg2)
          ∧ r.2.mem ((c.tc : Thread Cert.OutAttnRefIdeal.nD Cert.OutAttnRefIdeal.τ).loc Cert.OutAttnRefIdeal.main_arg3) = m' ((c.tc : Thread Cert.OutAttnRefIdeal.nD Cert.OutAttnRefIdeal.τ).loc Cert.OutAttnRefIdeal.main_arg3)
          ∧ r.2.mem ((c.tc : Thread Cert.OutAttnRefIdeal.nD Cert.OutAttnRefIdeal.τ).loc Cert.OutAttnRefIdeal.main_arg4) = m' ((c.tc : Thread Cert.OutAttnRefIdeal.nD Cert.OutAttnRefIdeal.τ).loc Cert.OutAttnRefIdeal.main_arg4)
          ∧ r.2.mem ((c.tc : Thread Cert.OutAttnRefIdeal.nD Cert.OutAttnRefIdeal.τ).loc Cert.OutAttnRefIdeal.main_arg5) = m' ((c.tc : Thread Cert.OutAttnRefIdeal.nD Cert.OutAttnRefIdeal.τ).loc Cert.OutAttnRefIdeal.main_arg5)
          ∧ r.2.mem ((c.tc : Thread Cert.OutAttnRefIdeal.nD Cert.OutAttnRefIdeal.τ).loc Cert.OutAttnRefIdeal.main_arg6) = m' ((c.tc : Thread Cert.OutAttnRefIdeal.nD Cert.OutAttnRefIdeal.τ).loc Cert.OutAttnRefIdeal.main_arg6)
          ∧ r.2.mem ((c.tc : Thread Cert.OutAttnRefIdeal.nD Cert.OutAttnRefIdeal.τ).loc Cert.OutAttnRefIdeal.main_arg7) = m' ((c.tc : Thread Cert.OutAttnRefIdeal.nD Cert.OutAttnRefIdeal.τ).loc Cert.OutAttnRefIdeal.main_arg7)
          ∧ r.2.mem ((c.tc : Thread Cert.OutAttnRefIdeal.nD Cert.OutAttnRefIdeal.τ).loc Cert.OutAttnRefIdeal.main_arg8) = m' ((c.tc : Thread Cert.OutAttnRefIdeal.nD Cert.OutAttnRefIdeal.τ).loc Cert.OutAttnRefIdeal.main_arg8)
          ∧ r.2.mem ((c.tc : Thread Cert.OutAttnRefIdeal.nD Cert.OutAttnRefIdeal.τ).loc Cert.OutAttnRefIdeal.main_arg9) = m' ((c.tc : Thread Cert.OutAttnRefIdeal.nD Cert.OutAttnRefIdeal.τ).loc Cert.OutAttnRefIdeal.main_arg9))

def preserves_Mixer_MixerIdeal : Prop :=
  True

def algebraic_MixerIdeal_MixerRefIdeal_pre_lb_below_one [hMixerIdeal : Cert.MixerIdeal.Facts] [hMixerRefIdeal : Cert.MixerRefIdeal.Facts] [hPre_lb_below_one : Cert.Pre_lb_below_one.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_lb_below_one m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)
      ∧ m' ((c.tc : Thread Cert.MixerRefIdeal.nD Cert.MixerRefIdeal.τ).loc Cert.MixerRefIdeal.main_arg10) = m ((c.tc : Thread Cert.MixerIdeal.nD Cert.MixerIdeal.τ).loc Cert.MixerIdeal.main_arg10)
      ∧ m' ((c.tc : Thread Cert.MixerRefIdeal.nD Cert.MixerRefIdeal.τ).loc Cert.MixerRefIdeal.main_arg11) = m ((c.tc : Thread Cert.MixerIdeal.nD Cert.MixerIdeal.τ).loc Cert.MixerIdeal.main_arg11)
      ∧ m' ((c.tc : Thread Cert.MixerRefIdeal.nD Cert.MixerRefIdeal.τ).loc Cert.MixerRefIdeal.main_arg12) = m ((c.tc : Thread Cert.MixerIdeal.nD Cert.MixerIdeal.τ).loc Cert.MixerIdeal.main_arg12)
      ∧ m' ((c.tc : Thread Cert.MixerRefIdeal.nD Cert.MixerRefIdeal.τ).loc Cert.MixerRefIdeal.main_arg13) = m ((c.tc : Thread Cert.MixerIdeal.nD Cert.MixerIdeal.τ).loc Cert.MixerIdeal.main_arg13)
      ∧ m' ((c.tc : Thread Cert.MixerRefIdeal.nD Cert.MixerRefIdeal.τ).loc Cert.MixerRefIdeal.main_arg14) = m ((c.tc : Thread Cert.MixerIdeal.nD Cert.MixerIdeal.τ).loc Cert.MixerIdeal.main_arg14)
      ∧ m' ((c.tc : Thread Cert.MixerRefIdeal.nD Cert.MixerRefIdeal.τ).loc Cert.MixerRefIdeal.main_arg15) = m ((c.tc : Thread Cert.MixerIdeal.nD Cert.MixerIdeal.τ).loc Cert.MixerIdeal.main_arg15)
      ∧ m' ((c.tc : Thread Cert.MixerRefIdeal.nD Cert.MixerRefIdeal.τ).loc Cert.MixerRefIdeal.main_arg16) = m ((c.tc : Thread Cert.MixerIdeal.nD Cert.MixerIdeal.τ).loc Cert.MixerIdeal.main_arg16)
      ∧ m' ((c.tc : Thread Cert.MixerRefIdeal.nD Cert.MixerRefIdeal.τ).loc Cert.MixerRefIdeal.main_arg17) = m ((c.tc : Thread Cert.MixerIdeal.nD Cert.MixerIdeal.τ).loc Cert.MixerIdeal.main_arg17)
      ∧ m' ((c.tc : Thread Cert.MixerRefIdeal.nD Cert.MixerRefIdeal.τ).loc Cert.MixerRefIdeal.main_arg18) = m ((c.tc : Thread Cert.MixerIdeal.nD Cert.MixerIdeal.τ).loc Cert.MixerIdeal.main_arg18)
      ∧ m' ((c.tc : Thread Cert.MixerRefIdeal.nD Cert.MixerRefIdeal.τ).loc Cert.MixerRefIdeal.main_arg19) = m ((c.tc : Thread Cert.MixerIdeal.nD Cert.MixerIdeal.τ).loc Cert.MixerIdeal.main_arg19)
      ∧ m' ((c.tc : Thread Cert.MixerRefIdeal.nD Cert.MixerRefIdeal.τ).loc Cert.MixerRefIdeal.main_arg20) = m ((c.tc : Thread Cert.MixerIdeal.nD Cert.MixerIdeal.τ).loc Cert.MixerIdeal.main_arg20)
      ∧ m' ((c.tc : Thread Cert.MixerRefIdeal.nD Cert.MixerRefIdeal.τ).loc Cert.MixerRefIdeal.main_arg21) = m ((c.tc : Thread Cert.MixerIdeal.nD Cert.MixerIdeal.τ).loc Cert.MixerIdeal.main_arg21)) →
    ∃ (v0 : (c : Dev Cert.MixerIdeal.nD) → Buf (Elt Ideal) ((c.tc : Thread Cert.MixerIdeal.nD Cert.MixerIdeal.τ).loc Cert.MixerIdeal.main_v110_1)) (v1 : (c : Dev Cert.MixerIdeal.nD) → Buf (Elt Ideal) ((c.tc : Thread Cert.MixerIdeal.nD Cert.MixerIdeal.τ).loc Cert.MixerIdeal.main_v110_4)) (v2 : (c : Dev Cert.MixerIdeal.nD) → Buf (Elt Ideal) ((c.tc : Thread Cert.MixerIdeal.nD Cert.MixerIdeal.τ).loc Cert.MixerIdeal.main_v110_6)) (v3 : (c : Dev Cert.MixerIdeal.nD) → Buf (Elt Ideal) ((c.tc : Thread Cert.MixerIdeal.nD Cert.MixerIdeal.τ).loc Cert.MixerIdeal.main_v110_3)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v110_1) = v0 c
          ∧ r.2.mem ((c.tc : Thread Cert.MixerIdeal.nD Cert.MixerIdeal.τ).loc Cert.MixerIdeal.main_v110_4) = v1 c
          ∧ r.2.mem ((c.tc : Thread Cert.MixerIdeal.nD Cert.MixerIdeal.τ).loc Cert.MixerIdeal.main_v110_6) = v2 c
          ∧ r.2.mem ((c.tc : Thread Cert.MixerIdeal.nD Cert.MixerIdeal.τ).loc Cert.MixerIdeal.main_v110_3) = v3 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
          ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
          ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
          ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
          ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
          ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16)
          ∧ r.2.mem ((c.tc : Thread Cert.MixerIdeal.nD Cert.MixerIdeal.τ).loc Cert.MixerIdeal.main_arg17) = m ((c.tc : Thread Cert.MixerIdeal.nD Cert.MixerIdeal.τ).loc Cert.MixerIdeal.main_arg17)
          ∧ r.2.mem ((c.tc : Thread Cert.MixerIdeal.nD Cert.MixerIdeal.τ).loc Cert.MixerIdeal.main_arg18) = m ((c.tc : Thread Cert.MixerIdeal.nD Cert.MixerIdeal.τ).loc Cert.MixerIdeal.main_arg18)
          ∧ r.2.mem ((c.tc : Thread Cert.MixerIdeal.nD Cert.MixerIdeal.τ).loc Cert.MixerIdeal.main_arg19) = m ((c.tc : Thread Cert.MixerIdeal.nD Cert.MixerIdeal.τ).loc Cert.MixerIdeal.main_arg19)
          ∧ r.2.mem ((c.tc : Thread Cert.MixerIdeal.nD Cert.MixerIdeal.τ).loc Cert.MixerIdeal.main_arg20) = m ((c.tc : Thread Cert.MixerIdeal.nD Cert.MixerIdeal.τ).loc Cert.MixerIdeal.main_arg20)
          ∧ r.2.mem ((c.tc : Thread Cert.MixerIdeal.nD Cert.MixerIdeal.τ).loc Cert.MixerIdeal.main_arg21) = m ((c.tc : Thread Cert.MixerIdeal.nD Cert.MixerIdeal.τ).loc Cert.MixerIdeal.main_arg21))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v160) = v0 c
          ∧ r.2.mem ((c.tc : Thread Cert.MixerRefIdeal.nD Cert.MixerRefIdeal.τ).loc Cert.MixerRefIdeal.main_v170) = v1 c
          ∧ r.2.mem ((c.tc : Thread Cert.MixerRefIdeal.nD Cert.MixerRefIdeal.τ).loc Cert.MixerRefIdeal.main_v171) = v2 c
          ∧ r.2.mem ((c.tc : Thread Cert.MixerRefIdeal.nD Cert.MixerRefIdeal.τ).loc Cert.MixerRefIdeal.main_v233) = v3 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9)
          ∧ r.2.mem ((c.tc : Thread Cert.MixerRefIdeal.nD Cert.MixerRefIdeal.τ).loc Cert.MixerRefIdeal.main_arg10) = m' ((c.tc : Thread Cert.MixerRefIdeal.nD Cert.MixerRefIdeal.τ).loc Cert.MixerRefIdeal.main_arg10)
          ∧ r.2.mem ((c.tc : Thread Cert.MixerRefIdeal.nD Cert.MixerRefIdeal.τ).loc Cert.MixerRefIdeal.main_arg11) = m' ((c.tc : Thread Cert.MixerRefIdeal.nD Cert.MixerRefIdeal.τ).loc Cert.MixerRefIdeal.main_arg11)
          ∧ r.2.mem ((c.tc : Thread Cert.MixerRefIdeal.nD Cert.MixerRefIdeal.τ).loc Cert.MixerRefIdeal.main_arg12) = m' ((c.tc : Thread Cert.MixerRefIdeal.nD Cert.MixerRefIdeal.τ).loc Cert.MixerRefIdeal.main_arg12)
          ∧ r.2.mem ((c.tc : Thread Cert.MixerRefIdeal.nD Cert.MixerRefIdeal.τ).loc Cert.MixerRefIdeal.main_arg13) = m' ((c.tc : Thread Cert.MixerRefIdeal.nD Cert.MixerRefIdeal.τ).loc Cert.MixerRefIdeal.main_arg13)
          ∧ r.2.mem ((c.tc : Thread Cert.MixerRefIdeal.nD Cert.MixerRefIdeal.τ).loc Cert.MixerRefIdeal.main_arg14) = m' ((c.tc : Thread Cert.MixerRefIdeal.nD Cert.MixerRefIdeal.τ).loc Cert.MixerRefIdeal.main_arg14)
          ∧ r.2.mem ((c.tc : Thread Cert.MixerRefIdeal.nD Cert.MixerRefIdeal.τ).loc Cert.MixerRefIdeal.main_arg15) = m' ((c.tc : Thread Cert.MixerRefIdeal.nD Cert.MixerRefIdeal.τ).loc Cert.MixerRefIdeal.main_arg15)
          ∧ r.2.mem ((c.tc : Thread Cert.MixerRefIdeal.nD Cert.MixerRefIdeal.τ).loc Cert.MixerRefIdeal.main_arg16) = m' ((c.tc : Thread Cert.MixerRefIdeal.nD Cert.MixerRefIdeal.τ).loc Cert.MixerRefIdeal.main_arg16)
          ∧ r.2.mem ((c.tc : Thread Cert.MixerRefIdeal.nD Cert.MixerRefIdeal.τ).loc Cert.MixerRefIdeal.main_arg17) = m' ((c.tc : Thread Cert.MixerRefIdeal.nD Cert.MixerRefIdeal.τ).loc Cert.MixerRefIdeal.main_arg17)
          ∧ r.2.mem ((c.tc : Thread Cert.MixerRefIdeal.nD Cert.MixerRefIdeal.τ).loc Cert.MixerRefIdeal.main_arg18) = m' ((c.tc : Thread Cert.MixerRefIdeal.nD Cert.MixerRefIdeal.τ).loc Cert.MixerRefIdeal.main_arg18)
          ∧ r.2.mem ((c.tc : Thread Cert.MixerRefIdeal.nD Cert.MixerRefIdeal.τ).loc Cert.MixerRefIdeal.main_arg19) = m' ((c.tc : Thread Cert.MixerRefIdeal.nD Cert.MixerRefIdeal.τ).loc Cert.MixerRefIdeal.main_arg19)
          ∧ r.2.mem ((c.tc : Thread Cert.MixerRefIdeal.nD Cert.MixerRefIdeal.τ).loc Cert.MixerRefIdeal.main_arg20) = m' ((c.tc : Thread Cert.MixerRefIdeal.nD Cert.MixerRefIdeal.τ).loc Cert.MixerRefIdeal.main_arg20)
          ∧ r.2.mem ((c.tc : Thread Cert.MixerRefIdeal.nD Cert.MixerRefIdeal.τ).loc Cert.MixerRefIdeal.main_arg21) = m' ((c.tc : Thread Cert.MixerRefIdeal.nD Cert.MixerRefIdeal.τ).loc Cert.MixerRefIdeal.main_arg21))

def Claim : Prop :=
  ∃ (hFfn : Cert.Ffn.Facts) (hFfnIdeal : Cert.FfnIdeal.Facts) (hFfnRefIdeal : Cert.FfnRefIdeal.Facts) (hFfnFinal : Cert.FfnFinal.Facts) (hFfnFinalIdeal : Cert.FfnFinalIdeal.Facts) (hFfnFinalRefIdeal : Cert.FfnFinalRefIdeal.Facts) (hMemKv : Cert.MemKv.Facts) (hMemKvIdeal : Cert.MemKvIdeal.Facts) (hMemKvRefIdeal : Cert.MemKvRefIdeal.Facts) (hOutAttn : Cert.OutAttn.Facts) (hOutAttnIdeal : Cert.OutAttnIdeal.Facts) (hOutAttnRefIdeal : Cert.OutAttnRefIdeal.Facts) (hMixer : Cert.Mixer.Facts) (hMixerIdeal : Cert.MixerIdeal.Facts) (hMixerRefIdeal : Cert.MixerRefIdeal.Facts) (hPre_scores_finite : Cert.Pre_scores_finite.Facts) (hPre_lb_below_one : Cert.Pre_lb_below_one.Facts),
    quiescent_Ffn (hFfn := hFfn)
    ∧ quiescent_FfnIdeal (hFfnIdeal := hFfnIdeal)
    ∧ quiescent_FfnRefIdeal (hFfnRefIdeal := hFfnRefIdeal)
    ∧ quiescent_FfnFinal (hFfnFinal := hFfnFinal)
    ∧ quiescent_FfnFinalIdeal (hFfnFinalIdeal := hFfnFinalIdeal)
    ∧ quiescent_FfnFinalRefIdeal (hFfnFinalRefIdeal := hFfnFinalRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_OutAttn (hOutAttn := hOutAttn)
    ∧ quiescent_OutAttnIdeal (hOutAttnIdeal := hOutAttnIdeal)
    ∧ quiescent_OutAttnIdeal_pre_scores_finite (hOutAttnIdeal := hOutAttnIdeal) (hPre_scores_finite := hPre_scores_finite)
    ∧ quiescent_OutAttnRefIdeal (hOutAttnRefIdeal := hOutAttnRefIdeal)
    ∧ quiescent_OutAttnRefIdeal_pre_scores_finite (hOutAttnRefIdeal := hOutAttnRefIdeal) (hPre_scores_finite := hPre_scores_finite)
    ∧ quiescent_Mixer (hMixer := hMixer)
    ∧ quiescent_MixerIdeal (hMixerIdeal := hMixerIdeal)
    ∧ quiescent_MixerIdeal_pre_lb_below_one (hMixerIdeal := hMixerIdeal) (hPre_lb_below_one := hPre_lb_below_one)
    ∧ quiescent_MixerRefIdeal (hMixerRefIdeal := hMixerRefIdeal)
    ∧ quiescent_MixerRefIdeal_pre_lb_below_one (hMixerRefIdeal := hMixerRefIdeal) (hPre_lb_below_one := hPre_lb_below_one)
    ∧ preserves_Ffn_FfnIdeal
    ∧ algebraic_FfnIdeal_FfnRefIdeal (hFfnIdeal := hFfnIdeal) (hFfnRefIdeal := hFfnRefIdeal)
    ∧ preserves_FfnFinal_FfnFinalIdeal
    ∧ algebraic_FfnFinalIdeal_FfnFinalRefIdeal (hFfnFinalIdeal := hFfnFinalIdeal) (hFfnFinalRefIdeal := hFfnFinalRefIdeal)
    ∧ preserves_MemKv_MemKvIdeal
    ∧ algebraic_MemKvIdeal_MemKvRefIdeal (hMemKvIdeal := hMemKvIdeal) (hMemKvRefIdeal := hMemKvRefIdeal)
    ∧ preserves_OutAttn_OutAttnIdeal
    ∧ algebraic_OutAttnIdeal_OutAttnRefIdeal_pre_scores_finite (hOutAttnIdeal := hOutAttnIdeal) (hOutAttnRefIdeal := hOutAttnRefIdeal) (hPre_scores_finite := hPre_scores_finite)
    ∧ preserves_Mixer_MixerIdeal
    ∧ algebraic_MixerIdeal_MixerRefIdeal_pre_lb_below_one (hMixerIdeal := hMixerIdeal) (hMixerRefIdeal := hMixerRefIdeal) (hPre_lb_below_one := hPre_lb_below_one)
-- ==== Pre_lb_below_one.lean ====
abbrev S8x64x1024 : Shape := ⟨3, ![8, 64, 1024]⟩
abbrev S1024 : Shape := ⟨1, ![1024]⟩
abbrev S1024x3456 : Shape := ⟨2, ![1024, 3456]⟩
abbrev S256 : Shape := ⟨1, ![256]⟩
abbrev S64 : Shape := ⟨1, ![64]⟩
abbrev S6 : Shape := ⟨1, ![6]⟩
abbrev S8x4x64x64 : Shape := ⟨4, ![8, 4, 64, 64]⟩
abbrev S8x6x32x64 : Shape := ⟨4, ![8, 6, 32, 64]⟩
abbrev S8x6x64x64 : Shape := ⟨4, ![8, 6, 64, 64]⟩
abbrev S8x1x1280 : Shape := ⟨3, ![8, 1, 1280]⟩
abbrev S1280 : Shape := ⟨1, ![1280]⟩
abbrev S384 : Shape := ⟨1, ![384]⟩
abbrev S32x384 : Shape := ⟨2, ![32, 384]⟩
abbrev S64x384 : Shape := ⟨2, ![64, 384]⟩
abbrev S6x64 : Shape := ⟨2, ![6, 64]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S8x64x1024 .f32) (main_arg1 : FVec F S1024 .f32) (main_arg2 : FVec F S1024x3456 .f32) (main_arg3 : FVec F S256 .f32) (main_arg4 : FVec F S64 .f32) (main_arg5 : FVec F S6 .f32) (main_arg6 : IVec S64 32) (main_arg7 : FVec F S8x4x64x64 .f32) (main_arg8 : FVec F S8x6x32x64 .f32) (main_arg9 : FVec F S8x6x64x64 .f32) (main_arg10 : FVec F S8x1x1280 .f32) (main_arg11 : FVec F S1280 .f32) (main_arg12 : FVec F S384 .f32) (main_arg13 : FVec F S32x384 .f32) (main_arg14 : FVec F S384 .f32) (main_arg15 : FVec F S32x384 .f32) (main_arg16 : FVec F S64x384 .f32) (main_arg17 : FVec F S384 .f32) (main_arg18 : FVec F S384 .f32) (main_arg19 : FVec F S6x64 .f32) (main_arg20 : FVec F S384 .f32) (main_arg21 : FVec F S384 .f32) : IVec S256 1 :=
  let main_v0 : FVec F S256 .f32 := Host.absf main_arg3
  let main_cst : FVec F S_ .f32 := constant S_ .f32 0x7F800000#32
  let main_v1 : FVec F S256 .f32 := broadcastInDim S256 ![] bcast_S_S256 main_cst
  let main_v2 : IVec S256 1 := cmpf .olt main_v0 main_v1
  let main_cst_0 : FVec F S_ .f32 := constant S_ .f32 0x3F800000#32
  let main_v3 : FVec F S256 .f32 := broadcastInDim S256 ![] bcast_S_S256 main_cst_0
  let main_v4 : IVec S256 1 := cmpf .olt main_arg3 main_v3
  let main_v5 : IVec S256 1 := andi main_v2 main_v4
  main_v5
-- ==== Pre_scores_finite.lean ====
abbrev S8x8192x1024 : Shape := ⟨3, ![8, 8192, 1024]⟩
abbrev S8x8192x256 : Shape := ⟨3, ![8, 8192, 256]⟩
abbrev S8x8192x384 : Shape := ⟨3, ![8, 8192, 384]⟩
abbrev S1024x1024 : Shape := ⟨2, ![1024, 1024]⟩
abbrev S1024 : Shape := ⟨1, ![1024]⟩
abbrev S4x8x256x4x256 : Shape := ⟨5, ![4, 8, 256, 4, 256]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1x8x256x4x256 : Shape := ⟨5, ![1, 8, 256, 4, 256]⟩
abbrev S8x256x4x256 : Shape := ⟨4, ![8, 256, 4, 256]⟩
abbrev S8x8192x4x256 : Shape := ⟨4, ![8, 8192, 4, 256]⟩
abbrev S8x4x8192x256 : Shape := ⟨4, ![8, 4, 8192, 256]⟩

class Facts : Prop where
  concatenates_S8x8192x256_S8x8192x384_S8x8192x384_S8x8192x1024_d2 : Shape.Concatenates [S8x8192x256, S8x8192x384, S8x8192x384] S8x8192x1024 2
  reducesTo_S8x8192x1024_S8x8192_d2 : S8x8192x1024.ReducesTo [2] S8x8192
  h_S_ : 0 < S_.numel
  bcast_S8x8192_S8x8192x1_0_1 : S8x8192.BroadcastsInDim S8x8192x1 (![0, 1] : Fin 2 → Fin S8x8192x1.rank)
  bcast_S_S8x8192x1 : S_.BroadcastsInDim S8x8192x1 (![] : Fin 0 → Fin S8x8192x1.rank)
  bcast_S8x8192x1_S8x8192x1024_0_1_2 : S8x8192x1.BroadcastsInDim S8x8192x1024 (![0, 1, 2] : Fin 3 → Fin S8x8192x1024.rank)
  bcast_S1024_S1x1x1024_2 : S1024.BroadcastsInDim S1x1x1024 (![2] : Fin 1 → Fin S1x1x1024.rank)
  bcast_S1x1x1024_S8x8192x1024_0_1_2 : S1x1x1024.BroadcastsInDim S8x8192x1024 (![0, 1, 2] : Fin 3 → Fin S8x8192x1024.rank)
  slices_S4x8x256x4x256_S1x8x256x4x256_0_0_0_0_0 : S4x8x256x4x256.Slices ![0, 0, 0, 0, 0] S1x8x256x4x256
  shapeCasts_S1x8x256x4x256_S8x256x4x256 : S1x8x256x4x256.ShapeCasts S8x256x4x256
  shapeCasts_S8x8192x1024_S8x8192x4x256 : S8x8192x1024.ShapeCasts S8x8192x4x256
  bcast_S_S8x4x8192x256 : S_.BroadcastsInDim S8x4x8192x256 (![] : Fin 0 → Fin S8x4x8192x256.rank)
  dot_S8x8192x1024_S1024x1024_S8x8192x1024_2_0_01_1_n_n_wf : DotDims.WF S8x8192x1024 S1024x1024 S8x8192x1024 [2] [0] [0, 1] [1] [] []
  dot_S8x8192x4x256_S8x256x4x256_S8x4x8192x256_3_3_1_1_02_02_wf : DotDims.WF S8x8192x4x256 S8x256x4x256 S8x4x8192x256 [3] [3] [1] [1] [0, 2] [0, 2]

variable [Facts]

def dot_S8x8192x1024_S1024x1024_S8x8192x1024_2_0_01_1_n_n : DotDims S8x8192x1024 S1024x1024 S8x8192x1024 where
  lhsContracting := [2]
  rhsContracting := [0]
  lhsNonContracting := [0, 1]
  rhsNonContracting := [1]
  lhsBatch := []
  rhsBatch := []
  wf := dot_S8x8192x1024_S1024x1024_S8x8192x1024_2_0_01_1_n_n_wf
def dot_S8x8192x4x256_S8x256x4x256_S8x4x8192x256_3_3_1_1_02_02 : DotDims S8x8192x4x256 S8x256x4x256 S8x4x8192x256 where
  lhsContracting := [3]
  rhsContracting := [3]
  lhsNonContracting := [1]
  rhsNonContracting := [1]
  lhsBatch := [0, 2]
  rhsBatch := [0, 2]
  wf := dot_S8x8192x4x256_S8x256x4x256_S8x4x8192x256_3_3_1_1_02_02_wf
def fn_part1 {F : FTy → Type} [FloatOps F] (main_v20 : FVec F S8x4x8192x256 .f32) : IVec S8x4x8192x256 1 :=
  let main_cst_2 : FVec F S_ .f32 := constant S_ .f32 0x3D800000#32
  let main_v21 : FVec F S8x4x8192x256 .f32 := broadcastInDim S8x4x8192x256 ![] bcast_S_S8x4x8192x256 main_cst_2
  let main_v22 : FVec F S8x4x8192x256 .f32 := mulf main_v20 main_v21
  let main_v23 : FVec F S8x4x8192x256 .f32 := Host.absf main_v22
  let main_cst_3 : FVec F S_ .f32 := constant S_ .f32 0x7F800000#32
  let main_v24 : FVec F S8x4x8192x256 .f32 := broadcastInDim S8x4x8192x256 ![] bcast_S_S8x4x8192x256 main_cst_3
  let main_v25 : IVec S8x4x8192x256 1 := cmpf .olt main_v23 main_v24
  main_v25

def fn {F : FTy → Type} [FloatOps F] (main_arg0 : FVec F S8x8192x1024 .f32) (main_arg1 : FVec F S8x8192x256 .f32) (main_arg2 : FVec F S8x8192x384 .f32) (main_arg3 : FVec F S8x8192x384 .f32) (main_arg4 : FVec F S1024x1024 .f32) (main_arg5 : FVec F S1024 .f32) (main_arg6 : FVec F S1024x1024 .f32) (main_arg7 : FVec F S1024x1024 .f32) (main_arg8 : FVec F S4x8x256x4x256 .f32) (main_arg9 : FVec F S4x8x256x4x256 .f32) : IVec S8x4x8192x256 1 :=
  let main_v0 : FVec F S8x8192x1024 .f32 := concatenate S8x8192x1024 2 [⟨S8x8192x256, main_arg1⟩, ⟨S8x8192x384, main_arg2⟩, ⟨S8x8192x384, main_arg3⟩] concatenates_S8x8192x256_S8x8192x384_S8x8192x384_S8x8192x1024_d2
  let main_v1 : FVec F S8x8192x1024 .f32 := (fun l r => Host.dotGeneral dot_S8x8192x1024_S1024x1024_S8x8192x1024_2_0_01_1_n_n none l r) main_v0 main_arg4
  let main_v2 : FVec F S8x8192x1024 .f32 := addf main_arg0 main_v1
  let main_v3 : FVec F S8x8192x1024 .f32 := mulf main_v2 main_v2
  let main_cst : FVec F S_ .f32 := constant S_ .f32 0x00000000#32
  let main_v4 : FVec F S8x8192 .f32 := (fun x v => Host.reduceAdd x v reducesTo_S8x8192x1024_S8x8192_d2 h_S_) main_v3 main_cst
  let main_v5 : FVec F S8x8192x1 .f32 := broadcastInDim S8x8192x1 ![0, 1] bcast_S8x8192_S8x8192x1_0_1 main_v4
  let main_cst_0 : FVec F S_ .f32 := constant S_ .f32 0x44800000#32
  let main_v6 : FVec F S8x8192x1 .f32 := broadcastInDim S8x8192x1 ![] bcast_S_S8x8192x1 main_cst_0
  let main_v7 : FVec F S8x8192x1 .f32 := Host.divf main_v5 main_v6
  let main_cst_1 : FVec F S_ .f32 := constant S_ .f32 0x358637BD#32
  let main_v8 : FVec F S8x8192x1 .f32 := broadcastInDim S8x8192x1 ![] bcast_S_S8x8192x1 main_cst_1
  let main_v9 : FVec F S8x8192x1 .f32 := addf main_v7 main_v8
  let main_v10 : FVec F S8x8192x1 .f32 := Host.rsqrt main_v9
  let main_v11 : FVec F S8x8192x1024 .f32 := broadcastInDim S8x8192x1024 ![0, 1, 2] bcast_S8x8192x1_S8x8192x1024_0_1_2 main_v10
  let main_v12 : FVec F S8x8192x1024 .f32 := mulf main_v2 main_v11
  let main_v13 : FVec F S1x1x1024 .f32 := broadcastInDim S1x1x1024 ![2] bcast_S1024_S1x1x1024_2 main_arg5
  let main_v14 : FVec F S8x8192x1024 .f32 := broadcastInDim S8x8192x1024 ![0, 1, 2] bcast_S1x1x1024_S8x8192x1024_0_1_2 main_v13
  let main_v15 : FVec F S8x8192x1024 .f32 := mulf main_v12 main_v14
  let main_v16 : FVec F S1x8x256x4x256 .f32 := (extractStridedSlice S1x8x256x4x256 ![0, 0, 0, 0, 0] · slices_S4x8x256x4x256_S1x8x256x4x256_0_0_0_0_0) main_arg8
  let main_v17 : FVec F S8x256x4x256 .f32 := shapeCast S8x256x4x256 main_v16 shapeCasts_S1x8x256x4x256_S8x256x4x256
  let main_v18 : FVec F S8x8192x1024 .f32 := (fun l r => Host.dotGeneral dot_S8x8192x1024_S1024x1024_S8x8192x1024_2_0_01_1_n_n none l r) main_v15 main_arg6
  let main_v19 : FVec F S8x8192x4x256 .f32 := shapeCast S8x8192x4x256 main_v18 shapeCasts_S8x8192x1024_S8x8192x4x256
  let main_v20 : FVec F S8x4x8192x256 .f32 := (fun l r => Host.dotGeneral dot_S8x8192x4x256_S8x256x4x256_S8x4x8192x256_3_3_1_1_02_02 none l r) main_v19 main_v17
  fn_part1 (F := F) main_v20
-- ==== Ffn.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 12
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 39
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S_, .f32⟩
  | .hbm, ⟨26, _⟩ => ⟨S65536x2816, .f32⟩
  | .hbm, ⟨27, _⟩ => ⟨S65536x2816, .f32⟩
  | .hbm, ⟨28, _⟩ => ⟨S_, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x1024, .f32⟩
  | .hbm, ⟨35, _⟩ => ⟨S_, .f32⟩
  | .hbm, ⟨36, _⟩ => ⟨S65536x1024, .f32⟩
  | .hbm, ⟨37, _⟩ => ⟨S65536x1024, .f32⟩
  | .hbm, ⟨38, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩

abbrev nD : Nat := 1
abbrev τ : Topo := Topo.v7x

variable {F : FTy → Type} [FloatOps F]
-- ==== FfnFinal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 12
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnFinalRefIdeal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 55
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S_, .f32⟩
  | .hbm, ⟨26, _⟩ => ⟨S65536x2816, .f32⟩
  | .hbm, ⟨27, _⟩ => ⟨S65536x2816, .f32⟩
  | .hbm, ⟨28, _⟩ => ⟨S_, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x1024, .f32⟩
  | .hbm, ⟨35, _⟩ => ⟨S_, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S65536x1024, .f32⟩
  | .hbm, ⟨40, _⟩ => ⟨S_, .f32⟩
  | .hbm, ⟨41, _⟩ => ⟨S65536, .f32⟩
  | .hbm, ⟨42, _⟩ => ⟨S65536x1, .f32⟩
  | .hbm, ⟨43, _⟩ => ⟨S_, .f32⟩
  | .hbm, ⟨44, _⟩ => ⟨S65536x1, .f32⟩
  | .hbm, ⟨45, _⟩ => ⟨S65536x1, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S65536x1, .f32⟩
  | .hbm, ⟨50, _⟩ => ⟨S65536x1024, .f32⟩
  | .hbm, ⟨51, _⟩ => ⟨S65536x1024, .f32⟩
  | .hbm, ⟨52, _⟩ => ⟨S1x1024, .f32⟩
  | .hbm, ⟨53, _⟩ => ⟨S65536x1024, .f32⟩
  | .hbm, ⟨54, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== MemKv.lean ====
abbrev S8x256x1024 : Shape := ⟨3, ![8, 256, 1024]⟩
abbrev S1024 : Shape := ⟨1, ![1024]⟩
abbrev S1024x1024 : Shape := ⟨2, ![1024, 1024]⟩
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S2048x1024, .f32⟩
  | .hbm, ⟨5, _⟩ => ⟨S1x1024, .f32⟩
  | .hbm, ⟨6, _⟩ => ⟨S1024x1024, .bf16⟩
  | .hbm, ⟨7, _⟩ => ⟨S1024x1024, .bf16⟩
  | .hbm, ⟨8, _⟩ => ⟨S2048x1024, .f32⟩
  | .hbm, ⟨9, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemKvRefIdeal.lean ====
abbrev S8x256x1024 : Shape := ⟨3, ![8, 256, 1024]⟩
abbrev S1024 : Shape := ⟨1, ![1024]⟩
abbrev S1024x1024 : Shape := ⟨2, ![1024, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S2048x1024 : Shape := ⟨2, ![2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S8x256x1024, .f32⟩
  | .hbm, ⟨21, _⟩ => ⟨S2048x1024, .f32⟩
  | .hbm, ⟨22, _⟩ => ⟨S8x256x1024, .f32⟩
  | .hbm, ⟨23, _⟩ => ⟨S2048x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== OutAttn.lean ====
abbrev S8x8192x1024 : Shape := ⟨3, ![8, 8192, 1024]⟩
abbrev S8x8192x256 : Shape := ⟨3, ![8, 8192, 256]⟩
abbrev S8x8192x384 : Shape := ⟨3, ![8, 8192, 384]⟩
abbrev S1024x1024 : Shape := ⟨2, ![1024, 1024]⟩
abbrev S1024 : Shape := ⟨1, ![1024]⟩
abbrev S4x8x256x4x256 : Shape := ⟨5, ![4, 8, 256, 4, 256]⟩
abbrev S256x1024 : Shape := ⟨2, ![256, 1024]⟩
abbrev S384x1024 : Shape := ⟨2, ![384, 1024]⟩
abbrev S1x1024 : Shape := ⟨2, ![1, 1024]⟩
abbrev S4x8x256x1024 : Shape := ⟨4, ![4, 8, 256, 1024]⟩
abbrev S1x1024x1024 : Shape := ⟨3, ![1, 1024, 1024]⟩
abbrev S1x1024x256 : Shape := ⟨3, ![1, 1024, 256]⟩
abbrev S1x1024x384 : Shape := ⟨3, ![1, 1024, 384]⟩
abbrev S1x1x256x1024 : Shape := ⟨4, ![1, 1, 256, 1024]⟩
abbrev S1x512x1024 : Shape := ⟨3, ![1, 512, 1024]⟩
abbrev S512x1024 : Shape := ⟨2, ![512, 1024]⟩
abbrev S1x512x256 : Shape := ⟨3, ![1, 512, 256]⟩
abbrev S512x256 : Shape := ⟨2, ![512, 256]⟩
abbrev S1x512x384 : Shape := ⟨3, ![1, 512, 384]⟩
abbrev S512x384 : Shape := ⟨2, ![512, 384]⟩
abbrev S512 : Shape := ⟨1, ![512]⟩
abbrev S512x1 : Shape := ⟨2, ![512, 1]⟩
abbrev S256x256 : Shape := ⟨2, ![256, 256]⟩

abbrev nBuf : Space → Nat
  | .hbm => 20
  | .vmem => 20
  | .smem => 0
  | _ => 0

abbrev bufTy : (tb : Table) → Fin (tcTables nBuf tb) → BufTy
  | .hbm, ⟨0, _⟩ => ⟨S8x8192x1024, .f32⟩
  | .hbm, ⟨1, _⟩ => ⟨S8x8192x256, .f32⟩
  | .hbm, ⟨2, _⟩ => ⟨S8x8192x384, .f32⟩
  | .hbm, ⟨3, _⟩ => ⟨S8x8192x384, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S4x8x256x4x256, .f32⟩
  | .hbm, ⟨9, _⟩ => ⟨S4x8x256x4x256, .f32⟩
  | .hbm, ⟨10, _⟩ => ⟨S1024x1024, .bf16⟩
  | .hbm, ⟨11, _⟩ => ⟨S256x1024, .bf16⟩
  | .hbm, ⟨12, _⟩ => ⟨S384x1024, .bf16⟩
  | .hbm, ⟨13, _⟩ => ⟨S384x1024, .bf16⟩
  | .hbm, ⟨14, _⟩ => ⟨S1x1024, .f32⟩
  | .hbm, ⟨15, _⟩ => ⟨S1024x1024, .bf16⟩
  | .hbm, ⟨16, _⟩ => ⟨S1024x1024, .bf16⟩
  | .hbm, ⟨17, _⟩ => ⟨S4x8x256x1024, .f32⟩
  | .hbm, ⟨18, _⟩ => ⟨S4x8x256x1024, .f32⟩
  | .hbm, ⟨19, _⟩ => ⟨S8x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x384, .f32⟩
  | .local _ .vmem, ⟨5, _⟩ => ⟨S1x1024x384, .f32⟩
  | .local _ .vmem, ⟨6, _⟩ => ⟨S1x1024x384, .f32⟩
  | .local _ .vmem, ⟨7, _⟩ => ⟨S1x1024x384, .f32⟩
  | .local _ .vmem, ⟨8, _⟩ => ⟨S256x1024, .bf16⟩
  | .local _ .vmem, ⟨9, _⟩ => ⟨S384x1024, .bf16⟩
  | .local _ .vmem, ⟨10, _⟩ => ⟨S384x1024, .bf16⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1x256x1024, .f32⟩
  | .local _ .vmem, ⟨15, _⟩ => ⟨S1x1x256x1024, .f32⟩
  | .local _ .vmem, ⟨16, _⟩ => ⟨S1x1x256x1024, .f32⟩
  | .local _ .vmem, ⟨17, _⟩ => ⟨S1x1x256x1024, .f32⟩
  | .local _ .vmem, ⟨18, _⟩ => ⟨S1x1024x1024, .f32⟩
  | .local _ .vmem, ⟨19, _⟩ => ⟨S1x1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== OutAttnRefIdeal.lean ====
abbrev S8x8192x1024 : Shape := ⟨3, ![8, 8192, 1024]⟩
abbrev S8x8192x256 : Shape := ⟨3, ![8, 8192, 256]⟩
abbrev S8x8192x384 : Shape := ⟨3, ![8, 8192, 384]⟩
abbrev S1024x1024 : Shape := ⟨2, ![1024, 1024]⟩
abbrev S1024 : Shape := ⟨1, ![1024]⟩
abbrev S4x8x256x4x256 : Shape := ⟨5, ![4, 8, 256, 4, 256]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1x8x256x4x256 : Shape := ⟨5, ![1, 8, 256, 4, 256]⟩
abbrev S8x256x4x256 : Shape := ⟨4, ![8, 256, 4, 256]⟩
abbrev S8x8192x4x256 : Shape := ⟨4, ![8, 8192, 4, 256]⟩
abbrev S8x4x8192x256 : Shape := ⟨4, ![8, 4, 8192, 256]⟩
abbrev S8x4x8192 : Shape := ⟨3, ![8, 4, 8192]⟩
abbrev S8x4x8192x1 : Shape := ⟨4, ![8, 4, 8192, 1]⟩
abbrev S8x4x256x8192 : Shape := ⟨4, ![8, 4, 256, 8192]⟩

abbrev nBuf : Space → Nat
  | .hbm => 58
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x256, .f32⟩
  | .hbm, ⟨2, _⟩ => ⟨S8x8192x384, .f32⟩
  | .hbm, ⟨3, _⟩ => ⟨S8x8192x384, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S4x8x256x4x256, .f32⟩
  | .hbm, ⟨9, _⟩ => ⟨S4x8x256x4x256, .f32⟩
  | .hbm, ⟨10, _⟩ => ⟨S8x8192x1024, .f32⟩
  | .hbm, ⟨11, _⟩ => ⟨S8x8192x1024, .f32⟩
  | .hbm, ⟨12, _⟩ => ⟨S8x8192x1024, .f32⟩
  | .hbm, ⟨13, _⟩ => ⟨S8x8192x1024, .f32⟩
  | .hbm, ⟨14, _⟩ => ⟨S_, .f32⟩
  | .hbm, ⟨15, _⟩ => ⟨S8x8192, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S_, .f32⟩
  | .hbm, ⟨21, _⟩ => ⟨S8x8192x1, .f32⟩
  | .hbm, ⟨22, _⟩ => ⟨S8x8192x1, .f32⟩
  | .hbm, ⟨23, _⟩ => ⟨S8x8192x1, .f32⟩
  | .hbm, ⟨24, _⟩ => ⟨S8x8192x1024, .f32⟩
  | .hbm, ⟨25, _⟩ => ⟨S8x8192x1024, .f32⟩
  | .hbm, ⟨26, _⟩ => ⟨S1x1x1024, .f32⟩
  | .hbm, ⟨27, _⟩ => ⟨S8x8192x1024, .f32⟩
  | .hbm, ⟨28, _⟩ => ⟨S8x8192x1024, .f32⟩
  | .hbm, ⟨29, _⟩ => ⟨S1x8x256x4x256, .f32⟩
  | .hbm, ⟨30, _⟩ => ⟨S8x256x4x256, .f32⟩
  | .hbm, ⟨31, _⟩ => ⟨S1x8x256x4x256, .f32⟩
  | .hbm, ⟨32, _⟩ => ⟨S8x256x4x256, .f32⟩
  | .hbm, ⟨33, _⟩ => ⟨S8x8192x1024, .f32⟩
  | .hbm, ⟨34, _⟩ => ⟨S8x8192x4x256, .f32⟩
  | .hbm, ⟨35, _⟩ => ⟨S8x4x8192x256, .f32⟩
  | .hbm, ⟨36, _⟩ => ⟨S_, .f32⟩
  | .hbm, ⟨37, _⟩ => ⟨S8x4x8192x256, .f32⟩
  | .hbm, ⟨38, _⟩ => ⟨S8x4x8192x256, .f32⟩
  | .hbm, ⟨39, _⟩ => ⟨S_, .f32⟩
  | .hbm, ⟨40, _⟩ => ⟨S8x4x8192, .f32⟩
  | .hbm, ⟨41, _⟩ => ⟨S_, .f32⟩
  | .hbm, ⟨42, _⟩ => ⟨S8x4x8192, .f32⟩
  | .hbm, ⟨43, _⟩ => ⟨S8x4x8192, .f32⟩
  | .hbm, ⟨44, _⟩ => ⟨S8x4x8192x1, .f32⟩
  | .hbm, ⟨45, _⟩ => ⟨S8x4x8192x256, .f32⟩
  | .hbm, ⟨46, _⟩ => ⟨S8x4x8192x256, .f32⟩
  | .hbm, ⟨47, _⟩ => ⟨S8x4x8192x256, .f32⟩
  | .hbm, ⟨48, _⟩ => ⟨S_, .f32⟩
  | .hbm, ⟨49, _⟩ => ⟨S8x4x8192, .f32⟩
  | .hbm, ⟨50, _⟩ => ⟨S8x4x8192x1, .f32⟩
  | .hbm, ⟨51, _⟩ => ⟨S8x4x8192x256, .f32⟩
  | .hbm, ⟨52, _⟩ => ⟨S8x4x8192x256, .f32⟩
  | .hbm, ⟨53, _⟩ => ⟨S8x4x256x8192, .f32⟩
  | .hbm, ⟨54, _⟩ => ⟨S8x8192x4x256, .f32⟩
  | .hbm, ⟨55, _⟩ => ⟨S8x8192x1024, .f32⟩
  | .hbm, ⟨56, _⟩ => ⟨S8x8192x1024, .f32⟩
  | .hbm, ⟨57, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Mixer.lean ====
abbrev S8x64x1024 : Shape := ⟨3, ![8, 64, 1024]⟩
abbrev S1024 : Shape := ⟨1, ![1024]⟩
abbrev S1024x3456 : Shape := ⟨2, ![1024, 3456]⟩
abbrev S256 : Shape := ⟨1, ![256]⟩
abbrev S64 : Shape := ⟨1, ![64]⟩
abbrev S6 : Shape := ⟨1, ![6]⟩
abbrev S8x4x64x64 : Shape := ⟨4, ![8, 4, 64, 64]⟩
abbrev S8x6x32x64 : Shape := ⟨4, ![8, 6, 32, 64]⟩
abbrev S8x6x64x64 : Shape := ⟨4, ![8, 6, 64, 64]⟩
abbrev S8x1x1280 : Shape := ⟨3, ![8, 1, 1280]⟩
abbrev S1280 : Shape := ⟨1, ![1280]⟩
abbrev S384 : Shape := ⟨1, ![384]⟩
abbrev S32x384 : Shape := ⟨2, ![32, 384]⟩
abbrev S64x384 : Shape := ⟨2, ![64, 384]⟩
abbrev S6x64 : Shape := ⟨2, ![6, 64]⟩
abbrev S_ : Shape := ⟨0, ![]⟩
abbrev S1x384 : Shape := ⟨2, ![1, 384]⟩
abbrev S8x384 : Shape := ⟨2, ![8, 384]⟩
abbrev S6x32 : Shape := ⟨2, ![6, 32]⟩
abbrev S192 : Shape := ⟨1, ![192]⟩
abbrev S2x384 : Shape := ⟨2, ![2, 384]⟩
abbrev S1x1024 : Shape := ⟨2, ![1, 1024]⟩
abbrev S1024x1024 : Shape := ⟨2, ![1024, 1024]⟩
abbrev S1024x1152 : Shape := ⟨2, ![1024, 1152]⟩
abbrev S1024x1280 : Shape := ⟨2, ![1024, 1280]⟩
abbrev S1x256 : Shape := ⟨2, ![1, 256]⟩
abbrev S1x64 : Shape := ⟨2, ![1, 64]⟩
abbrev S4x64 : Shape := ⟨2, ![4, 64]⟩
abbrev S1x1280 : Shape := ⟨2, ![1, 1280]⟩
abbrev S128x384 : Shape := ⟨2, ![128, 384]⟩
abbrev S1 : Shape := ⟨1, ![1]⟩
abbrev S128x1152 : Shape := ⟨2, ![128, 1152]⟩
abbrev S16 : Shape := ⟨1, ![16]⟩
abbrev S64x1 : Shape := ⟨2, ![64, 1]⟩
abbrev S1x16 : Shape := ⟨2, ![1, 16]⟩
abbrev S64x16 : Shape := ⟨2, ![64, 16]⟩
abbrev S1x64x1x16 : Shape := ⟨4, ![1, 64, 1, 16]⟩
abbrev S1x64x24x16 : Shape := ⟨4, ![1, 64, 24, 16]⟩
abbrev S8x2x2x64x64 : Shape := ⟨5, ![8, 2, 2, 64, 64]⟩
abbrev S2x2 : Shape := ⟨2, ![2, 2]⟩
abbrev S8x2x2x64x1x64 : Shape := ⟨6, ![8, 2, 2, 64, 1, 64]⟩
abbrev S1x1x2x1x2x1 : Shape := ⟨6, ![1, 1, 2, 1, 2, 1]⟩
abbrev S8x2x2x64x2x64 : Shape := ⟨6, ![8, 2, 2, 64, 2, 64]⟩
abbrev S8x2x128x128 : Shape := ⟨4, ![8, 2, 128, 128]⟩
abbrev S6x6 : Shape := ⟨2, ![6, 6]⟩
abbrev S8x6x64x32 : Shape := ⟨4, ![8, 6, 64, 32]⟩
abbrev S8x6x64x1x32 : Shape := ⟨5, ![8, 6, 64, 1, 32]⟩
abbrev S1x6x1x6x1 : Shape := ⟨5, ![1, 6, 1, 6, 1]⟩
abbrev S8x6x64x6x32 : Shape := ⟨5, ![8, 6, 64, 6, 32]⟩
abbrev S8x384x192 : Shape := ⟨3, ![8, 384, 192]⟩
abbrev S8x3x2x64x64 : Shape := ⟨5, ![8, 3, 2, 64, 64]⟩
abbrev S8x3x2x64x1x64 : Shape := ⟨6, ![8, 3, 2, 64, 1, 64]⟩
abbrev S8x3x2x64x2x64 : Shape := ⟨6, ![8, 3, 2, 64, 2, 64]⟩
abbrev S8x3x128x128 : Shape := ⟨4, ![8, 3, 128, 128]⟩
abbrev S8x64x256 : Shape := ⟨3, ![8, 64, 256]⟩
abbrev S8x64x384 : Shape := ⟨3, ![8, 64, 384]⟩
abbrev S1x64x1024 : Shape := ⟨3, ![1, 64, 1024]⟩
abbrev S1x2x128x128 : Shape := ⟨4, ![1, 2, 128, 128]⟩
abbrev S1x384x192 : Shape := ⟨3, ![1, 384, 192]⟩
abbrev S1x1x1280 : Shape := ⟨3, ![1, 1, 1280]⟩
abbrev S1x3x128x128 : Shape := ⟨4, ![1, 3, 128, 128]⟩
abbrev S1x64x256 : Shape := ⟨3, ![1, 64, 256]⟩
abbrev S1x64x384 : Shape := ⟨3, ![1, 64, 384]⟩
abbrev S2x128x128 : Shape := ⟨3, ![2, 128, 128]⟩
abbrev S384x192 : Shape := ⟨2, ![384, 192]⟩
abbrev S6x64x64 : Shape := ⟨3, ![6, 64, 64]⟩
abbrev S64x192 : Shape := ⟨2, ![64, 192]⟩
abbrev S3x128x128 : Shape := ⟨3, ![3, 128, 128]⟩
abbrev S64x64 : Shape := ⟨2, ![64, 64]⟩
abbrev S1x64x64 : Shape := ⟨3, ![1, 64, 64]⟩
abbrev S1x192 : Shape := ⟨2, ![1, 192]⟩
abbrev S64x1024 : Shape := ⟨2, ![64, 1024]⟩
abbrev S64x1152 : Shape := ⟨2, ![64, 1152]⟩
abbrev S64x1280 : Shape := ⟨2, ![64, 1280]⟩
abbrev S64x32 : Shape := ⟨2, ![64, 32]⟩
abbrev S64x128 : Shape := ⟨2, ![64, 128]⟩
abbrev S128x128 : Shape := ⟨2, ![128, 128]⟩
abbrev S64x256 : Shape := ⟨2, ![64, 256]⟩
abbrev S4x16x256 : Shape := ⟨3, ![4, 16, 256]⟩
abbrev S4x1x256 : Shape := ⟨3, ![4, 1, 256]⟩
abbrev S256x256 : Shape := ⟨2, ![256, 256]⟩
abbrev S4x2x8x256 : Shape := ⟨4, ![4, 2, 8, 256]⟩
abbrev S4x1x8x256 : Shape := ⟨4, ![4, 1, 8, 256]⟩
abbrev S4x8x256 : Shape := ⟨3, ![4, 8, 256]⟩
abbrev S32x256 : Shape := ⟨2, ![32, 256]⟩
abbrev S768x256 : Shape := ⟨2, ![768, 256]⟩
abbrev S16x128 : Shape := ⟨2, ![16, 128]⟩
abbrev S1x128x128 : Shape := ⟨3, ![1, 128, 128]⟩
abbrev S1x128 : Shape := ⟨2, ![1, 128]⟩
abbrev S16x256 : Shape := ⟨2, ![16, 256]⟩
abbrev S1x1x384 : Shape := ⟨3, ![1, 1, 384]⟩
abbrev S256x128 : Shape := ⟨2, ![256, 128]⟩
abbrev S128x256 : Shape := ⟨2, ![128, 256]⟩

abbrev nBuf : Space → Nat
  | .hbm => 155
  | .vmem => 44
  | .smem => 1
  | _ => 0

abbrev hbmTy0_0 (i : Nat) : BufTy := match i % 128 with
  | 0 => ⟨S8x64x1024, .f32⟩
  | 1 => ⟨S1024, .f32⟩
  | 2 => ⟨S1024x3456, .f32⟩
  | 3 => ⟨S256, .f32⟩
  | 4 => ⟨S64, .f32⟩
  | 5 => ⟨S6, .f32⟩
  | 6 => ⟨S64, .i32⟩
  | 7 => ⟨S8x4x64x64, .f32⟩
  | 8 => ⟨S8x6x32x64, .f32⟩
  | 9 => ⟨S8x6x64x64, .f32⟩
  | 10 => ⟨S8x1x1280, .f32⟩
  | 11 => ⟨S1280, .f32⟩
  | 12 => ⟨S384, .f32⟩
  | 13 => ⟨S32x384, .f32⟩
  | 14 => ⟨S384, .f32⟩
  | 15 => ⟨S32x384, .f32⟩
  | 16 => ⟨S64x384, .f32⟩
  | 17 => ⟨S384, .f32⟩
  | 18 => ⟨S384, .f32⟩
  | 19 => ⟨S6x64, .f32⟩
  | 20 => ⟨S384, .f32⟩
  | 21 => ⟨S384, .f32⟩
  | 22 => ⟨S_, .f32⟩
  | 23 => ⟨S384, .f32⟩
  | 24 => ⟨S384, .f32⟩
  | 25 => ⟨S1x384, .f32⟩
  | 26 => ⟨S1x384, .f32⟩
  | 27 => ⟨S1x384, .f32⟩
  | 28 => ⟨S1x384, .f32⟩
  | 29 => ⟨S1x384, .f32⟩
  | 30 => ⟨S1x384, .f32⟩
  | 31 => ⟨S1x384, .f32⟩
  | 32 => ⟨S1x384, .f32⟩
  | 33 => ⟨S8x384, .f32⟩
  | 34 => ⟨S6x32, .f32⟩
  | 35 => ⟨S192, .f32⟩
  | 36 => ⟨S_, .i32⟩
  | 37 => ⟨S_, .f32⟩
  | 38 => ⟨S384, .f32⟩
  | 39 => ⟨S6x64, .f32⟩
  | 40 => ⟨S384, .f32⟩
  | 41 => ⟨S1x384, .f32⟩
  | 42 => ⟨S1x384, .f32⟩
  | 43 => ⟨S2x384, .f32⟩
  | 44 => ⟨S1x1024, .f32⟩
  | 45 => ⟨S1024x1024, .f32⟩
  | 46 => ⟨S1024x1024, .bf16⟩
  | 47 => ⟨S1024x1152, .f32⟩
  | 48 => ⟨S1024x1152, .bf16⟩
  | 49 => ⟨S1024x1280, .f32⟩
  | 50 => ⟨S1024x1280, .bf16⟩
  | 51 => ⟨S_, .f32⟩
  | 52 => ⟨S256, .f32⟩
  | 53 => ⟨S256, .f32⟩
  | 54 => ⟨S1x256, .f32⟩
  | 55 => ⟨S_, .f32⟩
  | 56 => ⟨S256, .f32⟩
  | 57 => ⟨S256, .f32⟩
  | 58 => ⟨S1x256, .f32⟩
  | 59 => ⟨S1x64, .f32⟩
  | 60 => ⟨S4x64, .f32⟩
  | 61 => ⟨S256, .f32⟩
  | 62 => ⟨S1x256, .f32⟩
  | 63 => ⟨S1x1280, .f32⟩
  | 64 => ⟨S_, .f32⟩
  | 65 => ⟨S128x384, .f32⟩
  | 66 => ⟨S_, .i32⟩
  | 67 => ⟨S1, .i32⟩
  | 68 => ⟨S128x384, .f32⟩
  | 69 => ⟨S128x384, .bf16⟩
  | 70 => ⟨S_, .f32⟩
  | 71 => ⟨S128x384, .f32⟩
  | 72 => ⟨S_, .i32⟩
  | 73 => ⟨S1, .i32⟩
  | 74 => ⟨S128x384, .f32⟩
  | 75 => ⟨S128x384, .bf16⟩
  | 76 => ⟨S_, .f32⟩
  | 77 => ⟨S128x384, .f32⟩
  | 78 => ⟨S_, .i32⟩
  | 79 => ⟨S1, .i32⟩
  | 80 => ⟨S128x384, .f32⟩
  | 81 => ⟨S128x384, .bf16⟩
  | 82 => ⟨S128x1152, .bf16⟩
  | 83 => ⟨S16, .f32⟩
  | 84 => ⟨S16, .f32⟩
  | 85 => ⟨S_, .f32⟩
  | 86 => ⟨S16, .f32⟩
  | 87 => ⟨S16, .f32⟩
  | 88 => ⟨S_, .f32⟩
  | 89 => ⟨S16, .f32⟩
  | 90 => ⟨S16, .f32⟩
  | 91 => ⟨S64, .f32⟩
  | 92 => ⟨S64x1, .f32⟩
  | 93 => ⟨S1x16, .f32⟩
  | 94 => ⟨S64x16, .f32⟩
  | 95 => ⟨S64x16, .f32⟩
  | 96 => ⟨S64x16, .f32⟩
  | 97 => ⟨S64x16, .f32⟩
  | 98 => ⟨S1x64x1x16, .f32⟩
  | 99 => ⟨S1x64x24x16, .f32⟩
  | 100 => ⟨S64x384, .f32⟩
  | 101 => ⟨S64x16, .f32⟩
  | 102 => ⟨S1x64x1x16, .f32⟩
  | 103 => ⟨S1x64x24x16, .f32⟩
  | 104 => ⟨S64x384, .f32⟩
  | 105 => ⟨S8x4x64x64, .f32⟩
  | 106 => ⟨S8x2x2x64x64, .f32⟩
  | 107 => ⟨S2x2, .i32⟩
  | 108 => ⟨S2x2, .i32⟩
  | 109 => ⟨S_, .i32⟩
  | 110 => ⟨S2x2, .i32⟩
  | 111 => ⟨S2x2, .i32⟩
  | 112 => ⟨S2x2, .i1⟩
  | 113 => ⟨S2x2, .f32⟩
  | 114 => ⟨S8x2x2x64x1x64, .f32⟩
  | 115 => ⟨S1x1x2x1x2x1, .f32⟩
  | 116 => ⟨S8x2x2x64x2x64, .f32⟩
  | 117 => ⟨S8x2x2x64x2x64, .f32⟩
  | 118 => ⟨S8x2x2x64x2x64, .f32⟩
  | 119 => ⟨S8x2x128x128, .f32⟩
  | 120 => ⟨S6x6, .i32⟩
  | 121 => ⟨S6x6, .i32⟩
  | 122 => ⟨S_, .i32⟩
  | 123 => ⟨S6x6, .i32⟩
  | 124 => ⟨S6x6, .i32⟩
  | 125 => ⟨S6x6, .i1⟩
  | 126 => ⟨S6x6, .f32⟩
  | 127 => ⟨S8x6x64x32, .f32⟩
  | _ => ⟨S8x64x1024, .f32⟩

abbrev hbmTy0_1 (i : Nat) : BufTy := match i % 128 with
  | 0 => ⟨S8x6x64x1x32, .f32⟩
  | 1 => ⟨S1x6x1x6x1, .f32⟩
  | 2 => ⟨S8x6x64x6x32, .f32⟩
  | 3 => ⟨S8x6x64x6x32, .f32⟩
  | 4 => ⟨S8x6x64x6x32, .f32⟩
  | 5 => ⟨S8x384x192, .f32⟩
  | 6 => ⟨S8x3x2x64x64, .f32⟩
  | 7 => ⟨S2x2, .i32⟩
  | 8 => ⟨S2x2, .i32⟩
  | 9 => ⟨S_, .i32⟩
  | 10 => ⟨S2x2, .i32⟩
  | 11 => ⟨S2x2, .i32⟩
  | 12 => ⟨S2x2, .i1⟩
  | 13 => ⟨S2x2, .f32⟩
  | 14 => ⟨S8x3x2x64x1x64, .f32⟩
  | 15 => ⟨S1x1x2x1x2x1, .f32⟩
  | 16 => ⟨S8x3x2x64x2x64, .f32⟩
  | 17 => ⟨S8x3x2x64x2x64, .f32⟩
  | 18 => ⟨S8x3x2x64x2x64, .f32⟩
  | 19 => ⟨S8x3x128x128, .f32⟩
  | 20 => ⟨S8x64x256, .f32⟩
  | 21 => ⟨S8x64x384, .f32⟩
  | 22 => ⟨S8x64x384, .f32⟩
  | 23 => ⟨S8x2x128x128, .f32⟩
  | 24 => ⟨S8x384x192, .f32⟩
  | 25 => ⟨S8x3x128x128, .f32⟩
  | 26 => ⟨S8x1x1280, .f32⟩
  | _ => ⟨S8x64x1024, .f32⟩

abbrev hbmTy (i : Nat) : BufTy := match i / 128 with
  | 0 => hbmTy0_0 i
  | 1 => hbmTy0_1 i
  | _ => ⟨S8x64x1024, .f32⟩

abbrev bufTy : (tb : Table) → Fin (tcTables nBuf tb) → BufTy
  | .hbm, ⟨i, _⟩ => hbmTy i
  | .local _ .vmem, ⟨0, _⟩ => ⟨S1x64x1024, .f32⟩
  | .local _ .vmem, ⟨1, _⟩ => ⟨S1x64x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1152, .bf16⟩
  | .local _ .vmem, ⟨5, _⟩ => ⟨S1024x1280, .bf16⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x2x128x128, .f32⟩
  | .local _ .vmem, ⟨10, _⟩ => ⟨S1x2x128x128, .f32⟩
  | .local _ .vmem, ⟨11, _⟩ => ⟨S64x384, .f32⟩
  | .local _ .vmem, ⟨12, _⟩ => ⟨S64x384, .f32⟩
  | .local _ .vmem, ⟨13, _⟩ => ⟨S2x384, .f32⟩
  | .local _ .vmem, ⟨14, _⟩ => ⟨S1x384x192, .f32⟩
  | .local _ .vmem, ⟨15, _⟩ => ⟨S1x384x192, .f32⟩
  | .local _ .vmem, ⟨16, _⟩ => ⟨S1x1x1280, .f32⟩
  | .local _ .vmem, ⟨17, _⟩ => ⟨S1x1x1280, .f32⟩
  | .local _ .vmem, ⟨18, _⟩ => ⟨S1x3x128x128, .f32⟩
  | .local _ .vmem, ⟨19, _⟩ => ⟨S1x3x128x128, .f32⟩
  | .local _ .vmem, ⟨20, _⟩ => ⟨S1x1280, .f32⟩
  | .local _ .vmem, ⟨21, _⟩ => ⟨S8x384, .f32⟩
  | .local _ .vmem, ⟨22, _⟩ => ⟨S128x1152, .bf16⟩
  | .local _ .vmem, ⟨23, _⟩ => ⟨S1x64x256, .f32⟩
  | .local _ .vmem, ⟨24, _⟩ => ⟨S1x64x256, .f32⟩
  | .local _ .vmem, ⟨25, _⟩ => ⟨S1x64x384, .f32⟩
  | .local _ .vmem, ⟨26, _⟩ => ⟨S1x64x384, .f32⟩
  | .local _ .vmem, ⟨27, _⟩ => ⟨S1x64x384, .f32⟩
  | .local _ .vmem, ⟨28, _⟩ => ⟨S1x64x384, .f32⟩
  | .local _ .vmem, ⟨29, _⟩ => ⟨S1x2x128x128, .f32⟩
  | .local _ .vmem, ⟨30, _⟩ => ⟨S1x2x128x128, .f32⟩
  | .local _ .vmem, ⟨31, _⟩ => ⟨S1x384x192, .f32⟩
  | .local _ .vmem, ⟨32, _⟩ => ⟨S1x384x192, .f32⟩
  | .local _ .vmem, ⟨33, _⟩ => ⟨S1x3x128x128, .f32⟩
  | .local _ .vmem, ⟨34, _⟩ => ⟨S1x3x128x128, .f32⟩
  | .local _ .vmem, ⟨35, _⟩ => ⟨S1x1x1280, .f32⟩
  | .local _ .vmem, ⟨36, _⟩ => ⟨S1x1x1280, .f32⟩
  | .local _ .vmem, ⟨37, _⟩ => ⟨S2x128x128, .f32⟩
  | .local _ .vmem, ⟨38, _⟩ => ⟨S384x192, .f32⟩
  | .local _ .vmem, ⟨39, _⟩ => ⟨S6x64x64, .f32⟩
  | .local _ .vmem, ⟨40, _⟩ => ⟨S64x192, .f32⟩
  | .local _ .vmem, ⟨41, _⟩ => ⟨S64x384, .f32⟩
  | .local _ .vmem, ⟨42, _⟩ => ⟨S3x128x128, .f32⟩
  | .local _ .vmem, ⟨43, _⟩ => ⟨S1x1280, .f32⟩
  | .local _ .smem, ⟨0, _⟩ => ⟨S6, .f32⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .smem, ⟨0, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_call0_v0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_0 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_1 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_2 : Ref sig .tc := ⟨.hbm, 64, rfl⟩
abbrev main_v37 : Ref sig .tc := ⟨.hbm, 65, rfl⟩
abbrev main_c_3 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_4 : Ref sig .tc := ⟨.hbm, 70, rfl⟩
abbrev main_v41 : Ref sig .tc := ⟨.hbm, 71, rfl⟩
abbrev main_c_5 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_6 : Ref sig .tc := ⟨.hbm, 76, rfl⟩
abbrev main_v45 : Ref sig .tc := ⟨.hbm, 77, rfl⟩
abbrev main_c_7 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_8 : Ref sig .tc := ⟨.hbm, 85, rfl⟩
abbrev main_v52 : Ref sig .tc := ⟨.hbm, 86, rfl⟩
abbrev main_v53 : Ref sig .tc := ⟨.hbm, 87, rfl⟩
abbrev main_cst_9 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_10 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c_11 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_c_12 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110_0 : Ref sig .tc := ⟨.hbm, 148, rfl⟩
abbrev main_v110_1 : Ref sig .tc := ⟨.hbm, 149, rfl⟩
abbrev main_v110_2 : Ref sig .tc := ⟨.hbm, 150, rfl⟩
abbrev main_v110_3 : Ref sig .tc := ⟨.hbm, 151, rfl⟩
abbrev main_v110_4 : Ref sig .tc := ⟨.hbm, 152, rfl⟩
abbrev main_v110_5 : Ref sig .tc := ⟨.hbm, 153, rfl⟩
abbrev main_v110_6 : Ref sig .tc := ⟨.hbm, 154, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg25_1 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_scratch3 : Ref sig .tc := ⟨.vmem, 40, rfl⟩
abbrev cc0_scratch4 : Ref sig .tc := ⟨.vmem, 41, rfl⟩
abbrev cc0_scratch5 : Ref sig .tc := ⟨.vmem, 42, rfl⟩
abbrev cc0_scratch6 : Ref sig .tc := ⟨.vmem, 43, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35
abbrev cc0_sem25_0 : DmaSem sig := 36
abbrev cc0_sem25_1 : DmaSem sig := 37

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_793 : BitVec 32 := 0#32
  let v3169 : BitVec 1 := Scalar.cmpi .eq arg1 c0_i32_793
  let v3170 : BitVec 32 := Scalar.extui v3169
  let c0_i32_794 : BitVec 32 := 0#32
  let v3171 : BitVec 1 := Scalar.cmpi .ne v3170 c0_i32_794
  v3171

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S64x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]

abbrev stage0_11 : Fin 1 → Memref sig .tc .vmem S64x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true]

abbrev stage0_12 : Fin 1 → Memref sig .tc .vmem S2x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x384x192 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x1280 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x3x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 1 → Memref sig .tc .vmem S1x1280 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S8x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S128x1152 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x64x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x64x384 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x64x384 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x2x128x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]

abbrev stage0_23 : Fin 2 → Memref sig .tc .vmem S1x384x192 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, false]

abbrev stage0_24 : Fin 2 → Memref sig .tc .vmem S1x3x128x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, false]

abbrev stage0_25 : Fin 2 → Memref sig .tc .vmem S1x1x1280 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, false]
-- ==== MixerRefIdeal.lean ====
abbrev S8x64x1024 : Shape := ⟨3, ![8, 64, 1024]⟩
abbrev S1024 : Shape := ⟨1, ![1024]⟩
abbrev S1024x3456 : Shape := ⟨2, ![1024, 3456]⟩
abbrev S256 : Shape := ⟨1, ![256]⟩
abbrev S64 : Shape := ⟨1, ![64]⟩
abbrev S6 : Shape := ⟨1, ![6]⟩
abbrev S8x4x64x64 : Shape := ⟨4, ![8, 4, 64, 64]⟩
abbrev S8x6x32x64 : Shape := ⟨4, ![8, 6, 32, 64]⟩
abbrev S8x6x64x64 : Shape := ⟨4, ![8, 6, 64, 64]⟩
abbrev S8x1x1280 : Shape := ⟨3, ![8, 1, 1280]⟩
abbrev S1280 : Shape := ⟨1, ![1280]⟩
abbrev S384 : Shape := ⟨1, ![384]⟩
abbrev S32x384 : Shape := ⟨2, ![32, 384]⟩
abbrev S64x384 : Shape := ⟨2, ![64, 384]⟩
abbrev S6x64 : Shape := ⟨2, ![6, 64]⟩
abbrev S_ : Shape := ⟨0, ![]⟩
abbrev S8x64 : Shape := ⟨2, ![8, 64]⟩
abbrev S8x64x1 : Shape := ⟨3, ![8, 64, 1]⟩
abbrev S1x1x1024 : Shape := ⟨3, ![1, 1, 1024]⟩
abbrev S8x64x3456 : Shape := ⟨3, ![8, 64, 3456]⟩
abbrev S8x64x1152 : Shape := ⟨3, ![8, 64, 1152]⟩
abbrev S8x64x1280 : Shape := ⟨3, ![8, 64, 1280]⟩
abbrev S8x64x192 : Shape := ⟨3, ![8, 64, 192]⟩
abbrev S8x64x384 : Shape := ⟨3, ![8, 64, 384]⟩
abbrev S8x64x6x32 : Shape := ⟨4, ![8, 64, 6, 32]⟩
abbrev S16 : Shape := ⟨1, ![16]⟩
abbrev S64x1 : Shape := ⟨2, ![64, 1]⟩
abbrev S1x16 : Shape := ⟨2, ![1, 16]⟩
abbrev S64x16 : Shape := ⟨2, ![64, 16]⟩
abbrev S1x64x1x16 : Shape := ⟨4, ![1, 64, 1, 16]⟩
abbrev S8x64x6x16 : Shape := ⟨4, ![8, 64, 6, 16]⟩
abbrev S8x6x64x32 : Shape := ⟨4, ![8, 6, 64, 32]⟩
abbrev S8x64x6x64 : Shape := ⟨4, ![8, 64, 6, 64]⟩
abbrev S6x1 : Shape := ⟨2, ![6, 1]⟩
abbrev S1x64 : Shape := ⟨2, ![1, 64]⟩
abbrev S64x64 : Shape := ⟨2, ![64, 64]⟩
abbrev S6x1x1 : Shape := ⟨3, ![6, 1, 1]⟩
abbrev S1x64x64 : Shape := ⟨3, ![1, 64, 64]⟩
abbrev S6x64x64 : Shape := ⟨3, ![6, 64, 64]⟩
abbrev S1x6x64x64 : Shape := ⟨4, ![1, 6, 64, 64]⟩
abbrev S1x6x64x1 : Shape := ⟨4, ![1, 6, 64, 1]⟩
abbrev S1x6x1x1 : Shape := ⟨4, ![1, 6, 1, 1]⟩
abbrev S8x64x6 : Shape := ⟨3, ![8, 64, 6]⟩
abbrev S8x64x6x1 : Shape := ⟨4, ![8, 64, 6, 1]⟩
abbrev S6x6 : Shape := ⟨2, ![6, 6]⟩
abbrev S1x6x1x6x1 : Shape := ⟨5, ![1, 6, 1, 6, 1]⟩
abbrev S8x6x64x1x32 : Shape := ⟨5, ![8, 6, 64, 1, 32]⟩
abbrev S8x6x64x6x32 : Shape := ⟨5, ![8, 6, 64, 6, 32]⟩
abbrev S8x384x192 : Shape := ⟨3, ![8, 384, 192]⟩
abbrev S8x64x256 : Shape := ⟨3, ![8, 64, 256]⟩
abbrev S1x1x256 : Shape := ⟨3, ![1, 1, 256]⟩
abbrev S8x64x4x64 : Shape := ⟨4, ![8, 64, 4, 64]⟩
abbrev S8x4x1x64 : Shape := ⟨4, ![8, 4, 1, 64]⟩
abbrev S8x4x64 : Shape := ⟨3, ![8, 4, 64]⟩
abbrev S8x4x64x1 : Shape := ⟨4, ![8, 4, 64, 1]⟩
abbrev S16x2x64x1x64 : Shape := ⟨5, ![16, 2, 64, 1, 64]⟩
abbrev S2x2 : Shape := ⟨2, ![2, 2]⟩
abbrev S1x2x1x2x1 : Shape := ⟨5, ![1, 2, 1, 2, 1]⟩
abbrev S16x2x64x2x64 : Shape := ⟨5, ![16, 2, 64, 2, 64]⟩
abbrev S8x2x128x128 : Shape := ⟨4, ![8, 2, 128, 128]⟩

abbrev nBuf : Space → Nat
  | .hbm => 323
  | .vmem => 0
  | .smem => 0
  | _ => 0

abbrev hbmTy0_0 (i : Nat) : BufTy := match i % 128 with
  | 0 => ⟨S8x64x1024, .f32⟩
  | 1 => ⟨S1024, .f32⟩
  | 2 => ⟨S1024x3456, .f32⟩
  | 3 => ⟨S256, .f32⟩
  | 4 => ⟨S64, .f32⟩
  | 5 => ⟨S6, .f32⟩
  | 6 => ⟨S64, .i32⟩
  | 7 => ⟨S8x4x64x64, .f32⟩
  | 8 => ⟨S8x6x32x64, .f32⟩
  | 9 => ⟨S8x6x64x64, .f32⟩
  | 10 => ⟨S8x1x1280, .f32⟩
  | 11 => ⟨S1280, .f32⟩
  | 12 => ⟨S384, .f32⟩
  | 13 => ⟨S32x384, .f32⟩
  | 14 => ⟨S384, .f32⟩
  | 15 => ⟨S32x384, .f32⟩
  | 16 => ⟨S64x384, .f32⟩
  | 17 => ⟨S384, .f32⟩
  | 18 => ⟨S384, .f32⟩
  | 19 => ⟨S6x64, .f32⟩
  | 20 => ⟨S384, .f32⟩
  | 21 => ⟨S384, .f32⟩
  | 22 => ⟨S8x64x1024, .f32⟩
  | 23 => ⟨S_, .f32⟩
  | 24 => ⟨S8x64, .f32⟩
  | 25 => ⟨S8x64x1, .f32⟩
  | 26 => ⟨S_, .f32⟩
  | 27 => ⟨S8x64x1, .f32⟩
  | 28 => ⟨S8x64x1, .f32⟩
  | 29 => ⟨S_, .f32⟩
  | 30 => ⟨S8x64x1, .f32⟩
  | 31 => ⟨S8x64x1, .f32⟩
  | 32 => ⟨S8x64x1, .f32⟩
  | 33 => ⟨S8x64x1024, .f32⟩
  | 34 => ⟨S8x64x1024, .f32⟩
  | 35 => ⟨S1x1x1024, .f32⟩
  | 36 => ⟨S8x64x1024, .f32⟩
  | 37 => ⟨S8x64x1024, .f32⟩
  | 38 => ⟨S8x64x3456, .f32⟩
  | 39 => ⟨S8x64x1152, .f32⟩
  | 40 => ⟨S8x64x1280, .f32⟩
  | 41 => ⟨S8x64x192, .f32⟩
  | 42 => ⟨S8x64x192, .f32⟩
  | 43 => ⟨S8x64x384, .f32⟩
  | 44 => ⟨S8x64x384, .f32⟩
  | 45 => ⟨S8x64x6x32, .f32⟩
  | 46 => ⟨S16, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S64, .f32⟩
  | 55 => ⟨S64x1, .f32⟩
  | 56 => ⟨S1x16, .f32⟩
  | 57 => ⟨S64x16, .f32⟩
  | 58 => ⟨S64x16, .f32⟩
  | 59 => ⟨S64x16, .f32⟩
  | 60 => ⟨S64x16, .f32⟩
  | 61 => ⟨S1x64x1x16, .f32⟩
  | 62 => ⟨S64x16, .f32⟩
  | 63 => ⟨S1x64x1x16, .f32⟩
  | 64 => ⟨S8x64x6x16, .f32⟩
  | 65 => ⟨S8x64x6x16, .f32⟩
  | 66 => ⟨S8x64x6x16, .f32⟩
  | 67 => ⟨S8x64x6x16, .f32⟩
  | 68 => ⟨S8x64x6x16, .f32⟩
  | 69 => ⟨S8x64x6x16, .f32⟩
  | 70 => ⟨S8x64x6x16, .f32⟩
  | 71 => ⟨S8x64x6x16, .f32⟩
  | 72 => ⟨S8x64x6x16, .f32⟩
  | 73 => ⟨S8x64x6x16, .f32⟩
  | 74 => ⟨S8x64x6x16, .f32⟩
  | 75 => ⟨S8x64x6x16, .f32⟩
  | 76 => ⟨S8x64x6x32, .f32⟩
  | 77 => ⟨S8x64x6x32, .f32⟩
  | 78 => ⟨S16, .f32⟩
  | 79 => ⟨S16, .f32⟩
  | 80 => ⟨S_, .f32⟩
  | 81 => ⟨S16, .f32⟩
  | 82 => ⟨S16, .f32⟩
  | 83 => ⟨S_, .f32⟩
  | 84 => ⟨S16, .f32⟩
  | 85 => ⟨S16, .f32⟩
  | 86 => ⟨S64, .f32⟩
  | 87 => ⟨S64x1, .f32⟩
  | 88 => ⟨S1x16, .f32⟩
  | 89 => ⟨S64x16, .f32⟩
  | 90 => ⟨S64x16, .f32⟩
  | 91 => ⟨S64x16, .f32⟩
  | 92 => ⟨S64x16, .f32⟩
  | 93 => ⟨S1x64x1x16, .f32⟩
  | 94 => ⟨S64x16, .f32⟩
  | 95 => ⟨S1x64x1x16, .f32⟩
  | 96 => ⟨S8x64x6x16, .f32⟩
  | 97 => ⟨S8x64x6x16, .f32⟩
  | 98 => ⟨S8x64x6x16, .f32⟩
  | 99 => ⟨S8x64x6x16, .f32⟩
  | 100 => ⟨S8x64x6x16, .f32⟩
  | 101 => ⟨S8x64x6x16, .f32⟩
  | 102 => ⟨S8x64x6x16, .f32⟩
  | 103 => ⟨S8x64x6x16, .f32⟩
  | 104 => ⟨S8x64x6x16, .f32⟩
  | 105 => ⟨S8x64x6x16, .f32⟩
  | 106 => ⟨S8x64x6x16, .f32⟩
  | 107 => ⟨S8x64x6x16, .f32⟩
  | 108 => ⟨S8x64x6x32, .f32⟩
  | 109 => ⟨S_, .f32⟩
  | 110 => ⟨S8x64x6x32, .f32⟩
  | 111 => ⟨S8x64x6x32, .f32⟩
  | 112 => ⟨S8x6x64x32, .f32⟩
  | 113 => ⟨S8x6x64x32, .f32⟩
  | 114 => ⟨S8x64x6x64, .f32⟩
  | 115 => ⟨S8x6x64x64, .f32⟩
  | 116 => ⟨S64, .f32⟩
  | 117 => ⟨S6x1, .f32⟩
  | 118 => ⟨S64x1, .f32⟩
  | 119 => ⟨S1x64, .f32⟩
  | 120 => ⟨S64x64, .f32⟩
  | 121 => ⟨S64x64, .f32⟩
  | 122 => ⟨S64x64, .f32⟩
  | 123 => ⟨S_, .f32⟩
  | 124 => ⟨S64x64, .f32⟩
  | 125 => ⟨S64x64, .i1⟩
  | 126 => ⟨S6x1x1, .f32⟩
  | 127 => ⟨S_, .f32⟩
  | _ => ⟨S8x64x1024, .f32⟩

abbrev hbmTy0_1 (i : Nat) : BufTy := match i % 128 with
  | 0 => ⟨S64x64, .f32⟩
  | 1 => ⟨S64x64, .f32⟩
  | 2 => ⟨S1x64x64, .f32⟩
  | 3 => ⟨S6x64x64, .f32⟩
  | 4 => ⟨S6x64x64, .f32⟩
  | 5 => ⟨S6x64x64, .f32⟩
  | 6 => ⟨S6x64x64, .f32⟩
  | 7 => ⟨S_, .f32⟩
  | 8 => ⟨S_, .f32⟩
  | 9 => ⟨S6x64x64, .i1⟩
  | 10 => ⟨S6x64x64, .f32⟩
  | 11 => ⟨S6x64x64, .f32⟩
  | 12 => ⟨S8x6x64x64, .f32⟩
  | 13 => ⟨S1x6x64x64, .f32⟩
  | 14 => ⟨S8x6x64x64, .f32⟩
  | 15 => ⟨S8x6x64x64, .f32⟩
  | 16 => ⟨S8x6x64x64, .f32⟩
  | 17 => ⟨S_, .f32⟩
  | 18 => ⟨S64, .f32⟩
  | 19 => ⟨S64, .f32⟩
  | 20 => ⟨S1x64, .f32⟩
  | 21 => ⟨S6x64, .f32⟩
  | 22 => ⟨S6x64, .f32⟩
  | 23 => ⟨S6x64, .f32⟩
  | 24 => ⟨S6x64, .f32⟩
  | 25 => ⟨S1x6x64x1, .f32⟩
  | 26 => ⟨S8x6x64x32, .f32⟩
  | 27 => ⟨S8x6x64x32, .f32⟩
  | 28 => ⟨S8x6x64x64, .f32⟩
  | 29 => ⟨S_, .f32⟩
  | 30 => ⟨S64, .f32⟩
  | 31 => ⟨S64, .f32⟩
  | 32 => ⟨S1x64, .f32⟩
  | 33 => ⟨S6x64, .f32⟩
  | 34 => ⟨S6x64, .f32⟩
  | 35 => ⟨S6x64, .f32⟩
  | 36 => ⟨S6x64, .f32⟩
  | 37 => ⟨S1x6x64x1, .f32⟩
  | 38 => ⟨S8x6x64x64, .f32⟩
  | 39 => ⟨S8x6x64x64, .f32⟩
  | 40 => ⟨S_, .f32⟩
  | 41 => ⟨S6x1, .f32⟩
  | 42 => ⟨S6x1, .f32⟩
  | 43 => ⟨S6x1, .f32⟩
  | 44 => ⟨S1x6x1x1, .f32⟩
  | 45 => ⟨S8x6x32x64, .f32⟩
  | 46 => ⟨S8x6x32x64, .f32⟩
  | 47 => ⟨S8x6x32x64, .f32⟩
  | 48 => ⟨S8x6x32x64, .f32⟩
  | 49 => ⟨S8x6x64x64, .f32⟩
  | 50 => ⟨S8x64x6x64, .f32⟩
  | 51 => ⟨S_, .f32⟩
  | 52 => ⟨S8x64x6, .f32⟩
  | 53 => ⟨S8x64x6x1, .f32⟩
  | 54 => ⟨S_, .f32⟩
  | 55 => ⟨S8x64x6x1, .f32⟩
  | 56 => ⟨S8x64x6x1, .f32⟩
  | 57 => ⟨S8x64x6x64, .f32⟩
  | 58 => ⟨S8x64x6x64, .f32⟩
  | 59 => ⟨S8x64x6x64, .f32⟩
  | 60 => ⟨S_, .f32⟩
  | 61 => ⟨S8x64x6, .f32⟩
  | 62 => ⟨S8x64x6x1, .f32⟩
  | 63 => ⟨S_, .f32⟩
  | 64 => ⟨S8x64x6x1, .f32⟩
  | 65 => ⟨S8x64x6x1, .f32⟩
  | 66 => ⟨S8x64x6x64, .f32⟩
  | 67 => ⟨S8x64x6x64, .f32⟩
  | 68 => ⟨S_, .f32⟩
  | 69 => ⟨S8x64x6x1, .f32⟩
  | 70 => ⟨S8x64x6x1, .f32⟩
  | 71 => ⟨S8x64x6x1, .f32⟩
  | 72 => ⟨S8x64x6x64, .f32⟩
  | 73 => ⟨S8x64x6x64, .f32⟩
  | 74 => ⟨S8x64x384, .f32⟩
  | 75 => ⟨S8x64x384, .f32⟩
  | 76 => ⟨S8x64x384, .f32⟩
  | 77 => ⟨S_, .f32⟩
  | 78 => ⟨S8x64x384, .f32⟩
  | 79 => ⟨S8x64x384, .f32⟩
  | 80 => ⟨S_, .f32⟩
  | 81 => ⟨S8x64x384, .f32⟩
  | 82 => ⟨S8x64x384, .f32⟩
  | 83 => ⟨S8x64x384, .f32⟩
  | 84 => ⟨S8x64x384, .f32⟩
  | 85 => ⟨S6x6, .i32⟩
  | 86 => ⟨S6x6, .i32⟩
  | 87 => ⟨S_, .i32⟩
  | 88 => ⟨S6x6, .i32⟩
  | 89 => ⟨S6x6, .i32⟩
  | 90 => ⟨S6x6, .i1⟩
  | 91 => ⟨S1x6x1x6x1, .i1⟩
  | 92 => ⟨S8x6x64x32, .f32⟩
  | 93 => ⟨S8x6x64x1x32, .f32⟩
  | 94 => ⟨S_, .f32⟩
  | 95 => ⟨S_, .f32⟩
  | 96 => ⟨S8x6x64x6x32, .i1⟩
  | 97 => ⟨S8x6x64x6x32, .f32⟩
  | 98 => ⟨S8x6x64x6x32, .f32⟩
  | 99 => ⟨S8x6x64x6x32, .f32⟩
  | 100 => ⟨S8x384x192, .f32⟩
  | 101 => ⟨S8x1x1280, .f32⟩
  | 102 => ⟨S8x64x1024, .f32⟩
  | 103 => ⟨S8x64x256, .f32⟩
  | 104 => ⟨S8x64x256, .f32⟩
  | 105 => ⟨S8x64x256, .f32⟩
  | 106 => ⟨S8x64x256, .f32⟩
  | 107 => ⟨S_, .f32⟩
  | 108 => ⟨S256, .f32⟩
  | 109 => ⟨S256, .f32⟩
  | 110 => ⟨S256, .f32⟩
  | 111 => ⟨S256, .f32⟩
  | 112 => ⟨S256, .f32⟩
  | 113 => ⟨S8x64x256, .f32⟩
  | 114 => ⟨S_, .f32⟩
  | 115 => ⟨S8x64x256, .f32⟩
  | 116 => ⟨S8x64x256, .f32⟩
  | 117 => ⟨S8x64x256, .f32⟩
  | 118 => ⟨S8x64x256, .f32⟩
  | 119 => ⟨S8x64x256, .i1⟩
  | 120 => ⟨S8x64x256, .f32⟩
  | 121 => ⟨S8x64x256, .f32⟩
  | 122 => ⟨S8x64x256, .f32⟩
  | 123 => ⟨S8x64x256, .f32⟩
  | 124 => ⟨S8x64x256, .f32⟩
  | 125 => ⟨S8x64x256, .f32⟩
  | 126 => ⟨S8x64x256, .f32⟩
  | 127 => ⟨S8x64x256, .f32⟩
  | _ => ⟨S8x64x1024, .f32⟩

abbrev hbmTy0_2 (i : Nat) : BufTy := match i % 128 with
  | 0 => ⟨S8x64x256, .f32⟩
  | 1 => ⟨S1x1x256, .f32⟩
  | 2 => ⟨S8x64x256, .f32⟩
  | 3 => ⟨S8x64x256, .f32⟩
  | 4 => ⟨S1x1x256, .f32⟩
  | 5 => ⟨S8x64x256, .f32⟩
  | 6 => ⟨S8x64x256, .f32⟩
  | 7 => ⟨S8x64x256, .f32⟩
  | 8 => ⟨S8x64x256, .f32⟩
  | 9 => ⟨S8x64x256, .i1⟩
  | 10 => ⟨S8x64x256, .f32⟩
  | 11 => ⟨S8x64x256, .f32⟩
  | 12 => ⟨S8x64x256, .f32⟩
  | 13 => ⟨S8x64x256, .f32⟩
  | 14 => ⟨S8x64x256, .f32⟩
  | 15 => ⟨S8x64x256, .f32⟩
  | 16 => ⟨S8x64x256, .f32⟩
  | 17 => ⟨S8x64x256, .f32⟩
  | 18 => ⟨S8x64x256, .f32⟩
  | 19 => ⟨S8x64x256, .f32⟩
  | 20 => ⟨S8x64x4x64, .f32⟩
  | 21 => ⟨S8x4x64x64, .f32⟩
  | 22 => ⟨S8x64x4x64, .f32⟩
  | 23 => ⟨S8x4x64x64, .f32⟩
  | 24 => ⟨S8x64x4x64, .f32⟩
  | 25 => ⟨S8x4x64x64, .f32⟩
  | 26 => ⟨S_, .f32⟩
  | 27 => ⟨S64x64, .f32⟩
  | 28 => ⟨S64x64, .i32⟩
  | 29 => ⟨S_, .i32⟩
  | 30 => ⟨S64x64, .i32⟩
  | 31 => ⟨S64x64, .i32⟩
  | 32 => ⟨S64x64, .i32⟩
  | 33 => ⟨S64x64, .i1⟩
  | 34 => ⟨S_, .f32⟩
  | 35 => ⟨S64x64, .f32⟩
  | 36 => ⟨S64x64, .f32⟩
  | 37 => ⟨S8x4x64x64, .f32⟩
  | 38 => ⟨S8x4x64x64, .f32⟩
  | 39 => ⟨S8x4x1x64, .f32⟩
  | 40 => ⟨S8x4x1x64, .f32⟩
  | 41 => ⟨S8x4x64, .f32⟩
  | 42 => ⟨S8x4x64x1, .f32⟩
  | 43 => ⟨S8x4x64x64, .f32⟩
  | 44 => ⟨S8x4x64x64, .f32⟩
  | 45 => ⟨S8x4x64x64, .f32⟩
  | 46 => ⟨S8x4x64x64, .f32⟩
  | 47 => ⟨S8x4x64x64, .f32⟩
  | 48 => ⟨S8x4x64x64, .f32⟩
  | 49 => ⟨S8x4x64x64, .f32⟩
  | 50 => ⟨S8x4x64x64, .f32⟩
  | 51 => ⟨S8x4x64x64, .f32⟩
  | 52 => ⟨S16x2x64x1x64, .f32⟩
  | 53 => ⟨S2x2, .i32⟩
  | 54 => ⟨S2x2, .i32⟩
  | 55 => ⟨S_, .i32⟩
  | 56 => ⟨S2x2, .i32⟩
  | 57 => ⟨S2x2, .i32⟩
  | 58 => ⟨S2x2, .i1⟩
  | 59 => ⟨S1x2x1x2x1, .i1⟩
  | 60 => ⟨S_, .f32⟩
  | 61 => ⟨S_, .f32⟩
  | 62 => ⟨S16x2x64x2x64, .i1⟩
  | 63 => ⟨S16x2x64x2x64, .f32⟩
  | 64 => ⟨S16x2x64x2x64, .f32⟩
  | 65 => ⟨S16x2x64x2x64, .f32⟩
  | 66 => ⟨S8x2x128x128, .f32⟩
  | _ => ⟨S8x64x1024, .f32⟩

abbrev hbmTy (i : Nat) : BufTy := match i / 128 with
  | 0 => hbmTy0_0 i
  | 1 => hbmTy0_1 i
  | 2 => hbmTy0_2 i
  | _ => ⟨S8x64x1024, .f32⟩

abbrev bufTy : (tb : Table) → Fin (tcTables nBuf tb) → BufTy
  | .hbm, ⟨i, _⟩ => hbmTy i
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_v2 : Ref sig .tc := ⟨.hbm, 25, rfl⟩
abbrev main_cst_0 : Ref sig .tc := ⟨.hbm, 26, rfl⟩
abbrev main_v3 : Ref sig .tc := ⟨.hbm, 27, rfl⟩
abbrev main_v4 : Ref sig .tc := ⟨.hbm, 28, rfl⟩
abbrev main_cst_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_2 : Ref sig .tc := ⟨.hbm, 48, rfl⟩
abbrev main_v23 : Ref sig .tc := ⟨.hbm, 49, rfl⟩
abbrev main_v24 : Ref sig .tc := ⟨.hbm, 50, rfl⟩
abbrev main_cst_3 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_4 : Ref sig .tc := ⟨.hbm, 80, rfl⟩
abbrev main_v53 : Ref sig .tc := ⟨.hbm, 81, rfl⟩
abbrev main_v54 : Ref sig .tc := ⟨.hbm, 82, rfl⟩
abbrev main_cst_5 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_6 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_7 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_8 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_9 : Ref sig .tc := ⟨.hbm, 135, rfl⟩
abbrev main_call0_v0 : Ref sig .tc := ⟨.hbm, 136, rfl⟩
abbrev main_call0_v1 : Ref sig .tc := ⟨.hbm, 137, rfl⟩
abbrev main_call0_v2 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_10 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_11 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_cst_12 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_cst_13 : Ref sig .tc := ⟨.hbm, 179, rfl⟩
abbrev main_v140 : Ref sig .tc := ⟨.hbm, 180, rfl⟩
abbrev main_v141 : Ref sig .tc := ⟨.hbm, 181, rfl⟩
abbrev main_cst_14 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_cst_15 : Ref sig .tc := ⟨.hbm, 188, rfl⟩
abbrev main_v147 : Ref sig .tc := ⟨.hbm, 189, rfl⟩
abbrev main_v148 : Ref sig .tc := ⟨.hbm, 190, rfl⟩
abbrev main_cst_16 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_cst_17 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_call1_v0 : Ref sig .tc := ⟨.hbm, 203, rfl⟩
abbrev main_call1_v1 : Ref sig .tc := ⟨.hbm, 204, rfl⟩
abbrev main_call1_cst : Ref sig .tc := ⟨.hbm, 205, rfl⟩
abbrev main_call1_v2 : Ref sig .tc := ⟨.hbm, 206, rfl⟩
abbrev main_call1_v3 : Ref sig .tc := ⟨.hbm, 207, rfl⟩
abbrev main_call1_cst_0 : Ref sig .tc := ⟨.hbm, 208, rfl⟩
abbrev main_call1_v4 : Ref sig .tc := ⟨.hbm, 209, rfl⟩
abbrev main_call1_v5 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_c : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_cst_18 : Ref sig .tc := ⟨.hbm, 222, rfl⟩
abbrev main_call2_v0 : Ref sig .tc := ⟨.hbm, 223, rfl⟩
abbrev main_call2_v1 : Ref sig .tc := ⟨.hbm, 224, rfl⟩
abbrev main_call2_v2 : Ref sig .tc := ⟨.hbm, 225, rfl⟩
abbrev main_call2_v3 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_cst_19 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_call3_v0 : Ref sig .tc := ⟨.hbm, 241, rfl⟩
abbrev main_call3_call0_cst : Ref sig .tc := ⟨.hbm, 242, rfl⟩
abbrev main_call3_call0_v0 : Ref sig .tc := ⟨.hbm, 243, rfl⟩
abbrev main_call3_call0_v1 : Ref sig .tc := ⟨.hbm, 244, rfl⟩
abbrev main_call3_call0_v2 : Ref sig .tc := ⟨.hbm, 245, rfl⟩
abbrev main_call3_call0_v3 : Ref sig .tc := ⟨.hbm, 246, rfl⟩
abbrev main_call3_call0_v4 : Ref sig .tc := ⟨.hbm, 247, rfl⟩
abbrev main_call3_call0_v5 : Ref sig .tc := ⟨.hbm, 248, rfl⟩
abbrev main_call3_call0_v6 : Ref sig .tc := ⟨.hbm, 249, rfl⟩
abbrev main_call3_call0_v7 : Ref sig .tc := ⟨.hbm, 250, rfl⟩
abbrev main_call3_call0_v8 : Ref sig .tc := ⟨.hbm, 251, rfl⟩
abbrev main_call3_call0_v9 : Ref sig .tc := ⟨.hbm, 252, rfl⟩
abbrev main_call3_call0_v10 : Ref sig .tc := ⟨.hbm, 253, rfl⟩
abbrev main_call3_call0_v11 : Ref sig .tc := ⟨.hbm, 254, rfl⟩
abbrev main_call3_v1 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_cst_20 : Ref sig .tc := ⟨.hbm, 282, rfl⟩
abbrev main_v208 : Ref sig .tc := ⟨.hbm, 283, rfl⟩
abbrev main_call4_v0 : Ref sig .tc := ⟨.hbm, 284, rfl⟩
abbrev main_call4_c : Ref sig .tc := ⟨.hbm, 285, rfl⟩
abbrev main_call4_v1 : Ref sig .tc := ⟨.hbm, 286, rfl⟩
abbrev main_call4_v2 : Ref sig .tc := ⟨.hbm, 287, rfl⟩
abbrev main_call4_v3 : Ref sig .tc := ⟨.hbm, 288, rfl⟩
abbrev main_call4_v4 : Ref sig .tc := ⟨.hbm, 289, rfl⟩
abbrev main_call4_cst : Ref sig .tc := ⟨.hbm, 290, rfl⟩
abbrev main_call4_v5 : Ref sig .tc := ⟨.hbm, 291, rfl⟩
abbrev main_v209 : Ref sig .tc := ⟨.hbm, 292, rfl⟩
abbrev main_v210 : Ref sig .tc := ⟨.hbm, 293, rfl⟩
abbrev main_v211 : Ref sig .tc := ⟨.hbm, 294, rfl⟩
abbrev main_v212 : Ref sig .tc := ⟨.hbm, 295, rfl⟩
abbrev main_v213 : Ref sig .tc := ⟨.hbm, 296, rfl⟩
abbrev main_v214 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_v218 : Ref sig .tc := ⟨.hbm, 301, rfl⟩
abbrev main_v219 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_v224 : Ref sig .tc := ⟨.hbm, 307, rfl⟩
abbrev main_v225 : Ref sig .tc := ⟨.hbm, 308, rfl⟩
abbrev main_v226 : Ref sig .tc := ⟨.hbm, 309, rfl⟩
abbrev main_v227 : Ref sig .tc := ⟨.hbm, 310, rfl⟩
abbrev main_c_21 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_cst_22 : Ref sig .tc := ⟨.hbm, 316, rfl⟩
abbrev main_call5_v0 : Ref sig .tc := ⟨.hbm, 317, rfl⟩
abbrev main_call5_v1 : Ref sig .tc := ⟨.hbm, 318, rfl⟩
abbrev main_call5_v2 : Ref sig .tc := ⟨.hbm, 319, rfl⟩
abbrev main_call5_v3 : Ref sig .tc := ⟨.hbm, 320, rfl⟩
abbrev main_v232 : Ref sig .tc := ⟨.hbm, 321, rfl⟩
abbrev main_v233 : Ref sig .tc := ⟨.hbm, 322, rfl⟩

abbrev nD : Nat := 1
abbrev τ : Topo := Topo.v7x

variable {F : FTy → Type} [FloatOps F]
-- ==== Proof.Scalars.lean ====
/- Facts about extended reals and about literals that the value proofs share. -/
module

public import Idealize.ShloMosaic.Lib.Pipeline.ValueKit
public import Idealize.ShloMosaic.Lib.ValueIdx

@[expose] public section

noncomputable section

open Idealize.ShloMosaic

namespace Cert.Proof

/-- The f32 pattern of one half. -/
theorem half_f32 : Ideal.ofBits .f32 0x3F000000#32 = ((1 / 2 : ℝ) : EReal) := by
  simp [Ideal.ofBits, Ideal.ieee, -EReal.coe_mul]; norm_num

/-- The kernel's sigmoid, half of one plus the hyperbolic tangent of half its argument, is the logistic function. -/
theorem sigmoid_eq (a : EReal) :
    Ideal.ofBits .f32 0x3F000000#32 * Ideal.tanh (Ideal.ofBits .f32 0x3F000000#32 * a) + Ideal.ofBits .f32 0x3F000000#32
      = Ideal.div 1 (1 + Ideal.exp (-a)) := by
  rw [half_f32]
  induction a using EReal.rec with
  | bot =>
    rw [EReal.coe_mul_bot_of_pos (by norm_num)]
    have e : (1 : EReal) + ⊤ = ⊤ := by rw [← EReal.coe_one]; exact EReal.coe_add_top _
    simp [Ideal.div, e]
    norm_cast
    norm_num
  | top =>
    rw [EReal.coe_mul_top_of_pos (by norm_num)]
    simp [Ideal.div]
    norm_cast
    norm_num
  | coe r =>
    have h0 : (0 : ℝ) < 1 + Real.exp (-r) := by positivity
    have hd : Ideal.div 1 (1 + Ideal.exp (-(r : EReal))) = ((1 / (1 + Real.exp (-r)) : ℝ) : EReal) := by
      rw [← EReal.coe_neg, Ideal.exp_coe, ← EReal.coe_one, ← EReal.coe_add, Ideal.div_coe h0.ne']
      rw [EReal.coe_one, one_mul]
    rw [hd, ← EReal.coe_mul, Ideal.tanh_coe, ← EReal.coe_mul, ← EReal.coe_add]
    congr 1
    rw [Real.tanh_eq_sinh_div_cosh, Real.sinh_eq, Real.cosh_eq]
    have e : Real.exp (-r) = (Real.exp (1 / 2 * r))⁻¹ * (Real.exp (1 / 2 * r))⁻¹ := by
      rw [← Real.exp_neg, ← Real.exp_add]; congr 1; ring
    rw [e, Real.exp_neg (1 / 2 * r)]
    have p1 := Real.exp_pos (1 / 2 * r)
    generalize Real.exp (1 / 2 * r) = u at p1
    field_simp
    ring
/-- A sum over 2816 columns is the eleven sums over its consecutive runs of 256, added in order. -/
theorem sum_runs {M : Type*} [AddCommMonoid M] (G : Fin 2816 → M) : ∑ f : Fin 2816, G f =
    (∑ x : Fin 256, G ⟨x.val, by omega⟩)
    + (∑ x : Fin 256, G ⟨256 + x.val, by omega⟩)
    + (∑ x : Fin 256, G ⟨512 + x.val, by omega⟩)
    + (∑ x : Fin 256, G ⟨768 + x.val, by omega⟩)
    + (∑ x : Fin 256, G ⟨1024 + x.val, by omega⟩)
    + (∑ x : Fin 256, G ⟨1280 + x.val, by omega⟩)
    + (∑ x : Fin 256, G ⟨1536 + x.val, by omega⟩)
    + (∑ x : Fin 256, G ⟨1792 + x.val, by omega⟩)
    + (∑ x : Fin 256, G ⟨2048 + x.val, by omega⟩)
    + (∑ x : Fin 256, G ⟨2304 + x.val, by omega⟩)
    + (∑ x : Fin 256, G ⟨2560 + x.val, by omega⟩) := by
  have e : ∀ H : Fin 11 → M, ∑ j, H j = H 0 + H 1 + H 2 + H 3 + H 4 + H 5 + H 6 + H 7 + H 8 + H 9 + H 10 := fun H => by
    simp only [Fin.sum_univ_castSucc, Fin.sum_univ_zero, zero_add]
    rfl
  have e0 : ∀ x : Fin 256, (⟨(0 : Fin 11).val * 256 + x.val, by omega⟩ : Fin 2816) = ⟨x.val, by omega⟩ := fun x => Fin.ext (Nat.zero_add _)
  rw [Fin.sum_univ_tiles 11 256 rfl, e]
  simp only [e0]
  rfl

end Cert.Proof

end
-- ==== Proof.FfnValue.lean ====
/- The result array of the `Ffn` call after its run, as the reference's term of the arguments. -/
module

public import proofs.«01_k».proof.Proof.Gen.FfnIdeal.Value
public import proofs.«01_k».proof.Proof.Gen.FfnRefIdeal.Read
public import proofs.«01_k».proof.Defs
public import proofs.«01_k».proof.Proof.Scalars
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Ffn

open Cert.FfnIdeal Cert.FfnIdeal.Gen
open Cert.FfnRefIdeal.Read (val_main_v0 val_main_v1 val_main_v2 val_main_v3 val_main_v4 val_main_v5 val_main_v6 val_main_v7 val_main_v8 val_main_v9 val_main_v10 val_main_v11 val_main_v12 val_main_v13 val_main_v14 val_main_v15 val_main_v16 val_main_v17 val_main_v18 val_main_v19 val_main_v20 val_main_call0_v0 val_main_call0_v1 val_main_call0_v2 val_main_call0_v3 val_main_call0_v4 val_main_call0_v5 val_main_call0_cst val_main_call0_cst_0 val_main_cst val_main_cst_0 val_main_cst_1 val_main_cst_2)

variable (m : (ℓ : Loc nD τ sig) → Buf (Elt Ideal) ℓ)

theorem idx_val : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The literal one half of the kernel and of the reference. -/
abbrev half : EReal := Ideal.ofBits .f32 0x3F000000#32

/-- The gated hidden value of row `r` at column `f`: silu of the gate product times the up product. -/
def act (h : FVec Ideal S1024x1024 .bf16) (wg wu : Vec Ideal S1024x2816 .bf16) (r : Fin 1024) (f : Fin 2816) : EReal :=
  (∑ k : Fin 1024, h (ix2 r k) * wg (ix2 k f)) *
    (half * Ideal.tanh (half * ∑ k : Fin 1024, h (ix2 r k) * wg (ix2 k f)) + half) *
    ∑ k : Fin 1024, h (ix2 r k) * wu (ix2 k f)

set_option maxHeartbeats 2000000 in
/-- The block the body writes, at one cell: the input plus half the product of the gated hidden row with the
down weights, the hidden columns summed at one go. -/
theorem out_at (x0 : Vec Ideal S1024x1024 .f32) (x1 : Vec Ideal S1x1024 .f32) (x2 x3 : Vec Ideal S1024x2816 .bf16) (x4 : Vec Ideal S2816x1024 .bf16) (x5 : Vec Ideal S1x1024 .f32)
    (h : FVec Ideal S1024x1024 .bf16) (hh : k0_pay22 (F := Ideal) x0 x1 x2 x3 x4 x5 = h)
    (r n : Fin 1024) : out0_6 (F := Ideal) x0 x1 x2 x3 x4 x5 (ix2 r n : S1024x1024.Idx) =
      x0 (ix2 r n) + half * ∑ f : Fin 2816, act h x2 x3 r f * x4 (ix2 f n) := by
  unfold out0_6
  rw [View.canon_unit_zero (by funext a; fin_cases a <;> rfl)]
  have h3 : k0_pay3 (F := Ideal) (View.ld x0 r0_0) (View.ld x1 r0_1) (View.ld x2 r0_2) (View.ld x3 r0_2) (View.ld x4 r0_3)
    = k0_pay4 (F := Ideal) h (fun _ => (0 : EReal)) (View.ld x2 r0_2) (View.ld x3 r0_2) (View.ld x4 r0_3) := by
    subst hh
    funext i
    pointwise [k0_pay3, k0_pay4, k0_pay22]
  rw [h3, hh]
  pointwise [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
  rw [sum_runs]
  rfl

set_option maxHeartbeats 2000000 in
/-- The reference's result at one cell, over its normed rows and the three weights. -/
theorem ref_at (a0 : Vec Ideal S65536x1024 .f32) (a1 : Vec Ideal S1024 .f32) (a2 a3 : Vec Ideal S1024x2816 .f32) (a4 : Vec Ideal S2816x1024 .f32)
    (r : Fin 65536) (n : Fin 1024) : val_main_v20 (F := Ideal) a0 a1 a2 a3 a4 (ix2 r n) =
      a0 (ix2 r n) + half * ∑ f : Fin 2816,
        ((∑ k : Fin 1024, val_main_v12 (F := Ideal) a0 a1 (ix2 r k) * a2 (ix2 k f)) *
          (half * Ideal.tanh (half * ∑ k : Fin 1024, val_main_v12 (F := Ideal) a0 a1 (ix2 r k) * a2 (ix2 k f)) + half) *
          ∑ k : Fin 1024, val_main_v12 (F := Ideal) a0 a1 (ix2 r k) * a3 (ix2 k f)) * a4 (ix2 f n) := by
  simp only [sigmoid_eq]
  pointwise [val_main_v13, val_main_v14, val_main_v15, val_main_v16, val_main_v17, val_main_v18, val_main_v19, val_main_v20,
    val_main_call0_v0, val_main_call0_v1, val_main_call0_v2, val_main_call0_v3, val_main_call0_v4, val_main_call0_v5, val_main_call0_cst,
    val_main_call0_cst_0, val_main_cst_2]

/-- The body's block over tiles that hold rows `R` of the tokens and the whole of the scale and the weights is the
reference's result at those rows. -/
theorem tile_at (x0 : Vec Ideal S1024x1024 .f32) (x1 : Vec Ideal S1x1024 .f32) (x2 x3 : Vec Ideal S1024x2816 .bf16) (x4 : Vec Ideal S2816x1024 .bf16) (x5 : Vec Ideal S1x1024 .f32)
    (a0 : Vec Ideal S65536x1024 .f32) (a1 : Vec Ideal S1024 .f32) (a2 a3 : Vec Ideal S1024x2816 .f32) (a4 : Vec Ideal S2816x1024 .f32)
    {R : Fin 1024 → Fin 65536} (e0 : ∀ r k : Fin 1024, x0 (ix2 r k) = a0 (ix2 (R r) k)) (e1 : ∀ k : Fin 1024, x1 (ix2 0 k) = a1 (ix1 k))
    (e2 : ∀ (k : Fin 1024) (f : Fin 2816), x2 (ix2 k f) = a2 (ix2 k f)) (e3 : ∀ (k : Fin 1024) (f : Fin 2816), x3 (ix2 k f) = a3 (ix2 k f))
    (e4 : ∀ (f : Fin 2816) (n : Fin 1024), x4 (ix2 f n) = a4 (ix2 f n)) (r n : Fin 1024) :
    out0_6 (F := Ideal) x0 x1 x2 x3 x4 x5 (ix2 r n : S1024x1024.Idx) = val_main_v20 (F := Ideal) a0 a1 a2 a3 a4 (ix2 (R r) n) := by
  have e : ∀ k : Fin 1024, k0_pay22 (F := Ideal) x0 x1 x2 x3 x4 x5 (ix2 r k : S1024x1024.Idx) = val_main_v12 (F := Ideal) a0 a1 (ix2 (R r) k) := fun k => by
    pointwise [k0_pay22, k0_pay2, val_main_v0, val_main_v1, val_main_v2, val_main_v3, val_main_v4, val_main_v5, val_main_v6, val_main_v7,
      val_main_v8, val_main_v9, val_main_v10, val_main_v11, val_main_v12, val_main_cst, val_main_cst_0, val_main_cst_1, e0, e1]
  rw [out_at _ _ _ _ _ _ _ rfl, ref_at]
  simp only [act, e, e0, e2, e3, e4]

/-- The token tile staged at point `t`: rows `1024 t` and on. -/
theorem iblk0 (c : Dev nD) (t : Fin cfg0.N) (a : Fin 1024) (k : Fin 1024) : iblk m c 0 t (ix2 a k : S1024x1024.Idx)
    = m ((c : Thread nD τ).loc main_arg0) (ix2 ⟨t.val * 1024 + a.val, by have := t.isLt; have : cfg0.N = 64 := rfl; omega⟩ k) := by
  blk_simp [iblk, idx_val t]
  blk_ext [idx_val t]

/-- The scale row, staged whole at every point. -/
theorem iblk1 (c : Dev nD) (t : Fin cfg0.N) (k : Fin 1024) : iblk m c 1 t (ix2 0 k : S1x1024.Idx)
    = m ((c : Thread nD τ).loc main_arg1) (ix1 k) := by
  blk_simp [iblk, idx_val t]
  entry_read
  pointwise
  blk_ext [idx_val t]

/-- The gate weights, staged whole at every point. -/
theorem iblk2 (c : Dev nD) (t : Fin cfg0.N) (k : Fin 1024) (n : Fin 2816) : iblk m c 2 t (ix2 k n : S1024x2816.Idx)
    = m ((c : Thread nD τ).loc main_arg2) (ix2 k n) := by
  blk_simp [iblk, idx_val t]
  entry_read
  pointwise
  blk_ext [idx_val t]

/-- The up weights, staged whole at every point. -/
theorem iblk3 (c : Dev nD) (t : Fin cfg0.N) (k : Fin 1024) (n : Fin 2816) : iblk m c 3 t (ix2 k n : S1024x2816.Idx)
    = m ((c : Thread nD τ).loc main_arg3) (ix2 k n) := by
  blk_simp [iblk, idx_val t]
  entry_read
  pointwise
  blk_ext [idx_val t]

/-- The down weights, staged whole at every point. -/
theorem iblk4 (c : Dev nD) (t : Fin cfg0.N) (k : Fin 2816) (n : Fin 1024) : iblk m c 4 t (ix2 k n : S2816x1024.Idx)
    = m ((c : Thread nD τ).loc main_arg4) (ix2 k n) := by
  blk_simp [iblk, idx_val t]
  entry_read
  pointwise
  blk_ext [idx_val t]

/-- Where block index `y` of point `t` lies in the result. -/
theorem emb6 (t : Fin cfg0.N) (y : S1024x1024.Idx) : ((cfg0.win 6).blk t).view.emb y
    = (ix2 ⟨t.val * 1024 + (y 0).val, by have := t.isLt; have : cfg0.N = 64 := rfl; have : (y 0).val < 1024 := (y 0).isLt; omega⟩ (y 1) : S65536x1024.Idx) := by
  blk_ext [idx_val t]

/-- What point `t` stores is the reference's result at the block's place. -/
theorem point6 (c : Dev nD) (t : Fin cfg0.N) (y : S1024x1024.Idx) :
    out0_6 (F := Ideal) (iblk m c 0 t) (iblk m c 1 t) (iblk m c 2 t) (iblk m c 3 t) (iblk m c 4 t) (iblk m c 5 t) y
      = val_main_v20 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (((cfg0.win 6).blk t).view.emb y) := by
  rw [emb6]
  idx_vars y
  exact tile_at _ _ _ _ _ _ _ _ _ _ _ (iblk0 m c t) (iblk1 m c t) (iblk2 m c t) (iblk3 m c t) (iblk4 m c t) _ _

/-- The result array after the run is the reference's. -/
theorem final6 (c : Dev nD) : (dats m 0 c).arrAt 6 cfg0.N
    = val_main_v20 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  exact point6 m c t y

/-- `Ffn` and its reference run, and from equal arguments the result arrays are equal. -/
theorem algebraic : Cert.algebraic_FfnIdeal_FfnRefIdeal (hFfnIdeal := Cert.FfnIdeal.Gen.facts)
    (hFfnRefIdeal := Cert.FfnRefIdeal.Gen.facts) := by
  pair_intro
  · run_from Cert.FfnIdeal.Gen.run_main m g
  · run_from Cert.FfnRefIdeal.Value.run m' g'
    exact (final6 m c).symm

end Cert.Proof.Ffn

end
-- ==== Proof.FfnFinalValue.lean ====
/- The result array of the `FfnFinal` call after its run, as the reference's term of the arguments. -/
module

public import proofs.«01_k».proof.Proof.Gen.FfnFinalIdeal.Value
public import proofs.«01_k».proof.Proof.Gen.FfnFinalRefIdeal.Read
public import proofs.«01_k».proof.Defs
public import proofs.«01_k».proof.Proof.FfnValue
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.FfnFinal

open Cert.FfnFinalIdeal Cert.FfnFinalIdeal.Gen
open Cert.FfnFinalRefIdeal.Read (val_main_v20 val_main_v21 val_main_v22 val_main_v23 val_main_v24 val_main_v25 val_main_v26 val_main_v27 val_main_v28 val_main_v29 val_main_v30 val_main_v31 val_main_v32 val_main_v33 val_main_cst_3 val_main_cst_4 val_main_cst_5)

variable (m : (ℓ : Loc nD τ sig) → Buf (Elt Ideal) ℓ)

/-- The block every window stages at grid point `t`: the token tile moves with `t`, the scale rows and the weights stay. -/
theorem idx_val : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- One cell of a row divided by its root mean square and scaled: `y` is the row, `g` the scale of the column. -/
def normed (y : Fin 1024 → EReal) (g : EReal) (n : Fin 1024) : EReal :=
  y n * Ideal.rsqrt (Ideal.div (∑ k : Fin 1024, y k * y k) (Ideal.ofBits .f32 0x44800000#32) + Ideal.ofBits .f32 0x358637BD#32) * g

/-- The last payload is the payload of `Ffn` with its rows normed and scaled. -/
theorem pay1_at (v0 v1 : Vec Ideal S1024x1024 .f32) (v2 v3 v4 : FVec Ideal S1024x256 .f32) (v5 : Vec Ideal S256x1024 .bf16) (v6 : Vec Ideal S1x1024 .f32)
    (r n : Fin 1024) : k0_pay1 (F := Ideal) v0 v1 v2 v3 v4 v5 v6 (ix2 r n : S1024x1024.Idx)
      = normed (fun k => Cert.FfnIdeal.Gen.k0_pay1 (F := Ideal) v0 v1 v2 v3 v4 v5 (ix2 r k)) (v6 (ix2 0 n)) n := by
  unfold normed
  pointwise [k0_pay1, Cert.FfnIdeal.Gen.k0_pay1]

/-- The block the body writes is the block of `Ffn` with its rows normed and scaled. -/
theorem out_at (x0 : Vec Ideal S1024x1024 .f32) (x1 : Vec Ideal S1x1024 .f32) (x2 x3 : Vec Ideal S1024x2816 .bf16) (x4 : Vec Ideal S2816x1024 .bf16) (x5 : Vec Ideal S1x1024 .f32)
    (r n : Fin 1024) : out0_6 (F := Ideal) x0 x1 x2 x3 x4 x5 (ix2 r n : S1024x1024.Idx)
      = normed (fun k => Cert.FfnIdeal.Gen.out0_6 (F := Ideal) x0 x1 x2 x3 x4 x5 (ix2 r k)) (x5 (ix2 0 n)) n := by
  unfold out0_6 Cert.FfnIdeal.Gen.out0_6
  rw [View.canon_unit_zero (by funext a; fin_cases a <;> rfl), View.canon_unit_zero (by funext a; fin_cases a <;> rfl), pay1_at]
  have e : View.ld x5 r0_1 (ix2 0 n) = x5 (ix2 0 n) := by pointwise
  rw [e]
  rfl

/-- The reference's result is the reference of `Ffn` with its rows normed and scaled. -/
theorem ref_at (a0 : Vec Ideal S65536x1024 .f32) (a1 : Vec Ideal S1024 .f32) (a2 a3 : Vec Ideal S1024x2816 .f32) (a4 : Vec Ideal S2816x1024 .f32) (a5 : Vec Ideal S1024 .f32)
    (r : Fin 65536) (n : Fin 1024) : val_main_v33 (F := Ideal) a0 a1 a2 a3 a4 a5 (ix2 r n)
      = normed (fun k => Cert.FfnRefIdeal.Read.val_main_v20 (F := Ideal) a0 a1 a2 a3 a4 (ix2 r k)) (a5 (ix1 n)) n := by
  have e : val_main_v20 (F := Ideal) a0 a1 a2 a3 a4 = Cert.FfnRefIdeal.Read.val_main_v20 (F := Ideal) a0 a1 a2 a3 a4 := rfl
  unfold normed
  rw [← e]
  pointwise [val_main_v21, val_main_v22, val_main_v23, val_main_v24, val_main_v25, val_main_v26, val_main_v27, val_main_v28, val_main_v29,
    val_main_v30, val_main_v31, val_main_v32, val_main_v33, val_main_cst_3, val_main_cst_4, val_main_cst_5]

/-- The token tile staged at point `t`: rows `1024 t` and on. -/
theorem iblk0 (c : Dev nD) (t : Fin cfg0.N) (a : Fin 1024) (k : Fin 1024) : iblk m c 0 t (ix2 a k : S1024x1024.Idx)
    = m ((c : Thread nD τ).loc main_arg0) (ix2 ⟨t.val * 1024 + a.val, by have := t.isLt; have : cfg0.N = 64 := rfl; omega⟩ k) := by
  blk_simp [iblk, idx_val t]
  blk_ext [idx_val t]

/-- The scale row, staged whole at every point. -/
theorem iblk1 (c : Dev nD) (t : Fin cfg0.N) (k : Fin 1024) : iblk m c 1 t (ix2 0 k : S1x1024.Idx)
    = m ((c : Thread nD τ).loc main_arg1) (ix1 k) := by
  blk_simp [iblk, idx_val t]
  entry_read
  pointwise
  blk_ext [idx_val t]

/-- The gate weights, staged whole at every point. -/
theorem iblk2 (c : Dev nD) (t : Fin cfg0.N) (k : Fin 1024) (n : Fin 2816) : iblk m c 2 t (ix2 k n : S1024x2816.Idx)
    = m ((c : Thread nD τ).loc main_arg2) (ix2 k n) := by
  blk_simp [iblk, idx_val t]
  entry_read
  pointwise
  blk_ext [idx_val t]

/-- The up weights, staged whole at every point. -/
theorem iblk3 (c : Dev nD) (t : Fin cfg0.N) (k : Fin 1024) (n : Fin 2816) : iblk m c 3 t (ix2 k n : S1024x2816.Idx)
    = m ((c : Thread nD τ).loc main_arg3) (ix2 k n) := by
  blk_simp [iblk, idx_val t]
  entry_read
  pointwise
  blk_ext [idx_val t]

/-- The down weights, staged whole at every point. -/
theorem iblk4 (c : Dev nD) (t : Fin cfg0.N) (k : Fin 2816) (n : Fin 1024) : iblk m c 4 t (ix2 k n : S2816x1024.Idx)
    = m ((c : Thread nD τ).loc main_arg4) (ix2 k n) := by
  blk_simp [iblk, idx_val t]
  entry_read
  pointwise
  blk_ext [idx_val t]

/-- The final scale row, staged whole at every point. -/
theorem iblk5 (c : Dev nD) (t : Fin cfg0.N) (k : Fin 1024) : iblk m c 5 t (ix2 0 k : S1x1024.Idx)
    = m ((c : Thread nD τ).loc main_arg5) (ix1 k) := by
  blk_simp [iblk, idx_val t]
  entry_read
  pointwise
  blk_ext [idx_val t]

/-- Where block index `y` of point `t` lies in the result. -/
theorem emb6 (t : Fin cfg0.N) (y : S1024x1024.Idx) : ((cfg0.win 6).blk t).view.emb y
    = (ix2 ⟨t.val * 1024 + (y 0).val, by have := t.isLt; have : cfg0.N = 64 := rfl; have : (y 0).val < 1024 := (y 0).isLt; omega⟩ (y 1) : S65536x1024.Idx) := by
  blk_ext [idx_val t]

/-- What point `t` stores is the reference's result at the block's place. -/
theorem point6 (c : Dev nD) (t : Fin cfg0.N) (y : S1024x1024.Idx) :
    out0_6 (F := Ideal) (iblk m c 0 t) (iblk m c 1 t) (iblk m c 2 t) (iblk m c 3 t) (iblk m c 4 t) (iblk m c 5 t) y
      = val_main_v33 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (m ((c : Thread nD τ).loc main_arg5)) (((cfg0.win 6).blk t).view.emb y) := by
  rw [emb6]
  idx_vars y
  have e := Ffn.tile_at (iblk m c 0 t) (iblk m c 1 t) (iblk m c 2 t) (iblk m c 3 t) (iblk m c 4 t) (iblk m c 5 t) _ _ _ _ _
    (iblk0 m c t) (iblk1 m c t) (iblk2 m c t) (iblk3 m c t) (iblk4 m c t)
  rw [out_at, ref_at]
  simp only [e, iblk5]

/-- The result array after the run is the reference's. -/
theorem final6 (c : Dev nD) : (dats m 0 c).arrAt 6 cfg0.N
    = val_main_v33 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  exact point6 m c t y

/-- `FfnFinal` and its reference run, and from equal arguments the result arrays are equal. -/
theorem algebraic : Cert.algebraic_FfnFinalIdeal_FfnFinalRefIdeal (hFfnFinalIdeal := Cert.FfnFinalIdeal.Gen.facts)
    (hFfnFinalRefIdeal := Cert.FfnFinalRefIdeal.Gen.facts) := by
  pair_intro
  · run_from Cert.FfnFinalIdeal.Gen.run_main m g
  · run_from Cert.FfnFinalRefIdeal.Value.run m' g'
    rw [Cert.FfnFinalRefIdeal.Read.val_main_v33_eq]
    simp only [*]
    exact (final6 m c).symm

end Cert.Proof.FfnFinal

end
-- ==== Proof.MemKvValue.lean ====
/- The two result arrays of the `MemKv` call after its run, as the reference's terms of the arguments. -/
module

public import proofs.«01_k».proof.Proof.Gen.MemKvIdeal.Value
public import proofs.«01_k».proof.Proof.Gen.MemKvRefIdeal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.MemKv

open Cert.MemKvIdeal Cert.MemKvIdeal.Gen
open Cert.MemKvRefIdeal.Read (val_main_v0 val_main_v1 val_main_v2 val_main_v3 val_main_v4 val_main_v5 val_main_v6 val_main_v7
  val_main_v8 val_main_v9 val_main_v10 val_main_v11 val_main_v12 val_main_v13 val_main_v14 val_main_v15 val_main_v16
  val_main_cst val_main_cst_0 val_main_cst_1)

variable (m : (ℓ : Loc nD τ sig) → Buf (Elt Ideal) ℓ)

/-- The block every window stages at grid point `t`: the token tile moves with `t`, the scale row and the weights stay. -/
theorem idx_val : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

/-- The token tile staged at point `t`, read at row `a`: row `512 t + a` of the flattened memory. -/
theorem iblk0 (c : Dev nD) (t : Fin cfg0.N) (a : Fin 512) (k : Fin 1024) : iblk m c 0 t (ix2 a k : S512x1024.Idx)
    = m ((c : Thread nD τ).loc main_arg0) (ix3 ⟨(t.val * 512 + a.val) / 256, by have := t.isLt; have : cfg0.N = 4 := rfl; omega⟩
        ⟨(t.val * 512 + a.val) % 256, by omega⟩ k) := by
  blk_simp [iblk, idx_val t]
  entry_read
  pointwise
  blk_ext [idx_val t]

/-- The scale row, staged whole at every point. -/
theorem iblk1 (c : Dev nD) (t : Fin cfg0.N) (k : Fin 1024) : iblk m c 1 t (ix2 0 k : S1x1024.Idx)
    = m ((c : Thread nD τ).loc main_arg1) (ix1 k) := by
  blk_simp [iblk, idx_val t]
  entry_read
  pointwise
  blk_ext [idx_val t]

/-- The key weights, staged whole at every point. -/
theorem iblk2 (c : Dev nD) (t : Fin cfg0.N) (k n : Fin 1024) : iblk m c 2 t (ix2 k n : S1024x1024.Idx)
    = m ((c : Thread nD τ).loc main_arg2) (ix2 k n) := by
  blk_simp [iblk, idx_val t]
  entry_read
  pointwise
  blk_ext [idx_val t]

/-- Where block index `y` of point `t` lies in the keys' array. -/
theorem emb4 (t : Fin cfg0.N) (y : S512x1024.Idx) : ((cfg0.win 4).blk t).view.emb y
    = (ix2 ⟨t.val * 512 + (y 0).val, by have := t.isLt; have : cfg0.N = 4 := rfl; have : (y 0).val < 512 := (y 0).isLt; omega⟩ (y 1) : S2048x1024.Idx) := by
  blk_ext [idx_val t]

/-- The value weights, staged whole at every point. -/
theorem iblk3 (c : Dev nD) (t : Fin cfg0.N) (k n : Fin 1024) : iblk m c 3 t (ix2 k n : S1024x1024.Idx)
    = m ((c : Thread nD τ).loc main_arg3) (ix2 k n) := by
  blk_simp [iblk, idx_val t]
  entry_read
  pointwise
  blk_ext [idx_val t]

/-- What point `t` stores in the keys' block is the reference's key array at the block's place. -/
theorem point4 (c : Dev nD) (t : Fin cfg0.N) (y : S512x1024.Idx) :
    k0_pay2 (F := Ideal) (iblk m c 0 t) (iblk m c 1 t) (iblk m c 2 t) y
      = val_main_v14 (F := Ideal) (m ((c : Thread nD τ).loc main_arg0)) (m ((c : Thread nD τ).loc main_arg1))
          (m ((c : Thread nD τ).loc main_arg2)) (((cfg0.win 4).blk t).view.emb y) := by
  rw [emb4]
  idx_vars y
  pointwise [k0_pay1, k0_pay2, val_main_v0, val_main_v1, val_main_v2, val_main_v3, val_main_v4, val_main_v5, val_main_v6, val_main_v7,
    val_main_v8, val_main_v9, val_main_v10, val_main_v11, val_main_v12, val_main_v13, val_main_v14, val_main_cst, val_main_cst_0,
    val_main_cst_1, iblk0 m c t, iblk1 m c t, iblk2 m c t]

/-- The keys' array after the run is the reference's. -/
theorem final4 (c : Dev nD) : (dats m 0 c).arrAt 4 cfg0.N
    = val_main_v14 (F := Ideal) (m ((c : Thread nD τ).loc main_arg0)) (m ((c : Thread nD τ).loc main_arg1))
        (m ((c : Thread nD τ).loc main_arg2)) := by
  refine (dats m 0 c).arrAt_eq_of_covers 4 _ (by decide +kernel) fun t hf y => ?_
  blk_simp
  rw [after0_4]; frame_out
  exact point4 m c t y

/-- Where block index `y` of point `t` lies in the values' array. -/
theorem emb5 (t : Fin cfg0.N) (y : S512x1024.Idx) : ((cfg0.win 5).blk t).view.emb y
    = (ix2 ⟨t.val * 512 + (y 0).val, by have := t.isLt; have : cfg0.N = 4 := rfl; have : (y 0).val < 512 := (y 0).isLt; omega⟩ (y 1) : S2048x1024.Idx) := by
  blk_ext [idx_val t]

/-- What point `t` stores in the values' block is the reference's value array at the block's place. -/
theorem point5 (c : Dev nD) (t : Fin cfg0.N) (y : S512x1024.Idx) :
    k0_pay3 (F := Ideal) (iblk m c 0 t) (iblk m c 1 t) (iblk m c 3 t) y
      = val_main_v16 (F := Ideal) (m ((c : Thread nD τ).loc main_arg0)) (m ((c : Thread nD τ).loc main_arg1))
          (m ((c : Thread nD τ).loc main_arg3)) (((cfg0.win 5).blk t).view.emb y) := by
  rw [emb5]
  idx_vars y
  pointwise [k0_pay1, k0_pay3, val_main_v0, val_main_v1, val_main_v2, val_main_v3, val_main_v4, val_main_v5, val_main_v6, val_main_v7,
    val_main_v8, val_main_v9, val_main_v10, val_main_v11, val_main_v12, val_main_v15, val_main_v16, val_main_cst, val_main_cst_0,
    val_main_cst_1, iblk0 m c t, iblk1 m c t, iblk3 m c t]

/-- The values' array after the run is the reference's. -/
theorem final5 (c : Dev nD) : (dats m 0 c).arrAt 5 cfg0.N
    = val_main_v16 (F := Ideal) (m ((c : Thread nD τ).loc main_arg0)) (m ((c : Thread nD τ).loc main_arg1))
        (m ((c : Thread nD τ).loc main_arg3)) := by
  refine (dats m 0 c).arrAt_eq_of_covers 5 _ (by decide +kernel) fun t hf y => ?_
  blk_simp
  rw [after0_5]; frame_out
  exact point5 m c t y

/-- `MemKv` and its reference run, and from equal arguments both result arrays are equal. -/
theorem algebraic : Cert.algebraic_MemKvIdeal_MemKvRefIdeal (hMemKvIdeal := Cert.MemKvIdeal.Gen.facts)
    (hMemKvRefIdeal := Cert.MemKvRefIdeal.Gen.facts) := by
  pair_intro
  · run_from Cert.MemKvIdeal.Gen.run_main m g
  · run_from Cert.MemKvRefIdeal.Value.run m' g'
    · exact (final4 m c).symm
    · exact (final5 m c).symm

end Cert.Proof.MemKv

end
-- ==== Proof.OutAttnValue.lean ====
/- The result array of the `OutAttn` call after its run, as the reference's term of the arguments. -/
module

public import proofs.«01_k».proof.Proof.Gen.OutAttnIdeal.Value
public import proofs.«01_k».proof.Proof.Gen.OutAttnRefIdeal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.OutAttn

open Cert.OutAttnIdeal Cert.OutAttnIdeal.Gen
open Cert.OutAttnRefIdeal.Read

variable (m : (ℓ : Loc nD τ sig) → Buf (Elt Ideal) ℓ)

/-- Column `d` of head `h` among the 1024 columns. -/
def hcol (h : Fin 4) (d : Fin 256) : Fin 1024 := ⟨h.val * 256 + d.val, by omega⟩

/-- A head's columns, as the payloads spell them. -/
theorem hcol0 (d : Fin 256) : hcol 0 d = ⟨d.val, by omega⟩ := Fin.ext (Nat.zero_add _)
/-- A head's columns, as the payloads spell them. -/
theorem hcol1 (d : Fin 256) : hcol 1 d = ⟨256 + d.val, by omega⟩ := rfl
/-- A head's columns, as the payloads spell them. -/
theorem hcol2 (d : Fin 256) : hcol 2 d = ⟨512 + d.val, by omega⟩ := rfl
/-- A head's columns, as the payloads spell them. -/
theorem hcol3 (d : Fin 256) : hcol 3 d = ⟨768 + d.val, by omega⟩ := rfl

/-- A sum over the 1024 columns is the sum over the four heads' columns, head by head. -/
theorem sum_heads {M : Type*} [AddCommMonoid M] (G : Fin 1024 → M) : ∑ k : Fin 1024, G k =
    (∑ x : Fin 256, G ⟨x.val, by omega⟩) + (∑ x : Fin 256, G ⟨256 + x.val, by omega⟩)
    + (∑ x : Fin 256, G ⟨512 + x.val, by omega⟩) + (∑ x : Fin 256, G ⟨768 + x.val, by omega⟩) := by
  have e : ∀ H : Fin 4 → M, ∑ j, H j = H 0 + H 1 + H 2 + H 3 := fun H => by
    simp only [Fin.sum_univ_castSucc, Fin.sum_univ_zero, zero_add]
    rfl
  have e0 : ∀ x : Fin 256, (⟨(0 : Fin 4).val * 256 + x.val, by omega⟩ : Fin 1024) = ⟨x.val, by omega⟩ := fun x => Fin.ext (Nat.zero_add _)
  rw [Fin.sum_univ_tiles 4 256 rfl, e]
  simp only [e0]
  rfl

/-- A sum over the 1024 mixed columns is the sum over the three mixers' columns, mixer by mixer. -/
theorem sum_mixers {M : Type*} [AddCommMonoid M] (G : Fin 1024 → M) : ∑ k : Fin 1024, G k =
    (∑ x : Fin 256, G ⟨x.val, by omega⟩) + (∑ x : Fin 384, G ⟨256 + x.val, by omega⟩) + (∑ x : Fin 384, G ⟨640 + x.val, by omega⟩) := by
  rw [← Equiv.sum_comp (finCongr (show 256 + 768 = 1024 from rfl)) G, Fin.sum_univ_add,
    ← Equiv.sum_comp (finCongr (show 384 + 384 = 768 from rfl)) (fun i => G (finCongr (show 256 + 768 = 1024 from rfl) (Fin.natAdd 256 i))),
    Fin.sum_univ_add, ← add_assoc]
  congr 1

/-- A token's row after the mixers' outputs went through the output weights: `x` the row, `a`, `b`, `c` the mixers' outputs. -/
def mixed (x : Fin 1024 → EReal) (a : Fin 256 → EReal) (b c : Fin 384 → EReal) (w : Fin 1024 → Fin 1024 → EReal) (n : Fin 1024) : EReal :=
  x n + (∑ k : Fin 256, a k * w ⟨k.val, by omega⟩ n) + (∑ k : Fin 384, b k * w ⟨256 + k.val, by omega⟩ n)
    + (∑ k : Fin 384, c k * w ⟨640 + k.val, by omega⟩ n)

/-- A token's query: its row `y` normed, scaled by `g` and sent through the query weights. -/
def query (y g : Fin 1024 → EReal) (wq : Fin 1024 → Fin 1024 → EReal) (n : Fin 1024) : EReal :=
  ∑ k : Fin 1024, y k * Ideal.rsqrt (Ideal.div (∑ i : Fin 1024, y i * y i) (Ideal.ofBits .f32 0x44800000#32) + Ideal.ofBits .f32 0x358637BD#32) * g k * wq k n

/-- A query's score against memory row `j` in head `h`. -/
def score (q : Fin 1024 → EReal) (mk : Fin 256 → Fin 1024 → EReal) (h : Fin 4) (j : Fin 256) : EReal :=
  (∑ d : Fin 256, q (hcol h d) * mk j (hcol h d)) * Ideal.ofBits .f32 0x3D800000#32

/-- The exponential of a score less the row's largest. -/
def lifted (s : Fin 256 → EReal) (j : Fin 256) : EReal :=
  Ideal.exp (s j - Finset.univ.fold max (Ideal.ofBits .f32 0xFF800000#32) fun i => s i)

/-- One column of the attention's output in a head: `p` the weights of the memory rows. -/
def blend (p : Fin 256 → EReal) (mv : Fin 256 → Fin 1024 → EReal) (h : Fin 4) (d : Fin 256) : EReal :=
  ∑ j : Fin 256, p j * mv j (hcol h d)

/-- A row plus its attention output through the output weights: `p h` the memory rows' weights in head `h`. -/
def attended (y : Fin 1024 → EReal) (p : Fin 4 → Fin 256 → EReal) (mv : Fin 256 → Fin 1024 → EReal) (wo : Fin 1024 → Fin 1024 → EReal) (n : Fin 1024) : EReal :=
  y n + ((∑ d : Fin 256, blend (p 0) mv 0 d * wo ⟨d.val, by omega⟩ n) + (∑ d : Fin 256, blend (p 1) mv 1 d * wo ⟨256 + d.val, by omega⟩ n)
    + (∑ d : Fin 256, blend (p 2) mv 2 d * wo ⟨512 + d.val, by omega⟩ n) + (∑ d : Fin 256, blend (p 3) mv 3 d * wo ⟨768 + d.val, by omega⟩ n))

/-- The weights as the kernel forms them: the exponential times the reciprocal of the row's sum. -/
def weight (s : Fin 256 → EReal) (j : Fin 256) : EReal := lifted s j * Ideal.div 1 (∑ i : Fin 256, lifted s i)

/-- The weights as the reference forms them: the exponential divided by the row's sum. -/
def share (s : Fin 256 → EReal) (j : Fin 256) : EReal := Ideal.div (lifted s j) (∑ i : Fin 256, lifted s i)

/-- The query rows of the first sub-tile. -/
theorem pay9_at (y : FVec Ideal S512x1024 .f32) (g : FVec Ideal S1x1024 .f32) (wq : Vec Ideal S1024x1024 .bf16) (r : Fin 512) (n : Fin 1024) :
    k0_pay9 (F := Ideal) y g (k0_pay8 y) wq (ix2 r n : S512x1024.Idx)
      = query (fun k => y (ix2 r k)) (fun k => g (ix2 0 k)) (fun k i => wq (ix2 k i)) n := by
  unfold query
  pointwise [k0_pay9, k0_pay8]

/-- The query rows of the second sub-tile. -/
theorem pay10_at (y : FVec Ideal S512x1024 .f32) (g : Vec Ideal S1x1024 .f32) (wq : Vec Ideal S1024x1024 .bf16) (r : Fin 512) (n : Fin 1024) :
    k0_pay10 (F := Ideal) y g wq (ix2 r n : S512x1024.Idx)
      = query (fun k => y (ix2 r k)) (fun k => g (ix2 0 k)) (fun k i => wq (ix2 k i)) n := by
  unfold query
  pointwise [k0_pay10]

/-- The scores of the first sub-tile, head 0. -/
theorem pay11_at (mk : FVec Ideal S256x1024 .bf16) (y : FVec Ideal S512x1024 .f32) (g : FVec Ideal S1x1024 .f32) (v : FVec Ideal S512x1024 .f32)
    (wq : Vec Ideal S1024x1024 .bf16) (r : Fin 512) (j : Fin 256) : k0_pay11 (F := Ideal) mk y g v wq (ix2 r j : S512x256.Idx)
      = score (fun k => k0_pay9 y g v wq (ix2 r k)) (fun i k => mk (ix2 i k)) 0 j := by
  unfold score
  simp only [hcol0]
  pointwise [k0_pay11]

/-- The scores of the first sub-tile, head 1. -/
theorem pay12_at (mk : FVec Ideal S256x1024 .bf16) (y : FVec Ideal S512x1024 .f32) (g : FVec Ideal S1x1024 .f32) (v : FVec Ideal S512x1024 .f32)
    (wq : Vec Ideal S1024x1024 .bf16) (r : Fin 512) (j : Fin 256) : k0_pay12 (F := Ideal) mk y g v wq (ix2 r j : S512x256.Idx)
      = score (fun k => k0_pay9 y g v wq (ix2 r k)) (fun i k => mk (ix2 i k)) 1 j := by
  unfold score
  simp only [hcol1]
  pointwise [k0_pay12]

/-- The scores of the first sub-tile, head 2. -/
theorem pay13_at (mk : FVec Ideal S256x1024 .bf16) (y : FVec Ideal S512x1024 .f32) (g : FVec Ideal S1x1024 .f32) (v : FVec Ideal S512x1024 .f32)
    (wq : Vec Ideal S1024x1024 .bf16) (r : Fin 512) (j : Fin 256) : k0_pay13 (F := Ideal) mk y g v wq (ix2 r j : S512x256.Idx)
      = score (fun k => k0_pay9 y g v wq (ix2 r k)) (fun i k => mk (ix2 i k)) 2 j := by
  unfold score
  simp only [hcol2]
  pointwise [k0_pay13]

/-- The scores of the first sub-tile, head 3. -/
theorem pay14_at (mk : FVec Ideal S256x1024 .bf16) (q : FVec Ideal S512x1024 .f32) (r : Fin 512) (j : Fin 256) :
    k0_pay14 (F := Ideal) mk q (ix2 r j : S512x256.Idx) = score (fun k => q (ix2 r k)) (fun i k => mk (ix2 i k)) 3 j := by
  unfold score
  simp only [hcol3]
  pointwise [k0_pay14]

/-- The scores of the second sub-tile, head 0. -/
theorem pay15_at (mk : FVec Ideal S256x1024 .bf16) (q : FVec Ideal S512x1024 .f32) (r : Fin 512) (j : Fin 256) :
    k0_pay15 (F := Ideal) mk q (ix2 r j : S512x256.Idx) = score (fun k => q (ix2 r k)) (fun i k => mk (ix2 i k)) 0 j := by
  unfold score
  simp only [hcol0]
  pointwise [k0_pay15]

/-- The scores of the second sub-tile, head 1. -/
theorem pay16_at (mk : FVec Ideal S256x1024 .bf16) (q : FVec Ideal S512x1024 .f32) (r : Fin 512) (j : Fin 256) :
    k0_pay16 (F := Ideal) mk q (ix2 r j : S512x256.Idx) = score (fun k => q (ix2 r k)) (fun i k => mk (ix2 i k)) 1 j := by
  unfold score
  simp only [hcol1]
  pointwise [k0_pay16]

/-- The scores of the second sub-tile, head 2. -/
theorem pay17_at (mk : FVec Ideal S256x1024 .bf16) (q : FVec Ideal S512x1024 .f32) (r : Fin 512) (j : Fin 256) :
    k0_pay17 (F := Ideal) mk q (ix2 r j : S512x256.Idx) = score (fun k => q (ix2 r k)) (fun i k => mk (ix2 i k)) 2 j := by
  unfold score
  simp only [hcol2]
  pointwise [k0_pay17]

/-- The scores of the second sub-tile, head 3. -/
theorem pay18_at (mk : FVec Ideal S256x1024 .bf16) (q : FVec Ideal S512x1024 .f32) (r : Fin 512) (j : Fin 256) :
    k0_pay18 (F := Ideal) mk q (ix2 r j : S512x256.Idx) = score (fun k => q (ix2 r k)) (fun i k => mk (ix2 i k)) 3 j := by
  unfold score
  simp only [hcol3]
  pointwise [k0_pay18]

/-- The attention output of the first sub-tile, head 0, from its scores. -/
theorem pay23_at (mv : FVec Ideal S256x1024 .bf16) (s : FVec Ideal S512x256 .f32) (r : Fin 512) (d : Fin 256) :
    k0_pay23 (F := Ideal) mv (k0_pay19 s) (ix2 r d : S512x256.Idx) = blend (weight fun j => s (ix2 r j)) (fun i k => mv (ix2 i k)) 0 d := by
  unfold blend weight lifted
  simp only [hcol0]
  pointwise [k0_pay23, k0_pay19]

/-- The attention output of the first sub-tile, head 1, from its scores. -/
theorem pay24_at (mv : FVec Ideal S256x1024 .bf16) (s : FVec Ideal S512x256 .f32) (r : Fin 512) (d : Fin 256) :
    k0_pay24 (F := Ideal) mv (k0_pay20 s) (ix2 r d : S512x256.Idx) = blend (weight fun j => s (ix2 r j)) (fun i k => mv (ix2 i k)) 1 d := by
  unfold blend weight lifted
  simp only [hcol1]
  pointwise [k0_pay24, k0_pay20]

/-- The attention output of the first sub-tile, head 2, from its scores. -/
theorem pay25_at (mv : FVec Ideal S256x1024 .bf16) (s : FVec Ideal S512x256 .f32) (r : Fin 512) (d : Fin 256) :
    k0_pay25 (F := Ideal) mv (k0_pay21 s) (ix2 r d : S512x256.Idx) = blend (weight fun j => s (ix2 r j)) (fun i k => mv (ix2 i k)) 2 d := by
  unfold blend weight lifted
  simp only [hcol2]
  pointwise [k0_pay25, k0_pay21]

/-- The attention output of the first sub-tile, head 3, from its scores. -/
theorem pay26_at (mk mv : FVec Ideal S256x1024 .bf16) (q : FVec Ideal S512x1024 .f32) (r : Fin 512) (d : Fin 256) :
    k0_pay26 (F := Ideal) mv (k0_pay14 mk q) (k0_pay22 mk q) (ix2 r d : S512x256.Idx)
      = blend (weight fun j => k0_pay14 mk q (ix2 r j)) (fun i k => mv (ix2 i k)) 3 d := by
  unfold blend weight lifted
  simp only [hcol3]
  pointwise [k0_pay26, k0_pay22]

/-- The attention output of the second sub-tile, head 0, from its scores. -/
theorem pay30_at (mv : FVec Ideal S256x1024 .bf16) (s : FVec Ideal S512x256 .f32) (r : Fin 512) (d : Fin 256) :
    k0_pay30 (F := Ideal) mv (k0_pay27 s) (ix2 r d : S512x256.Idx) = blend (weight fun j => s (ix2 r j)) (fun i k => mv (ix2 i k)) 0 d := by
  unfold blend weight lifted
  simp only [hcol0]
  pointwise [k0_pay30, k0_pay27]

/-- The attention output of the second sub-tile, head 1, from its scores. -/
theorem pay31_at (mv : FVec Ideal S256x1024 .bf16) (s : FVec Ideal S512x256 .f32) (r : Fin 512) (d : Fin 256) :
    k0_pay31 (F := Ideal) mv s (k0_pay28 s) (ix2 r d : S512x256.Idx) = blend (weight fun j => s (ix2 r j)) (fun i k => mv (ix2 i k)) 1 d := by
  unfold blend weight lifted
  simp only [hcol1]
  pointwise [k0_pay31, k0_pay28]

/-- The attention output of the second sub-tile, head 2, from its scores. -/
theorem pay32_at (mv : FVec Ideal S256x1024 .bf16) (s : FVec Ideal S512x256 .f32) (r : Fin 512) (d : Fin 256) :
    k0_pay32 (F := Ideal) mv s (ix2 r d : S512x256.Idx) = blend (weight fun j => s (ix2 r j)) (fun i k => mv (ix2 i k)) 2 d := by
  unfold blend weight lifted
  simp only [hcol2]
  pointwise [k0_pay32]

/-- The weights of the second sub-tile, head 3, from its scores. -/
theorem pay29_at (s : FVec Ideal S512x256 .f32) (r : Fin 512) (j : Fin 256) :
    k0_pay29 (F := Ideal) s (ix2 r j : S512x256.Idx) = weight (fun i => s (ix2 r i)) j := by
  unfold weight lifted
  pointwise [k0_pay29]

/-- The first sub-tile's stored rows, from the heads' outputs. -/
theorem pay1_at (y : FVec Ideal S512x1024 .f32) (o0 o1 o2 o3 : FVec Ideal S512x256 .f32) (wo : Vec Ideal S1024x1024 .bf16) (r : Fin 512) (n : Fin 1024) :
    k0_pay1 (F := Ideal) y o0 o1 o2 o3 wo (ix3 0 r n : S1x512x1024.Idx)
      = y (ix2 r n) + ((∑ d : Fin 256, o0 (ix2 r d) * wo (ix2 ⟨d.val, by omega⟩ n)) + (∑ d : Fin 256, o1 (ix2 r d) * wo (ix2 ⟨256 + d.val, by omega⟩ n))
          + (∑ d : Fin 256, o2 (ix2 r d) * wo (ix2 ⟨512 + d.val, by omega⟩ n)) + (∑ d : Fin 256, o3 (ix2 r d) * wo (ix2 ⟨768 + d.val, by omega⟩ n))) := by
  pointwise [k0_pay1]
  rw [sum_heads]
  pointwise
  refine congrArg (y (ix2 r n) + ·) (congrArg₂ (· + ·) (congrArg₂ (· + ·) rfl (Finset.sum_congr rfl fun x _ => ?_)) (Finset.sum_congr rfl fun x _ => ?_))
  · have e : 512 + x.val - 256 - 256 = x.val := by omega
    simp only [show ¬ (512 + x.val < 256) by omega, show ¬ (512 + x.val - 256 < 256) by omega, x.isLt, ↓reduceDIte, e, Fin.eta]
  · have e : 768 + x.val - 256 - 256 - 256 = x.val := by omega
    simp only [show ¬ (768 + x.val < 256) by omega, show ¬ (768 + x.val - 256 < 256) by omega, show ¬ (768 + x.val - 256 - 256 < 256) by omega, ↓reduceDIte, e, Fin.eta]

/-- The second sub-tile's stored rows, from the heads' outputs and the last head's weights. -/
theorem pay2_at (mv : FVec Ideal S256x1024 .bf16) (y : FVec Ideal S512x1024 .f32) (p3 o0 o1 o2 : FVec Ideal S512x256 .f32) (wo : Vec Ideal S1024x1024 .bf16)
    (r : Fin 512) (n : Fin 1024) : k0_pay2 (F := Ideal) mv y p3 o0 o1 o2 wo (ix3 0 r n : S1x512x1024.Idx)
      = y (ix2 r n) + ((∑ d : Fin 256, o0 (ix2 r d) * wo (ix2 ⟨d.val, by omega⟩ n)) + (∑ d : Fin 256, o1 (ix2 r d) * wo (ix2 ⟨256 + d.val, by omega⟩ n))
          + (∑ d : Fin 256, o2 (ix2 r d) * wo (ix2 ⟨512 + d.val, by omega⟩ n))
          + (∑ d : Fin 256, blend (fun j => p3 (ix2 r j)) (fun i k => mv (ix2 i k)) 3 d * wo (ix2 ⟨768 + d.val, by omega⟩ n))) := by
  unfold blend
  simp only [hcol3]
  pointwise [k0_pay2]
  rw [sum_heads]
  pointwise
  refine congrArg (y (ix2 r n) + ·) (congrArg₂ (· + ·) (congrArg₂ (· + ·) rfl (Finset.sum_congr rfl fun x _ => ?_)) (Finset.sum_congr rfl fun x _ => ?_))
  · have e : 512 + x.val - 256 - 256 = x.val := by omega
    simp only [show ¬ (512 + x.val < 256) by omega, show ¬ (512 + x.val - 256 < 256) by omega, x.isLt, ↓reduceDIte, e, Fin.eta]
  · have e : 768 + x.val - 256 - 256 - 256 = x.val := by omega
    simp only [show ¬ (768 + x.val < 256) by omega, show ¬ (768 + x.val - 256 < 256) by omega, show ¬ (768 + x.val - 256 - 256 < 256) by omega, ↓reduceDIte, e, Fin.eta]

/-- The first sub-tile's stored rows, from its mixed rows `y`. -/
theorem core1 (y : FVec Ideal S512x1024 .f32) (mk mv : FVec Ideal S256x1024 .bf16) (g : FVec Ideal S1x1024 .f32) (wq wo : Vec Ideal S1024x1024 .bf16)
    (r : Fin 512) (n : Fin 1024) :
    k0_pay1 (F := Ideal) y (k0_pay23 mv (k0_pay19 (k0_pay11 mk y g (k0_pay8 y) wq))) (k0_pay24 mv (k0_pay20 (k0_pay12 mk y g (k0_pay8 y) wq)))
        (k0_pay25 mv (k0_pay21 (k0_pay13 mk y g (k0_pay8 y) wq)))
        (k0_pay26 mv (k0_pay14 mk (k0_pay9 y g (k0_pay8 y) wq)) (k0_pay22 mk (k0_pay9 y g (k0_pay8 y) wq))) wo (ix3 0 r n : S1x512x1024.Idx)
      = attended (fun k => y (ix2 r k)) (fun h => weight (score (query (fun k => y (ix2 r k)) (fun k => g (ix2 0 k)) fun k i => wq (ix2 k i)) (fun i k => mk (ix2 i k)) h))
          (fun i k => mv (ix2 i k)) (fun i k => wo (ix2 i k)) n := by
  rw [pay1_at]
  simp only [pay23_at, pay24_at, pay25_at, pay26_at, pay11_at, pay12_at, pay13_at, pay14_at, pay9_at]
  rfl

/-- The second sub-tile's stored rows, from its mixed rows `y`. -/
theorem core2 (y : FVec Ideal S512x1024 .f32) (mk mv : FVec Ideal S256x1024 .bf16) (g : Vec Ideal S1x1024 .f32) (wq wo : Vec Ideal S1024x1024 .bf16)
    (r : Fin 512) (n : Fin 1024) :
    k0_pay2 (F := Ideal) mv y (k0_pay29 (k0_pay18 mk (k0_pay10 y g wq))) (k0_pay30 mv (k0_pay27 (k0_pay15 mk (k0_pay10 y g wq))))
        (k0_pay31 mv (k0_pay16 mk (k0_pay10 y g wq)) (k0_pay28 (k0_pay16 mk (k0_pay10 y g wq)))) (k0_pay32 mv (k0_pay17 mk (k0_pay10 y g wq))) wo
        (ix3 0 r n : S1x512x1024.Idx)
      = attended (fun k => y (ix2 r k)) (fun h => weight (score (query (fun k => y (ix2 r k)) (fun k => g (ix2 0 k)) fun k i => wq (ix2 k i)) (fun i k => mk (ix2 i k)) h))
          (fun i k => mv (ix2 i k)) (fun i k => wo (ix2 i k)) n := by
  rw [pay2_at]
  simp only [pay30_at, pay31_at, pay32_at, pay29_at, pay15_at, pay16_at, pay17_at, pay18_at, pay10_at]
  rfl

/-- The block the body writes, at a row of the tile. -/
theorem out_at (x0 : Vec Ideal S1x1024x1024 .f32) (x1 : Vec Ideal S1x1024x256 .f32) (x2 x3 : Vec Ideal S1x1024x384 .f32) (x4 : Vec Ideal S256x1024 .bf16)
    (x5 x6 : Vec Ideal S384x1024 .bf16) (x7 : Vec Ideal S1x1024 .f32) (x8 x9 : Vec Ideal S1024x1024 .bf16) (x10 x11 : Vec Ideal S1x1x256x1024 .f32)
    (w : Fin 1024 → Fin 1024 → EReal) (e4 : ∀ (k : Fin 256) n, x4 (ix2 k n) = w ⟨k.val, by omega⟩ n) (e5 : ∀ (k : Fin 384) n, x5 (ix2 k n) = w ⟨256 + k.val, by omega⟩ n)
    (e6 : ∀ (k : Fin 384) n, x6 (ix2 k n) = w ⟨640 + k.val, by omega⟩ n)
    (r n : Fin 1024) : out0_12 (F := Ideal) x0 x1 x2 x3 x4 x5 x6 x7 x8 x9 x10 x11 (ix3 0 r n : S1x1024x1024.Idx)
      = attended (mixed (fun k => x0 (ix3 0 r k)) (fun k => x1 (ix3 0 r k)) (fun k => x2 (ix3 0 r k)) (fun k => x3 (ix3 0 r k)) w)
          (fun h => weight (score (query (mixed (fun k => x0 (ix3 0 r k)) (fun k => x1 (ix3 0 r k)) (fun k => x2 (ix3 0 r k)) (fun k => x3 (ix3 0 r k)) w)
            (fun k => x7 (ix2 0 k)) fun k i => x8 (ix2 k i)) (fun i k => x10 (ix4 0 0 i k)) h))
          (fun i k => x11 (ix4 0 0 i k)) (fun i k => x9 (ix2 i k)) n := by
  unfold out0_12
  canon_tiles i h
  · idx_vars i
    obtain rfl : i0 = 0 := Subsingleton.elim _ _
    obtain rfl : i2 = n := Fin.ext h2.symm
    have b1 : 512 + i1.val < 1024 := by omega
    have er : r = ⟨512 + i1.val, b1⟩ := Fin.ext h1
    clear h1
    subst er
    unfold k0_pay41 k0_pay40
    rw [core2]
    have ey : (fun k => k0_pay36 (F := Ideal) x0 x1 x2 x3 x4 x5 x6 x7 x8 x9 x10 x11 (ix2 i1 k)) = mixed (fun k => x0 (ix3 0 ⟨512 + i1.val, by omega⟩ k))
        (fun k => x1 (ix3 0 ⟨512 + i1.val, by omega⟩ k)) (fun k => x2 (ix3 0 ⟨512 + i1.val, by omega⟩ k)) (fun k => x3 (ix3 0 ⟨512 + i1.val, by omega⟩ k)) w := by
      funext k
      unfold mixed
      pointwise [k0_pay36, k0_pay6, e4, e5, e6]
    rw [ey]
    pointwise [k0_pay33, k0_pay34, k0_pay3, k0_pay4]
  · idx_vars i
    obtain rfl : i0 = 0 := Subsingleton.elim _ _
    obtain rfl : i2 = n := Fin.ext h2.symm
    have b1 : i1.val < 1024 := by omega
    have er : r = ⟨i1.val, b1⟩ := Fin.ext h1
    clear h1
    subst er
    unfold k0_pay39 k0_pay38
    rw [core1]
    have ey : (fun k => k0_pay35 (F := Ideal) x0 x1 x2 x3 x4 x5 x6 x7 x8 x9 x10 x11 (ix2 i1 k)) = mixed (fun k => x0 (ix3 0 ⟨i1.val, by omega⟩ k))
        (fun k => x1 (ix3 0 ⟨i1.val, by omega⟩ k)) (fun k => x2 (ix3 0 ⟨i1.val, by omega⟩ k)) (fun k => x3 (ix3 0 ⟨i1.val, by omega⟩ k)) w := by
      funext k
      unfold mixed
      pointwise [k0_pay35, k0_pay5, e4, e5, e6]
    rw [ey]
    pointwise [k0_pay33, k0_pay34, k0_pay37, k0_pay3, k0_pay4, k0_pay7]

/-- The reference's row after the output weights. -/
theorem v2_at (a0 : Vec Ideal S8x8192x1024 .f32) (a1 : Vec Ideal S8x8192x256 .f32) (a2 a3 : Vec Ideal S8x8192x384 .f32) (a4 : Vec Ideal S1024x1024 .f32)
    (b : Fin 8) (t : Fin 8192) (n : Fin 1024) : val_main_v2 (F := Ideal) a0 a1 a2 a3 a4 (ix3 b t n)
      = mixed (fun k => a0 (ix3 b t k)) (fun k => a1 (ix3 b t k)) (fun k => a2 (ix3 b t k)) (fun k => a3 (ix3 b t k)) (fun k i => a4 (ix2 k i)) n := by
  unfold mixed
  pointwise [val_main_v0, val_main_v1, val_main_v2]
  rw [sum_mixers]
  pointwise
  rw [← add_assoc, ← add_assoc]
  congr 1

/-- The reference's query. -/
theorem v20_at (a0 : Vec Ideal S8x8192x1024 .f32) (a1 : Vec Ideal S8x8192x256 .f32) (a2 a3 : Vec Ideal S8x8192x384 .f32) (a4 : Vec Ideal S1024x1024 .f32)
    (a5 : Vec Ideal S1024 .f32) (a6 : Vec Ideal S1024x1024 .f32) (b : Fin 8) (t : Fin 8192) (n : Fin 1024) : val_main_v20 (F := Ideal) a0 a1 a2 a3 a4 a5 a6 (ix3 b t n)
      = query (fun k => val_main_v2 (F := Ideal) a0 a1 a2 a3 a4 (ix3 b t k)) (fun k => a5 (ix1 k)) (fun k i => a6 (ix2 k i)) n := by
  unfold query
  pointwise [val_main_v3, val_main_v4, val_main_v5, val_main_v6, val_main_v7, val_main_v8, val_main_v9, val_main_v10, val_main_v11, val_main_v12, val_main_v13,
    val_main_v14, val_main_v15, val_main_v20, val_main_cst, val_main_cst_0, val_main_cst_1]

/-- The reference's scores. -/
theorem v24_at (a0 : Vec Ideal S8x8192x1024 .f32) (a1 : Vec Ideal S8x8192x256 .f32) (a2 a3 : Vec Ideal S8x8192x384 .f32) (a4 : Vec Ideal S1024x1024 .f32)
    (a5 : Vec Ideal S1024 .f32) (a6 : Vec Ideal S1024x1024 .f32) (a8 : Vec Ideal S4x8x256x4x256 .f32) (b : Fin 8) (h : Fin 4) (t : Fin 8192) (j : Fin 256) :
    val_main_v24 (F := Ideal) a0 a1 a2 a3 a4 a5 a6 a8 (ix4 b h t j)
      = score (fun k => val_main_v20 (F := Ideal) a0 a1 a2 a3 a4 a5 a6 (ix3 b t k)) (fun i k => a8 (ix5 0 b i ⟨k.val / 256, by omega⟩ ⟨k.val % 256, by omega⟩)) h j := by
  unfold score hcol
  pointwise [val_main_v16, val_main_v17, val_main_v21, val_main_v22, val_main_v23, val_main_v24, val_main_cst_2]
  congr 1
  refine Finset.sum_congr rfl fun x _ => ?_
  simp only [show (h.val * 256 + x.val) / 256 = h.val by omega, show (h.val * 256 + x.val) % 256 = x.val by omega, Fin.eta]

/-- The largest score of a row in the reference. -/
theorem v25_at (a0 : Vec Ideal S8x8192x1024 .f32) (a1 : Vec Ideal S8x8192x256 .f32) (a2 a3 : Vec Ideal S8x8192x384 .f32) (a4 : Vec Ideal S1024x1024 .f32)
    (a5 : Vec Ideal S1024 .f32) (a6 : Vec Ideal S1024x1024 .f32) (a8 : Vec Ideal S4x8x256x4x256 .f32) (b : Fin 8) (h : Fin 4) (t : Fin 8192) :
    val_main_v25 (F := Ideal) a0 a1 a2 a3 a4 a5 a6 a8 (ix3 b h t) = Finset.univ.fold max (Ideal.ofBits .f32 0xFF800000#32) fun j => val_main_v24 (F := Ideal) a0 a1 a2 a3 a4 a5 a6 a8 (ix4 b h t j) := by
  unfold val_main_v25
  generalize val_main_v24 (F := Ideal) a0 a1 a2 a3 a4 a5 a6 a8 = x
  rw [Host.reduce_eq_fold]
  pointwise [val_main_cst_3]

/-- The largest score against −∞ in the reference. -/
theorem v27_at (a0 : Vec Ideal S8x8192x1024 .f32) (a1 : Vec Ideal S8x8192x256 .f32) (a2 a3 : Vec Ideal S8x8192x384 .f32) (a4 : Vec Ideal S1024x1024 .f32)
    (a5 : Vec Ideal S1024 .f32) (a6 : Vec Ideal S1024x1024 .f32) (a8 : Vec Ideal S4x8x256x4x256 .f32) (b : Fin 8) (h : Fin 4) (t : Fin 8192) :
    val_main_v27 (F := Ideal) a0 a1 a2 a3 a4 a5 a6 a8 (ix3 b h t) = max (Ideal.ofBits .f32 0xFF800000#32) (val_main_v25 (F := Ideal) a0 a1 a2 a3 a4 a5 a6 a8 (ix3 b h t)) := by
  have e : val_main_v26 (F := Ideal) (ix3 b h t) = Ideal.ofBits .f32 0xFF800000#32 := by pointwise [val_main_v26, val_main_cst_4]
  rw [val_main_v27_apply, e]
  generalize val_main_v25 (F := Ideal) a0 a1 a2 a3 a4 a5 a6 a8 (ix3 b h t) = y
  rfl

/-- The largest score, spread over the row, in the reference. -/
theorem v29_at (a0 : Vec Ideal S8x8192x1024 .f32) (a1 : Vec Ideal S8x8192x256 .f32) (a2 a3 : Vec Ideal S8x8192x384 .f32) (a4 : Vec Ideal S1024x1024 .f32)
    (a5 : Vec Ideal S1024 .f32) (a6 : Vec Ideal S1024x1024 .f32) (a8 : Vec Ideal S4x8x256x4x256 .f32) (b : Fin 8) (h : Fin 4) (t : Fin 8192) (j : Fin 256) :
    val_main_v29 (F := Ideal) a0 a1 a2 a3 a4 a5 a6 a8 (ix4 b h t j) = val_main_v27 (F := Ideal) a0 a1 a2 a3 a4 a5 a6 a8 (ix3 b h t) := by
  pointwise [val_main_v28, val_main_v29]

/-- The exponential of the scores in the reference. -/
theorem v31_at (a0 : Vec Ideal S8x8192x1024 .f32) (a1 : Vec Ideal S8x8192x256 .f32) (a2 a3 : Vec Ideal S8x8192x384 .f32) (a4 : Vec Ideal S1024x1024 .f32)
    (a5 : Vec Ideal S1024 .f32) (a6 : Vec Ideal S1024x1024 .f32) (a8 : Vec Ideal S4x8x256x4x256 .f32) (b : Fin 8) (h : Fin 4) (t : Fin 8192) (j : Fin 256) :
    val_main_v31 (F := Ideal) a0 a1 a2 a3 a4 a5 a6 a8 (ix4 b h t j) = lifted (fun j => val_main_v24 (F := Ideal) a0 a1 a2 a3 a4 a5 a6 a8 (ix4 b h t j)) j := by
  have e : val_main_v29 (F := Ideal) a0 a1 a2 a3 a4 a5 a6 a8 (ix4 b h t j) = Finset.univ.fold max (Ideal.ofBits .f32 0xFF800000#32) fun j => val_main_v24 (F := Ideal) a0 a1 a2 a3 a4 a5 a6 a8 (ix4 b h t j) := by
    rw [v29_at, v27_at, v25_at]
    exact max_eq_right ((Finset.le_fold_max _).2 (Or.inl le_rfl))
  unfold lifted
  rw [← e]
  rfl

/-- The softmax of the scores in the reference. -/
theorem v35_at (a0 : Vec Ideal S8x8192x1024 .f32) (a1 : Vec Ideal S8x8192x256 .f32) (a2 a3 : Vec Ideal S8x8192x384 .f32) (a4 : Vec Ideal S1024x1024 .f32)
    (a5 : Vec Ideal S1024 .f32) (a6 : Vec Ideal S1024x1024 .f32) (a8 : Vec Ideal S4x8x256x4x256 .f32) (b : Fin 8) (h : Fin 4) (t : Fin 8192) (j : Fin 256) :
    val_main_v35 (F := Ideal) a0 a1 a2 a3 a4 a5 a6 a8 (ix4 b h t j) = share (fun j => val_main_v24 (F := Ideal) a0 a1 a2 a3 a4 a5 a6 a8 (ix4 b h t j)) j := by
  unfold share
  pointwise [val_main_v32, val_main_v33, val_main_v34, val_main_v35, val_main_cst_5, v31_at]

/-- The reference's blended values, one token and one column of all heads. -/
theorem v38_at (a0 : Vec Ideal S8x8192x1024 .f32) (a1 : Vec Ideal S8x8192x256 .f32) (a2 a3 : Vec Ideal S8x8192x384 .f32) (a4 : Vec Ideal S1024x1024 .f32)
    (a5 : Vec Ideal S1024 .f32) (a6 : Vec Ideal S1024x1024 .f32) (a8 a9 : Vec Ideal S4x8x256x4x256 .f32) (b : Fin 8) (h : Fin 4) (d : Fin 256) (t : Fin 8192) :
    val_main_v38 (F := Ideal) a0 a1 a2 a3 a4 a5 a6 a8 a9 (ix3 b t (hcol h d)) = blend (share fun j => val_main_v24 (F := Ideal) a0 a1 a2 a3 a4 a5 a6 a8 (ix4 b h t j))
      (fun i k => a9 (ix5 0 b i ⟨k.val / 256, by omega⟩ ⟨k.val % 256, by omega⟩)) h d := by
  unfold blend hcol
  pointwise [val_main_v18, val_main_v19, val_main_v36, val_main_v37, val_main_v38, v35_at]
  refine Finset.sum_congr rfl fun x _ => ?_
  simp only [show (h.val * 256 + d.val) / 256 = h.val by omega, show (h.val * 256 + d.val) % 256 = d.val by omega, Fin.eta]
  exact mul_comm _ _

/-- The reference's result, from its row and its scores. -/
theorem v40_at (a0 : Vec Ideal S8x8192x1024 .f32) (a1 : Vec Ideal S8x8192x256 .f32) (a2 a3 : Vec Ideal S8x8192x384 .f32) (a4 : Vec Ideal S1024x1024 .f32)
    (a5 : Vec Ideal S1024 .f32) (a6 a7 : Vec Ideal S1024x1024 .f32) (a8 a9 : Vec Ideal S4x8x256x4x256 .f32) (b : Fin 8) (t : Fin 8192) (n : Fin 1024) :
    val_main_v40 (F := Ideal) a0 a1 a2 a3 a4 a5 a6 a7 a8 a9 (ix3 b t n)
      = attended (fun k => val_main_v2 (F := Ideal) a0 a1 a2 a3 a4 (ix3 b t k)) (fun h => share fun j => val_main_v24 (F := Ideal) a0 a1 a2 a3 a4 a5 a6 a8 (ix4 b h t j))
          (fun i k => a9 (ix5 0 b i ⟨k.val / 256, by omega⟩ ⟨k.val % 256, by omega⟩)) (fun i k => a7 (ix2 i k)) n := by
  unfold attended
  pointwise [val_main_v39, val_main_v40]
  rw [sum_heads]
  simp only [← hcol0, ← hcol1, ← hcol2, ← hcol3, v38_at]

/-- Over real scores the weights of the memory rows are the exponentials divided by their sum. -/
theorem weight_eq_share (s : Fin 256 → EReal) (hs : ∀ j, s j ≠ ⊤ ∧ s j ≠ ⊥) : weight s = share s := by
  obtain ⟨f, rfl⟩ : ∃ f : Fin 256 → ℝ, s = fun j => (f j : EReal) :=
    ⟨fun j => (s j).toReal, funext fun j => (EReal.coe_toReal (hs j).1 (hs j).2).symm⟩
  have hb : Ideal.ofBits .f32 0xFF800000#32 = ⊥ := by simp [Ideal.ofBits, Ideal.ieee]
  obtain ⟨u, hu⟩ : ∃ u : ℝ, Finset.univ.fold max (Ideal.ofBits .f32 0xFF800000#32) (fun i => (f i : EReal)) = u := by
    have h1 : Finset.univ.fold max (Ideal.ofBits .f32 0xFF800000#32) (fun i => (f i : EReal)) < ⊤ :=
      (Finset.fold_max_lt _).2 ⟨by rw [hb]; exact bot_lt_top, fun i _ => EReal.coe_lt_top _⟩
    have h2 : ⊥ < Finset.univ.fold max (Ideal.ofBits .f32 0xFF800000#32) (fun i => (f i : EReal)) :=
      (Finset.lt_fold_max _).2 (Or.inr ⟨0, Finset.mem_univ _, EReal.bot_lt_coe _⟩)
    exact ⟨_, (EReal.coe_toReal h1.ne h2.ne').symm⟩
  have hl : ∀ j, lifted (fun j => (f j : EReal)) j = ((Real.exp (f j - u) : ℝ) : EReal) := fun j => by
    unfold lifted
    rw [hu, ← EReal.coe_sub, Ideal.exp_coe]
  have hsum : (∑ i : Fin 256, ((Real.exp (f i - u) : ℝ) : EReal)) = ((∑ i : Fin 256, Real.exp (f i - u) : ℝ) : EReal) :=
    Finset.sum_hom_rel (r := fun (a : EReal) (b : ℝ) => a = b) rfl fun i a b e => by rw [e, EReal.coe_add]
  have hne : (∑ i : Fin 256, Real.exp (f i - u)) ≠ 0 :=
    (Finset.sum_pos (fun i _ => Real.exp_pos _) ⟨0, Finset.mem_univ _⟩).ne'
  funext j
  unfold weight share
  simp only [hl, hsum]
  rw [Ideal.div_coe hne, Ideal.div_coe hne, one_mul]

/-- The side conditions of the precondition's operations hold: they are those of the reference's. -/
theorem pre_facts : Cert.Pre_scores_finite.Facts where
  concatenates_S8x8192x256_S8x8192x384_S8x8192x384_S8x8192x1024_d2 := Cert.OutAttnRefIdeal.Gen.concatenates_S8x8192x256_S8x8192x384_S8x8192x384_S8x8192x1024_d2
  reducesTo_S8x8192x1024_S8x8192_d2 := Cert.OutAttnRefIdeal.Gen.reducesTo_S8x8192x1024_S8x8192_d2
  h_S_ := Cert.OutAttnRefIdeal.Gen.h_S_
  bcast_S8x8192_S8x8192x1_0_1 := Cert.OutAttnRefIdeal.Gen.bcast_S8x8192_S8x8192x1_0_1
  bcast_S_S8x8192x1 := Cert.OutAttnRefIdeal.Gen.bcast_S_S8x8192x1
  bcast_S8x8192x1_S8x8192x1024_0_1_2 := Cert.OutAttnRefIdeal.Gen.bcast_S8x8192x1_S8x8192x1024_0_1_2
  bcast_S1024_S1x1x1024_2 := Cert.OutAttnRefIdeal.Gen.bcast_S1024_S1x1x1024_2
  bcast_S1x1x1024_S8x8192x1024_0_1_2 := Cert.OutAttnRefIdeal.Gen.bcast_S1x1x1024_S8x8192x1024_0_1_2
  slices_S4x8x256x4x256_S1x8x256x4x256_0_0_0_0_0 := Cert.OutAttnRefIdeal.Gen.slices_S4x8x256x4x256_S1x8x256x4x256_0_0_0_0_0
  shapeCasts_S1x8x256x4x256_S8x256x4x256 := Cert.OutAttnRefIdeal.Gen.shapeCasts_S1x8x256x4x256_S8x256x4x256
  shapeCasts_S8x8192x1024_S8x8192x4x256 := Cert.OutAttnRefIdeal.Gen.shapeCasts_S8x8192x1024_S8x8192x4x256
  bcast_S_S8x4x8192x256 := Cert.OutAttnRefIdeal.Gen.bcast_S_S8x4x8192x256
  dot_S8x8192x1024_S1024x1024_S8x8192x1024_2_0_01_1_n_n_wf := Cert.OutAttnRefIdeal.Gen.dot_S8x8192x1024_S1024x1024_S8x8192x1024_2_0_01_1_n_n_wf
  dot_S8x8192x4x256_S8x256x4x256_S8x4x8192x256_3_3_1_1_02_02_wf := Cert.OutAttnRefIdeal.Gen.dot_S8x8192x4x256_S8x256x4x256_S8x4x8192x256_3_3_1_1_02_02_wf

/-- Where the precondition holds, every score is finite. -/
theorem scores_real (a0 : Vec Ideal S8x8192x1024 .f32) (a1 : Vec Ideal S8x8192x256 .f32) (a2 a3 : Vec Ideal S8x8192x384 .f32) (a4 : Vec Ideal S1024x1024 .f32)
    (a5 : Vec Ideal S1024 .f32) (a6 a7 : Vec Ideal S1024x1024 .f32) (a8 a9 : Vec Ideal S4x8x256x4x256 .f32)
    (hp : letI := pre_facts; Cert.Pre_scores_finite.fn (F := Ideal) a0 a1 a2 a3 a4 a5 a6 a7 a8 a9 = fun _ => 1#1)
    (b : Fin 8) (h : Fin 4) (t : Fin 8192) (j : Fin 256) :
    val_main_v24 (F := Ideal) a0 a1 a2 a3 a4 a5 a6 a8 (ix4 b h t j) ≠ ⊤ ∧ val_main_v24 (F := Ideal) a0 a1 a2 a3 a4 a5 a6 a8 (ix4 b h t j) ≠ ⊥ := by
  have e := congrFun hp (ix4 b h t j)
  have e' : Ideal.cmp .olt (max (val_main_v24 (F := Ideal) a0 a1 a2 a3 a4 a5 a6 a8 (ix4 b h t j)) (-val_main_v24 (F := Ideal) a0 a1 a2 a3 a4 a5 a6 a8 (ix4 b h t j)))
      (Ideal.ofBits .f32 0x7F800000#32) = 1#1 := e
  have hb : Ideal.ofBits .f32 0x7F800000#32 = ⊤ := by simp [Ideal.ofBits, Ideal.ieee]
  rw [hb] at e'
  generalize val_main_v24 (F := Ideal) a0 a1 a2 a3 a4 a5 a6 a8 (ix4 b h t j) = s at e'
  constructor
  · rintro rfl
    simp [Ideal.cmp] at e'
  · rintro rfl
    simp [Ideal.cmp] at e'

/-- Which block each window holds at grid point `t`: batch row `t / 8`, token tile `t % 8`. -/
theorem idx_val : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 0]
    ∧ win0_4.index t = ![0, 0] ∧ win0_5.index t = ![0, 0] ∧ win0_6.index t = ![0, 0] ∧ win0_7.index t = ![0, 0] ∧ win0_8.index t = ![0, 0] ∧ win0_9.index t = ![0, 0]
    ∧ win0_10.index t = ![0, t.val / 8, 0, 0] ∧ win0_11.index t = ![0, t.val / 8, 0, 0] ∧ win0_12.index t = ![t.val / 8, t.val % 8, 0] :=
  (by decide +kernel : ∀ t : Fin grid0.N, _)

/-- The batch row of grid point `t`. -/
def brow (t : Fin cfg0.N) : Fin 8 := ⟨t.val / 8, by have := t.isLt; have : cfg0.N = 64 := rfl; omega⟩

/-- The token that row `r` of grid point `t`'s tile is. -/
def tok (t : Fin cfg0.N) (r : Fin 1024) : Fin 8192 := ⟨t.val % 8 * 1024 + r.val, by omega⟩

/-- The token tile staged at point `t`. -/
theorem iblk0 (c : Dev nD) (t : Fin cfg0.N) (r : Fin 1024) (k : Fin 1024) : iblk m c 0 t (ix3 0 r k : S1x1024x1024.Idx)
    = m ((c : Thread nD τ).loc main_arg0) (ix3 (brow t) (tok t r) k) := by
  unfold brow tok
  blk_simp [iblk, idx_val t]
  blk_ext [idx_val t]

/-- The first mixer's tile staged at point `t`. -/
theorem iblk1 (c : Dev nD) (t : Fin cfg0.N) (r : Fin 1024) (k : Fin 256) : iblk m c 1 t (ix3 0 r k : S1x1024x256.Idx)
    = m ((c : Thread nD τ).loc main_arg1) (ix3 (brow t) (tok t r) k) := by
  unfold brow tok
  blk_simp [iblk, idx_val t]
  blk_ext [idx_val t]

/-- The second mixer's tile staged at point `t`. -/
theorem iblk2 (c : Dev nD) (t : Fin cfg0.N) (r : Fin 1024) (k : Fin 384) : iblk m c 2 t (ix3 0 r k : S1x1024x384.Idx)
    = m ((c : Thread nD τ).loc main_arg2) (ix3 (brow t) (tok t r) k) := by
  unfold brow tok
  blk_simp [iblk, idx_val t]
  blk_ext [idx_val t]

/-- The third mixer's tile staged at point `t`. -/
theorem iblk3 (c : Dev nD) (t : Fin cfg0.N) (r : Fin 1024) (k : Fin 384) : iblk m c 3 t (ix3 0 r k : S1x1024x384.Idx)
    = m ((c : Thread nD τ).loc main_arg3) (ix3 (brow t) (tok t r) k) := by
  unfold brow tok
  blk_simp [iblk, idx_val t]
  blk_ext [idx_val t]

/-- The output weights' rows from 0 on, staged whole at every point. -/
theorem iblk4 (c : Dev nD) (t : Fin cfg0.N) (k : Fin 256) (n : Fin 1024) : iblk m c 4 t (ix2 k n : S256x1024.Idx)
    = m ((c : Thread nD τ).loc main_arg4) (ix2 ⟨k.val, by omega⟩ n) := by
  blk_simp [iblk, idx_val t]
  entry_read
  pointwise
  blk_ext [idx_val t]

/-- The output weights' rows from 256 on, staged whole at every point. -/
theorem iblk5 (c : Dev nD) (t : Fin cfg0.N) (k : Fin 384) (n : Fin 1024) : iblk m c 5 t (ix2 k n : S384x1024.Idx)
    = m ((c : Thread nD τ).loc main_arg4) (ix2 ⟨256 + k.val, by omega⟩ n) := by
  blk_simp [iblk, idx_val t]
  entry_read
  pointwise
  blk_ext [idx_val t]

/-- The output weights' rows from 640 on, staged whole at every point. -/
theorem iblk6 (c : Dev nD) (t : Fin cfg0.N) (k : Fin 384) (n : Fin 1024) : iblk m c 6 t (ix2 k n : S384x1024.Idx)
    = m ((c : Thread nD τ).loc main_arg4) (ix2 ⟨640 + k.val, by omega⟩ n) := by
  blk_simp [iblk, idx_val t]
  entry_read
  pointwise
  blk_ext [idx_val t]

/-- The scale row, staged whole at every point. -/
theorem iblk7 (c : Dev nD) (t : Fin cfg0.N) (k : Fin 1024) : iblk m c 7 t (ix2 0 k : S1x1024.Idx)
    = m ((c : Thread nD τ).loc main_arg5) (ix1 k) := by
  blk_simp [iblk, idx_val t]
  entry_read
  pointwise
  blk_ext [idx_val t]

/-- The query weights, staged whole at every point. -/
theorem iblk8 (c : Dev nD) (t : Fin cfg0.N) (k n : Fin 1024) : iblk m c 8 t (ix2 k n : S1024x1024.Idx)
    = m ((c : Thread nD τ).loc main_arg6) (ix2 k n) := by
  blk_simp [iblk, idx_val t]
  entry_read
  pointwise
  blk_ext [idx_val t]

/-- The attention's output weights, staged whole at every point. -/
theorem iblk9 (c : Dev nD) (t : Fin cfg0.N) (k n : Fin 1024) : iblk m c 9 t (ix2 k n : S1024x1024.Idx)
    = m ((c : Thread nD τ).loc main_arg7) (ix2 k n) := by
  blk_simp [iblk, idx_val t]
  entry_read
  pointwise
  blk_ext [idx_val t]

/-- The memory's keys of the batch row, heads side by side. -/
theorem iblk10 (c : Dev nD) (t : Fin cfg0.N) (j : Fin 256) (k : Fin 1024) : iblk m c 10 t (ix4 0 0 j k : S1x1x256x1024.Idx)
    = m ((c : Thread nD τ).loc main_arg8) (ix5 0 (brow t) j ⟨k.val / 256, by omega⟩ ⟨k.val % 256, by omega⟩) := by
  unfold brow
  blk_simp [iblk, idx_val t]
  entry_read
  pointwise
  blk_ext [idx_val t]

/-- The memory's values of the batch row, heads side by side. -/
theorem iblk11 (c : Dev nD) (t : Fin cfg0.N) (j : Fin 256) (k : Fin 1024) : iblk m c 11 t (ix4 0 0 j k : S1x1x256x1024.Idx)
    = m ((c : Thread nD τ).loc main_arg9) (ix5 0 (brow t) j ⟨k.val / 256, by omega⟩ ⟨k.val % 256, by omega⟩) := by
  unfold brow
  blk_simp [iblk, idx_val t]
  entry_read
  pointwise
  blk_ext [idx_val t]

/-- Where block index `y` of point `t` lies in the result. -/
theorem emb12 (t : Fin cfg0.N) (y : S1x1024x1024.Idx) : ((cfg0.win 12).blk t).view.emb y = (ix3 (brow t) (tok t (y 1)) (y 2) : S8x8192x1024.Idx) := by
  unfold brow tok
  blk_ext [idx_val t]

/-- What point `t` stores is the reference's result at the block's place, where the scores are finite. -/
theorem point12 (c : Dev nD) (t : Fin cfg0.N) (y : S1x1024x1024.Idx)
    (hp : letI := pre_facts; Cert.Pre_scores_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = fun _ => 1#1) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 12).blk t).view.emb y) := by
  rw [emb12]
  idx_vars y
  obtain rfl : y0 = 0 := Subsingleton.elim _ _
  rw [out_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun k i => m ((c : Thread nD τ).loc main_arg4) (ix2 k i)) (iblk4 m c t) (iblk5 m c t) (iblk6 m c t)]
  simp only [iblk0, iblk1, iblk2, iblk3, iblk7, iblk8, iblk9, iblk10, iblk11]
  have key := fun b h t => weight_eq_share _ (scores_real (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) hp b h t)
  simp only [v24_at, v20_at, v2_at] at key
  simp only [ix3_0, ix3_1, ix3_2, v40_at, v24_at, v20_at, v2_at, key]

/-- The result array after the run is the reference's, where the scores are finite. -/
theorem final12 (c : Dev nD)
    (hp : letI := pre_facts; Cert.Pre_scores_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = fun _ => 1#1) : (dats m 0 c).arrAt 12 cfg0.N
    = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 12 _ (by decide +kernel) fun t hf y => ?_
  blk_simp
  rw [after0_12]
  exact point12 m c t y hp

/-- `OutAttn` and its reference run, and from equal arguments of finite scores the result arrays are equal. -/
theorem algebraic : Cert.algebraic_OutAttnIdeal_OutAttnRefIdeal_pre_scores_finite (hOutAttnIdeal := Cert.OutAttnIdeal.Gen.facts)
    (hOutAttnRefIdeal := Cert.OutAttnRefIdeal.Gen.facts) (hPre_scores_finite := pre_facts) := by
  pair_intro
  · run_from Cert.OutAttnIdeal.Gen.run_main m g
  · run_from Cert.OutAttnRefIdeal.Value.run m' g'
    rw [Cert.OutAttnRefIdeal.Read.val_main_v40_eq]
    simp only [*]
    exact (final12 m c (hpre c)).symm

end Cert.Proof.OutAttn

end
-- ==== Proof.MixerValue.lean ====
/- Three of the four result arrays of the `Mixer` call after its run, each as the reference's term of the arguments: the retention
   outputs, the new retention states and the new shift rows. -/
module

public import proofs.«01_k».proof.Proof.Gen.MixerIdeal.Value
public import proofs.«01_k».proof.Proof.Gen.MixerRefIdeal.Read
public import proofs.«01_k».proof.Defs
public import Idealize.ShloMosaic.Lib.Pipeline.ValueKit
public import Idealize.ShloMosaic.Lib.Claim
public import Idealize.ShloMosaic.Lib.Pipeline.ReadBack
public import proofs.«01_k».proof.Proof.Scalars

@[expose] public section

set_option maxRecDepth 16384

noncomputable section

open Idealize.ShloMosaic Idealize.ShloMosaic.TcCoe Idealize.SL.Sem
open Idealize.ShloMosaic.Pipeline (Dat)

namespace Cert.Proof.Mixer

open Cert.MixerIdeal Cert.MixerIdeal.Gen
open Cert.MixerRefIdeal.Read

variable (m : (ℓ : Loc nD τ sig) → Buf (Elt Ideal) ℓ)

/-- The block indices of the windows the claimed results depend on, decided over the grid. -/
theorem idx_val : ∀ t : Fin cfg0.N, win0_0.index t = ![0] ∧ win0_1.index t = ![t.val, 0, 0] ∧ win0_2.index t = ![0, 0]
    ∧ win0_4.index t = ![0, 0] ∧ win0_5.index t = ![0, 0] ∧ win0_10.index t = ![0, 0] ∧ win0_11.index t = ![0, 0] ∧ win0_12.index t = ![0, 0]
    ∧ win0_13.index t = ![t.val, 0, 0] ∧ win0_20.index t = ![t.val, 0, 0] ∧ win0_23.index t = ![t.val, 0, 0] ∧ win0_25.index t = ![t.val, 0, 0] :=
  (by decide +kernel : ∀ t : Fin grid0.N, _)

/-- The batch row of grid point `t`. -/
def brow (t : Fin cfg0.N) : Fin 8 := ⟨t.val, t.isLt⟩

/-- The tokens staged at point `t`. -/
theorem iblk1 (c : Dev nD) (t : Fin cfg0.N) (r : Fin 64) (k : Fin 1024) : iblk m c 1 t (ix3 0 r k : S1x64x1024.Idx)
    = m ((c : Thread nD τ).loc main_arg0) (ix3 (brow t) r k) := by
  unfold brow
  blk_simp [iblk, idx_val t]
  blk_ext [idx_val t]

/-- The scale row, as the host operations leave it. -/
theorem V_v19 (c : Dev nD) (k : Fin 1024) : V m c main_v19 (ix2 0 k : S1x1024.Idx) = m ((c : Thread nD τ).loc main_arg1) (ix1 k) := by
  unfold V
  simp only [List.flatten_cons, List.flatten_nil, List.append_nil]
  simp only [hostOps0, hostOps0_1, hostOps0_2, List.cons_append, List.nil_append]
  entry_read
  pointwise

/-- The scale row, as staged at every point. -/
theorem iblk2 (c : Dev nD) (t : Fin cfg0.N) (k : Fin 1024) : iblk m c 2 t (ix2 0 k : S1x1024.Idx) = m ((c : Thread nD τ).loc main_arg1) (ix1 k) := by
  blk_simp [iblk, idx_val t]
  rw [← V_v19 m c k]
  blk_ext [idx_val t]

/-- The retention's projection columns, as the host operations leave it. -/
theorem V_v23 (c : Dev nD) (k : Fin 1024) (n : Fin 1152) : V m c main_v23 (ix2 k n : S1024x1152.Idx) = m ((c : Thread nD τ).loc main_arg2) (ix2 k ⟨1024 + n.val, by omega⟩) := by
  unfold V
  simp only [List.flatten_cons, List.flatten_nil, List.append_nil]
  simp only [hostOps0, hostOps0_1, hostOps0_2, List.cons_append, List.nil_append]
  entry_read
  pointwise

/-- The retention's projection columns, as staged at every point. -/
theorem iblk4 (c : Dev nD) (t : Fin cfg0.N) (k : Fin 1024) (n : Fin 1152) : iblk m c 4 t (ix2 k n : S1024x1152.Idx) = m ((c : Thread nD τ).loc main_arg2) (ix2 k ⟨1024 + n.val, by omega⟩) := by
  blk_simp [iblk, idx_val t]
  rw [← V_v23 m c k n]
  blk_ext [idx_val t]

/-- The third mixer's projection columns, as the host operations leave it. -/
theorem V_v25 (c : Dev nD) (k : Fin 1024) (n : Fin 1280) : V m c main_v25 (ix2 k n : S1024x1280.Idx) = m ((c : Thread nD τ).loc main_arg2) (ix2 k ⟨2176 + n.val, by omega⟩) := by
  unfold V
  simp only [List.flatten_cons, List.flatten_nil, List.append_nil]
  simp only [hostOps0, hostOps0_1, hostOps0_2, List.cons_append, List.nil_append]
  entry_read
  pointwise

/-- The third mixer's projection columns, as staged at every point. -/
theorem iblk5 (c : Dev nD) (t : Fin cfg0.N) (k : Fin 1024) (n : Fin 1280) : iblk m c 5 t (ix2 k n : S1024x1280.Idx) = m ((c : Thread nD τ).loc main_arg2) (ix2 k ⟨2176 + n.val, by omega⟩) := by
  blk_simp [iblk, idx_val t]
  rw [← V_v25 m c k n]
  blk_ext [idx_val t]

/-- The log-decays, staged whole at every point. -/
theorem iblk0 (c : Dev nD) (t : Fin cfg0.N) (h : Fin 6) : iblk m c 0 t (ix1 h : S6.Idx) = m ((c : Thread nD τ).loc main_arg5) (ix1 h) := by
  blk_simp [iblk, idx_val t]
  rw [← V_main_arg5 m c]
  blk_ext [idx_val t]

/-- The first row of the decay pack: the log-decay of each key column's head. -/
theorem V_v18_0 (c : Dev nD) (k : Fin 192) : V m c main_v18 (ix2 0 ⟨k.val, by omega⟩ : S2x384.Idx) = m ((c : Thread nD τ).loc main_arg5) (ix1 ⟨k.val / 32, by omega⟩) := by
  unfold V
  simp only [List.flatten_cons, List.flatten_nil, List.append_nil]
  simp only [hostOps0, hostOps0_1, hostOps0_2, List.cons_append, List.nil_append]
  entry_read
  pointwise
  simp only [StableHlo.TRef.ofBuf_toBuf]
  change pad S384 ![0] ![192] ![0] (fun i : S192.Idx => m (c, Proc.tc.devRef main_arg5) (ix1 ⟨(i 0).val / 32, by have : (i 0).val < 192 := (i 0).isLt; omega⟩)) _ pads_S192_S384_01920 h_S_ (ix1 ⟨k.val, by omega⟩) = _
  pointwise
/-- The second row of the decay pack: the log-decay of each value column's head. -/
theorem V_v18_1 (c : Dev nD) (k : Fin 384) : V m c main_v18 (ix2 1 k : S2x384.Idx) = m ((c : Thread nD τ).loc main_arg5) (ix1 ⟨k.val / 64, by omega⟩) := by
  unfold V
  simp only [List.flatten_cons, List.flatten_nil, List.append_nil]
  simp only [hostOps0, hostOps0_1, hostOps0_2, List.cons_append, List.nil_append]
  entry_read
  pointwise

/-- The key half of the decay pack, as staged at every point. -/
theorem iblk12_0 (c : Dev nD) (t : Fin cfg0.N) (k : Fin 192) : iblk m c 12 t (ix2 0 ⟨k.val, by omega⟩ : S2x384.Idx) = m ((c : Thread nD τ).loc main_arg5) (ix1 ⟨k.val / 32, by omega⟩) := by
  blk_simp [iblk, idx_val t]
  rw [← V_v18_0 m c k]
  blk_ext [idx_val t]
/-- The value half of the decay pack, as staged at every point. -/
theorem iblk12_1 (c : Dev nD) (t : Fin cfg0.N) (k : Fin 384) : iblk m c 12 t (ix2 1 k : S2x384.Idx) = m ((c : Thread nD τ).loc main_arg5) (ix1 ⟨k.val / 64, by omega⟩) := by
  blk_simp [iblk, idx_val t]
  rw [← V_v18_1 m c k]
  blk_ext [idx_val t]
/-- The head mask as a number: one on the diagonal, zero off it. -/
theorem eye_word : ∀ a b : Fin 6, IntOp.cmpi CmpIPredicate.eq (IntOp.addi (BitVec.ofNat 32 a.val) 0#32) (BitVec.ofNat 32 b.val) = if a = b then 1#1 else 0#1 := by decide +kernel

/-- A number times the head mask: itself on the diagonal, zero off it. -/
theorem eye_mul (x : EReal) (a b : Fin 6) : x * FloatOps.uitofp (F := Ideal) FTy.f32 (IntOp.cmpi CmpIPredicate.eq (IntOp.addi (BitVec.ofNat 32 a.val) 0#32) (BitVec.ofNat 32 b.val)) = if a.val = b.val then x else 0 := by
  rw [eye_word a b]
  by_cases hh : a = b
  · rw [if_pos hh, if_pos (congrArg Fin.val hh)]
    exact (congrArg _ (show FloatOps.uitofp (F := Ideal) FTy.f32 1#1 = 1 by simp [FloatOps.uitofp])).trans (mul_one _)
  · rw [if_neg hh, if_neg (fun e => hh (Fin.ext e))]
    exact (congrArg _ (show FloatOps.uitofp (F := Ideal) FTy.f32 0#1 = 0 by simp [FloatOps.uitofp])).trans (mul_zero _)

/-- The start state, block-diagonal over the heads and transposed. -/
theorem V_v96 (c : Dev nD) (b : Fin 8) (v : Fin 384) (k : Fin 192) : V m c main_v96 (ix3 b v k : S8x384x192.Idx)
    = if v.val / 64 = k.val / 32 then m ((c : Thread nD τ).loc main_arg8) (ix4 b ⟨v.val / 64, by omega⟩ ⟨k.val % 32, by omega⟩ ⟨v.val % 64, by omega⟩) else (0 : EReal) := by
  unfold V
  simp only [List.flatten_cons, List.flatten_nil, List.append_nil]
  simp only [hostOps0, hostOps0_1, hostOps0_2, List.cons_append, List.nil_append]
  entry_read
  pointwise
  exact eye_mul _ ⟨v.val / 64, by omega⟩ ⟨k.val / 32, by omega⟩

/-- The start state, as staged at point `t`. -/
theorem iblk13 (c : Dev nD) (t : Fin cfg0.N) (v : Fin 384) (k : Fin 192) : iblk m c 13 t (ix3 0 v k : S1x384x192.Idx)
    = if v.val / 64 = k.val / 32 then m ((c : Thread nD τ).loc main_arg8) (ix4 (brow t) ⟨v.val / 64, by omega⟩ ⟨k.val % 32, by omega⟩ ⟨v.val % 64, by omega⟩) else (0 : EReal) := by
  blk_simp [iblk, idx_val t]
  rw [← V_v96 m c (brow t) v k]
  unfold brow
  blk_ext [idx_val t]
/-- The cosine table, as the host operations leave it. -/
theorem V_v65 (c : Dev nD) (r : Fin 64) (k : Fin 384) : V m c main_v65 (ix2 r k : S64x384.Idx)
    = val_main_v33 (F := Ideal) (m ((c : Thread nD τ).loc main_arg6)) (ix2 r ⟨k.val % 16, by omega⟩) := by
  unfold V
  simp only [List.flatten_cons, List.flatten_nil, List.append_nil]
  simp only [hostOps0, hostOps0_1, hostOps0_2, List.cons_append, List.nil_append]
  entry_read
  pointwise [val_main_v33, val_main_v32, val_main_v31, val_main_v30, val_main_v29, val_main_v28, val_main_v27, val_main_v26, val_main_v25, val_main_v24, val_main_v23, val_main_v22, val_main_v21, val_main_cst_2, val_main_cst_3]

/-- The cosine table, as staged at every point. -/
theorem iblk10 (c : Dev nD) (t : Fin cfg0.N) (r : Fin 64) (k : Fin 384) : iblk m c 10 t (ix2 r k : S64x384.Idx)
    = val_main_v33 (F := Ideal) (m ((c : Thread nD τ).loc main_arg6)) (ix2 r ⟨k.val % 16, by omega⟩) := by
  blk_simp [iblk, idx_val t]
  rw [← V_v65 m c r k]
  blk_ext [idx_val t]

/-- The sine table, as the host operations leave it. -/
theorem V_v69 (c : Dev nD) (r : Fin 64) (k : Fin 384) : V m c main_v69 (ix2 r k : S64x384.Idx)
    = val_main_v35 (F := Ideal) (m ((c : Thread nD τ).loc main_arg6)) (ix2 r ⟨k.val % 16, by omega⟩) := by
  unfold V
  simp only [List.flatten_cons, List.flatten_nil, List.append_nil]
  simp only [hostOps0, hostOps0_1, hostOps0_2, List.cons_append, List.nil_append]
  entry_read
  pointwise [val_main_v35, val_main_v32, val_main_v31, val_main_v30, val_main_v29, val_main_v28, val_main_v27, val_main_v26, val_main_v25, val_main_v24, val_main_v23, val_main_v22, val_main_v21, val_main_cst_2, val_main_cst_3]

/-- The sine table, as staged at every point. -/
theorem iblk11 (c : Dev nD) (t : Fin cfg0.N) (r : Fin 64) (k : Fin 384) : iblk m c 11 t (ix2 r k : S64x384.Idx)
    = val_main_v35 (F := Ideal) (m ((c : Thread nD τ).loc main_arg6)) (ix2 r ⟨k.val % 16, by omega⟩) := by
  blk_simp [iblk, idx_val t]
  rw [← V_v69 m c r k]
  blk_ext [idx_val t]

/-- The row of the third mixer's projection that is left as its shift: the last token's. -/
theorem sh_at (x : Vec Ideal S1x64x1024 .f32) (g : Vec Ideal S1x1024 .f32) (w : Vec Ideal S1024x1280 .bf16) (n : Fin 1280) :
    k0_pay5 (F := Ideal) (k0_pay191 (k0_pay26 x g w)) (ix3 0 0 n : S1x1x1280.Idx)
      = ∑ k : Fin 1024, x (ix3 0 63 k) * Ideal.rsqrt (Ideal.div (∑ i : Fin 1024, x (ix3 0 63 i) * x (ix3 0 63 i)) (Ideal.ofBits .f32 0x44800000#32) + Ideal.ofBits .f32 0x358637BD#32) * g (ix2 0 k) * w (ix2 k n) := by
  pointwise [k0_pay5, k0_pay191, k0_pay26, k0_pay23]

/-- The projection of the reference, column `n` of token `r`. -/
theorem v13_at (x : FVec Ideal S8x64x1024 .f32) (g : FVec Ideal S1024 .f32) (w : FVec Ideal S1024x3456 .f32) (b : Fin 8) (r : Fin 64) (n : Fin 3456) :
    val_main_v13 (F := Ideal) x g w (ix3 b r n : Cert.MixerRefIdeal.S8x64x3456.Idx)
      = ∑ k : Fin 1024, x (ix3 b r k) * Ideal.rsqrt (Ideal.div (∑ i : Fin 1024, x (ix3 b r i) * x (ix3 b r i)) (Ideal.ofBits .f32 0x44800000#32) + Ideal.ofBits .f32 0x358637BD#32) * g (ix1 k) * w (ix2 k n) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The reference's shift: the last token's columns from 2176 on. -/
theorem v171_at (x : FVec Ideal S8x64x1024 .f32) (g : FVec Ideal S1024 .f32) (w : FVec Ideal S1024x3456 .f32) (b : Fin 8) (n : Fin 1280) :
    val_main_v171 (F := Ideal) x g w (ix3 b 0 n : Cert.MixerRefIdeal.S8x1x1280.Idx) = val_main_v13 (F := Ideal) x g w (ix3 b 63 ⟨2176 + n.val, by omega⟩) := by
  pointwise [val_main_v171, val_main_v15]

/-- Rotary embedding of one row, flat over the heads: column `j` of head `j / 32`. -/
def ropeAt (z : Fin 384 → EReal) (C S : Fin 16 → EReal) (j : Fin 384) : EReal :=
  z j * C ⟨j.val % 16, by omega⟩ + (if j.val % 32 < 16 then -z ⟨(j.val + 16) % 384, by omega⟩ else z ⟨(j.val + 368) % 384, by omega⟩) * S ⟨j.val % 16, by omega⟩

/-- The kernel's mask of the first half of each head's columns. -/
theorem half_word : ∀ j : Fin 384, IntOp.cmpi CmpIPredicate.slt (Scalar.select (IntOp.andi (IntOp.xori (IntOp.cmpi CmpIPredicate.slt (IntOp.remsi ArithUnit.vector (BitVec.ofNat 32 j.val) 32#32) 0#32) (Scalar.cmpi CmpIPredicate.slt 32#32 0#32)) (IntOp.cmpi CmpIPredicate.ne (IntOp.remsi ArithUnit.vector (BitVec.ofNat 32 j.val) 32#32) 0#32)) (IntOp.addi (IntOp.remsi ArithUnit.vector (BitVec.ofNat 32 j.val) 32#32) 32#32) (IntOp.remsi ArithUnit.vector (BitVec.ofNat 32 j.val) 32#32)) 16#32 = if j.val % 32 < 16 then 1#1 else 0#1 := by decide +kernel

/-- The kernel's rotary embedding at one entry. -/
theorem pay30_at (z : FVec Ideal S64x384 .f32) (ct st : Vec Ideal S64x384 .f32) (r : Fin 64) (j : Fin 384) :
    k0_pay30 (F := Ideal) z (iota Kind.tc S64x384 32 [1] iota_S64x384_d1_w32) 32#32 ct st (ix2 r j)
      = z (ix2 r j) * ct (ix2 r j) + (if j.val % 32 < 16 then -z (ix2 r ⟨(j.val + 16) % 384, by omega⟩) else z (ix2 r ⟨(j.val + 368) % 384, by omega⟩)) * st (ix2 r j) := by
  pointwise [k0_pay30]
  rw [half_word j]
  have e1 : (⟨(j.val + 384 - 368) % 384, by omega⟩ : Fin 384) = ⟨(j.val + 16) % 384, by omega⟩ := Fin.ext (by show (j.val + 384 - 368) % 384 = (j.val + 16) % 384; omega)
  have e2 : (⟨(j.val + 384 - 16) % 384, by omega⟩ : Fin 384) = ⟨(j.val + 368) % 384, by omega⟩ := Fin.ext (by show (j.val + 384 - 16) % 384 = (j.val + 368) % 384; omega)
  rw [e1, e2, zero_sub]
  by_cases hh : j.val % 32 < 16
  · rw [if_pos hh, if_pos hh]; rfl
  · rw [if_neg hh, if_neg hh]; rfl
/-- The kernel's head number of a value column. -/
theorem vhead_word : ∀ v : Fin 384, (Scalar.select (IntOp.andi (IntOp.cmpi CmpIPredicate.ne (IntOp.subi (BitVec.setWidth 32 (IntOp.cmpi CmpIPredicate.sgt (BitVec.ofNat 32 v.val) 0#32)) (BitVec.setWidth 32 (IntOp.cmpi CmpIPredicate.slt (BitVec.ofNat 32 v.val) 0#32))) (Scalar.subi (Scalar.extui (Scalar.cmpi CmpIPredicate.sgt 64#32 0#32)) (Scalar.extui (Scalar.cmpi CmpIPredicate.slt 64#32 0#32)))) (IntOp.cmpi CmpIPredicate.ne (IntOp.remsi ArithUnit.vector (BitVec.ofNat 32 v.val) 64#32) 0#32)) (IntOp.subi (IntOp.divsi ArithUnit.vector (BitVec.ofNat 32 v.val) 64#32) 1#32) (IntOp.divsi ArithUnit.vector (BitVec.ofNat 32 v.val) 64#32)) = BitVec.ofNat 32 (v.val / 64) := by decide +kernel
/-- The kernel's head number of a key column. -/
theorem khead_word : ∀ k : Fin 192, (Scalar.select (IntOp.andi (IntOp.cmpi CmpIPredicate.ne (IntOp.subi (BitVec.setWidth 32 (IntOp.cmpi CmpIPredicate.sgt (BitVec.ofNat 32 k.val) 0#32)) (BitVec.setWidth 32 (IntOp.cmpi CmpIPredicate.slt (BitVec.ofNat 32 k.val) 0#32))) (Scalar.subi 1#32 0#32)) (IntOp.cmpi CmpIPredicate.ne (IntOp.remsi ArithUnit.vector (BitVec.ofNat 32 k.val) 32#32) 0#32)) (IntOp.subi (IntOp.divsi ArithUnit.vector (BitVec.ofNat 32 k.val) 32#32) 1#32) (IntOp.divsi ArithUnit.vector (BitVec.ofNat 32 k.val) 32#32)) = BitVec.ofNat 32 (k.val / 32) := by decide +kernel
/-- Two head numbers compared. -/
theorem head_eq : ∀ a b : Fin 6, IntOp.cmpi CmpIPredicate.eq (BitVec.ofNat 32 a.val) (BitVec.ofNat 32 b.val) = if a.val = b.val then 1#1 else 0#1 := by decide +kernel

/-- The new state the kernel leaves, at one entry. -/
theorem pay77_at (kk : FVec Ideal S64x192 .f32) (lg : FVec Ideal S1x192 .f32) (st : Vec Ideal S384x192 .f32) (vw : FVec Ideal S64x384 .f32) (v : Fin 384) (k : Fin 192) :
    k0_pay77 (F := Ideal) kk lg st vw k0_pay74 (iota Kind.tc S384x192 32 [1] iota_S384x192_d1_w32) 32#32 k0_pay75 k0_pay76 1#32 0#32 (ix2 v k)
      = st (ix2 v k) * Ideal.exp (lg (ix2 0 k) * Ideal.ofBits .f32 0x42800000#32) + (if v.val / 64 = k.val / 32 then ∑ s : Fin 64, vw (ix2 s v) * kk (ix2 s k) else 0) := by
  pointwise [k0_pay77, k0_pay74, k0_pay75, k0_pay76]
  rw [vhead_word v, khead_word k, head_eq ⟨v.val / 64, by omega⟩ ⟨k.val / 32, by omega⟩]
  by_cases hh : v.val / 64 = k.val / 32
  · rw [if_pos hh, if_pos hh]; rfl
  · rw [if_neg hh, if_neg hh]; rfl
/-- The kernel's projection on the retention's columns, at one entry. -/
theorem pay25_at (x : Vec Ideal S1x64x1024 .f32) (g : Vec Ideal S1x1024 .f32) (w : Vec Ideal S1024x1152 .bf16) (r : Fin 64) (n : Fin 1152) :
    k0_pay25 (F := Ideal) x g w (ix2 r n : S64x1152.Idx)
      = ∑ k : Fin 1024, x (ix3 0 r k) * Ideal.rsqrt (Ideal.div (∑ i : Fin 1024, x (ix3 0 r i) * x (ix3 0 r i)) (Ideal.ofBits .f32 0x44800000#32) + Ideal.ofBits .f32 0x358637BD#32) * g (ix2 0 k) * w (ix2 k n) := by
  pointwise [k0_pay25, k0_pay23]
/-- The rotated queries of the reference. -/
theorem v49_at (x : FVec Ideal S8x64x1024 .f32) (g : FVec Ideal S1024 .f32) (w : FVec Ideal S1024x3456 .f32) (p : S64.Idx → BitVec 32) (b : Fin 8) (r : Fin 64) (h : Fin 6) (d : Fin 32) :
    val_main_v49 (F := Ideal) x g w p (ix4 b r h d : Cert.MixerRefIdeal.S8x64x6x32.Idx) = ropeAt (fun n => val_main_v13 (F := Ideal) x g w (ix3 b r ⟨1024 + n.val, by omega⟩)) (fun i => val_main_v33 (F := Ideal) p (ix2 r i)) (fun i => val_main_v35 (F := Ideal) p (ix2 r i)) ⟨h.val * 32 + d.val, by omega⟩ := by
  pointwise [val_main_v49, val_main_v48, val_main_v47, val_main_v46, val_main_v45, val_main_v44, val_main_v43, val_main_v42, val_main_v41, val_main_v40, val_main_v39, val_main_v38, val_main_v37, val_main_v36, val_main_v34, val_main_v20, val_main_v16, val_main_v14]
  have eP : ∀ (a a' : ℕ) (ha : a < 3456) (ha' : a' < 3456), a = a' → val_main_v13 (F := Ideal) x g w (ix3 b r ⟨a, ha⟩) = val_main_v13 (F := Ideal) x g w (ix3 b r ⟨a', ha'⟩) := by rintro a _ _ _ rfl; rfl
  have eC : ∀ (a a' : ℕ) (ha : a < 16) (ha' : a' < 16), a = a' → val_main_v33 (F := Ideal) p (ix2 r ⟨a, ha⟩) = val_main_v33 (F := Ideal) p (ix2 r ⟨a', ha'⟩) := by rintro a _ _ _ rfl; rfl
  have eS : ∀ (a a' : ℕ) (ha : a < 16) (ha' : a' < 16), a = a' → val_main_v35 (F := Ideal) p (ix2 r ⟨a, ha⟩) = val_main_v35 (F := Ideal) p (ix2 r ⟨a', ha'⟩) := by rintro a _ _ _ rfl; rfl
  unfold ropeAt
  by_cases hd : d.val < 16
  · rw [dif_pos hd, if_pos (show (h.val * 32 + d.val) % 32 < 16 by omega), sub_eq_add_neg, EReal.neg_mul]
    refine congrArg₂ (· + ·) (congrArg₂ (· * ·) (eP _ _ _ _ ?_) (eC _ _ _ _ ?_)) (congrArg Neg.neg (congrArg₂ (· * ·) (eP _ _ _ _ ?_) (eS _ _ _ _ ?_))) <;> dsimp only <;> omega
  · rw [dif_neg hd, if_neg (show ¬ (h.val * 32 + d.val) % 32 < 16 by omega), add_comm]
    refine congrArg₂ (· + ·) (congrArg₂ (· * ·) (eP _ _ _ _ ?_) (eC _ _ _ _ ?_)) (congrArg₂ (· * ·) (eP _ _ _ _ ?_) (eS _ _ _ _ ?_)) <;> dsimp only <;> omega

/-- The two cosine tables of the reference are one. -/
theorem v63_eq (p : S64.Idx → BitVec 32) : val_main_v63 (F := Ideal) p = val_main_v33 (F := Ideal) p := rfl
/-- The two sine tables of the reference are one. -/
theorem v65_eq (p : S64.Idx → BitVec 32) : val_main_v65 (F := Ideal) p = val_main_v35 (F := Ideal) p := rfl
/-- The rotated keys of the reference, before their scale. -/
theorem v79_at (x : FVec Ideal S8x64x1024 .f32) (g : FVec Ideal S1024 .f32) (w : FVec Ideal S1024x3456 .f32) (p : S64.Idx → BitVec 32) (b : Fin 8) (r : Fin 64) (h : Fin 6) (d : Fin 32) :
    val_main_v79 (F := Ideal) x g w p (ix4 b r h d : Cert.MixerRefIdeal.S8x64x6x32.Idx) = ropeAt (fun n => val_main_v13 (F := Ideal) x g w (ix3 b r ⟨1024 + n.val, by omega⟩)) (fun i => val_main_v33 (F := Ideal) p (ix2 r i)) (fun i => val_main_v35 (F := Ideal) p (ix2 r i)) ⟨192 + h.val * 32 + d.val, by omega⟩ := by
  pointwise [val_main_v79, val_main_v78, val_main_v77, val_main_v76, val_main_v75, val_main_v74, val_main_v73, val_main_v72, val_main_v71, val_main_v70, val_main_v69, val_main_v68, val_main_v67, val_main_v66, val_main_v64, val_main_v50, val_main_v17, val_main_v14]
  simp only [v63_eq, v65_eq]
  have eP : ∀ (a a' : ℕ) (ha : a < 3456) (ha' : a' < 3456), a = a' → val_main_v13 (F := Ideal) x g w (ix3 b r ⟨a, ha⟩) = val_main_v13 (F := Ideal) x g w (ix3 b r ⟨a', ha'⟩) := by rintro a _ _ _ rfl; rfl
  have eC : ∀ (a a' : ℕ) (ha : a < 16) (ha' : a' < 16), a = a' → val_main_v33 (F := Ideal) p (ix2 r ⟨a, ha⟩) = val_main_v33 (F := Ideal) p (ix2 r ⟨a', ha'⟩) := by rintro a _ _ _ rfl; rfl
  have eS : ∀ (a a' : ℕ) (ha : a < 16) (ha' : a' < 16), a = a' → val_main_v35 (F := Ideal) p (ix2 r ⟨a, ha⟩) = val_main_v35 (F := Ideal) p (ix2 r ⟨a', ha'⟩) := by rintro a _ _ _ rfl; rfl
  unfold ropeAt
  by_cases hd : d.val < 16
  · rw [dif_pos hd, if_pos (show (192 + h.val * 32 + d.val) % 32 < 16 by omega), sub_eq_add_neg, EReal.neg_mul]
    refine congrArg₂ (· + ·) (congrArg₂ (· * ·) (eP _ _ _ _ ?_) (eC _ _ _ _ ?_)) (congrArg Neg.neg (congrArg₂ (· * ·) (eP _ _ _ _ ?_) (eS _ _ _ _ ?_))) <;> dsimp only <;> omega
  · rw [dif_neg hd, if_neg (show ¬ (192 + h.val * 32 + d.val) % 32 < 16 by omega), add_comm]
    refine congrArg₂ (· + ·) (congrArg₂ (· * ·) (eP _ _ _ _ ?_) (eC _ _ _ _ ?_)) (congrArg₂ (· * ·) (eP _ _ _ _ ?_) (eS _ _ _ _ ?_)) <;> dsimp only <;> omega

/-- The kernel's projection is the reference's, from column 1024 on. -/
theorem z25 (c : Dev nD) (t : Fin cfg0.N) (r : Fin 64) (n : Fin 1152) : k0_pay25 (F := Ideal) (iblk m c 1 t) (iblk m c 2 t) (iblk m c 4 t) (ix2 r n : S64x1152.Idx)
    = val_main_v13 (F := Ideal) (m ((c : Thread nD τ).loc main_arg0)) (m ((c : Thread nD τ).loc main_arg1)) (m ((c : Thread nD τ).loc main_arg2)) (ix3 (brow t) r ⟨1024 + n.val, by omega⟩) := by
  rw [pay25_at, v13_at]
  simp only [iblk1, iblk2, iblk4]
/-- The columns of queries and keys. -/
theorem z27 (c : Dev nD) (t : Fin cfg0.N) (r : Fin 64) (n : Fin 384) : k0_pay27 (F := Ideal) (iblk m c 1 t) (iblk m c 2 t) (iblk m c 4 t) (ix2 r n : S64x384.Idx)
    = val_main_v13 (F := Ideal) (m ((c : Thread nD τ).loc main_arg0)) (m ((c : Thread nD τ).loc main_arg1)) (m ((c : Thread nD τ).loc main_arg2)) (ix3 (brow t) r ⟨1024 + n.val, by omega⟩) :=
  (show _ = k0_pay25 (F := Ideal) (iblk m c 1 t) (iblk m c 2 t) (iblk m c 4 t) (ix2 r ⟨n.val, by omega⟩ : S64x1152.Idx) by pointwise [k0_pay27]).trans (z25 m c t r _)
/-- The columns of values. -/
theorem z28 (c : Dev nD) (t : Fin cfg0.N) (r : Fin 64) (n : Fin 384) : k0_pay28 (F := Ideal) (iblk m c 1 t) (iblk m c 2 t) (iblk m c 4 t) (ix2 r n : S64x384.Idx)
    = val_main_v13 (F := Ideal) (m ((c : Thread nD τ).loc main_arg0)) (m ((c : Thread nD τ).loc main_arg1)) (m ((c : Thread nD τ).loc main_arg2)) (ix3 (brow t) r ⟨1024 + (384 + n.val), by omega⟩) :=
  (show _ = k0_pay25 (F := Ideal) (iblk m c 1 t) (iblk m c 2 t) (iblk m c 4 t) (ix2 r ⟨384 + n.val, by omega⟩ : S64x1152.Idx) by pointwise [k0_pay28]).trans (z25 m c t r _)
/-- The columns of gates. -/
theorem z29 (c : Dev nD) (t : Fin cfg0.N) (r : Fin 64) (n : Fin 384) : k0_pay29 (F := Ideal) (iblk m c 1 t) (iblk m c 2 t) (iblk m c 4 t) (ix2 r n : S64x384.Idx)
    = val_main_v13 (F := Ideal) (m ((c : Thread nD τ).loc main_arg0)) (m ((c : Thread nD τ).loc main_arg1)) (m ((c : Thread nD τ).loc main_arg2)) (ix3 (brow t) r ⟨1024 + (768 + n.val), by omega⟩) :=
  (show _ = k0_pay25 (F := Ideal) (iblk m c 1 t) (iblk m c 2 t) (iblk m c 4 t) (ix2 r ⟨768 + n.val, by omega⟩ : S64x1152.Idx) by pointwise [k0_pay29]).trans (z25 m c t r _)

/-- The rotated row of queries and keys at token `r`, in the reference's terms. -/
def qkrow (c : Dev nD) (t : Fin cfg0.N) (r : Fin 64) : Fin 384 → EReal :=
  ropeAt (fun n => val_main_v13 (F := Ideal) (m ((c : Thread nD τ).loc main_arg0)) (m ((c : Thread nD τ).loc main_arg1)) (m ((c : Thread nD τ).loc main_arg2)) (ix3 (brow t) r ⟨1024 + n.val, by omega⟩)) (fun i => val_main_v33 (F := Ideal) (m ((c : Thread nD τ).loc main_arg6)) (ix2 r i)) (fun i => val_main_v35 (F := Ideal) (m ((c : Thread nD τ).loc main_arg6)) (ix2 r i))
/-- The kernel's rotated queries and keys. -/
theorem z30 (c : Dev nD) (t : Fin cfg0.N) (r : Fin 64) (j : Fin 384) :
    k0_pay30 (F := Ideal) (k0_pay27 (iblk m c 1 t) (iblk m c 2 t) (iblk m c 4 t)) (iota Kind.tc S64x384 32 [1] iota_S64x384_d1_w32) 32#32 (iblk m c 10 t) (iblk m c 11 t) (ix2 r j) = qkrow m c t r j := by
  rw [pay30_at]
  unfold qkrow ropeAt
  simp only [z27, iblk10, iblk11]
/-- The kernel's rotated queries. -/
theorem z31 (c : Dev nD) (t : Fin cfg0.N) (r : Fin 64) (j : Fin 192) :
    k0_pay31 (F := Ideal) (k0_pay27 (iblk m c 1 t) (iblk m c 2 t) (iblk m c 4 t)) (iota Kind.tc S64x384 32 [1] iota_S64x384_d1_w32) 32#32 (iblk m c 10 t) (iblk m c 11 t) (ix2 r j) = qkrow m c t r ⟨j.val, by omega⟩ := by
  rw [← z30]
  generalize k0_pay27 (F := Ideal) _ _ _ = z
  pointwise [k0_pay31]
/-- The kernel's rotated and scaled keys. -/
theorem z32 (c : Dev nD) (t : Fin cfg0.N) (r : Fin 64) (j : Fin 192) :
    k0_pay32 (F := Ideal) (k0_pay27 (iblk m c 1 t) (iblk m c 2 t) (iblk m c 4 t)) (iota Kind.tc S64x384 32 [1] iota_S64x384_d1_w32) 32#32 (iblk m c 10 t) (iblk m c 11 t) (ix2 r j)
      = qkrow m c t r ⟨192 + j.val, by omega⟩ * Ideal.ofBits .f32 0x3E3504F3#32 := by
  rw [← z30]
  generalize k0_pay27 (F := Ideal) _ _ _ = z
  pointwise [k0_pay32]

/-- A selection by equality of two head numbers, zero otherwise. -/
theorem sel_head (a b : Fin 6) (P Q : EReal) (hQ : Q = 0) : Scalar.select (IntOp.cmpi CmpIPredicate.eq (IntOp.addi (BitVec.ofNat 32 a.val) 0#32) (BitVec.ofNat 32 b.val)) P Q = if a.val = b.val then P else 0 := by
  have ew : ∀ a b : Fin 6, IntOp.cmpi CmpIPredicate.eq (IntOp.addi (BitVec.ofNat 32 a.val) 0#32) (BitVec.ofNat 32 b.val) = if a.val = b.val then 1#1 else 0#1 := by decide +kernel
  rw [ew a b, hQ]
  by_cases hh : a.val = b.val
  · rw [if_pos hh, if_pos hh]; rfl
  · rw [if_neg hh, if_neg hh]; rfl

/-- The reference's weight of a token's value in the new state. -/
theorem v126_at (lg : FVec Ideal S6 .f32) (h : Fin 6) (i : Fin 64) :
    val_main_v126 (F := Ideal) lg (ix2 h i : Cert.MixerRefIdeal.S6x64.Idx)
      = Ideal.exp (lg (ix1 h) * (Ideal.ofBits .f32 0x427C0000#32 - FloatOps.sitofp (F := Ideal) .f32 (BitVec.ofNat 32 i.val))) := by
  pointwise [val_main_v126, val_main_v125, val_main_v124, val_main_v123, val_main_v122, val_main_v121, val_main_v120, val_main_cst_11, val_main_v87, val_main_v86]

/-- The reference's values. -/
theorem v18_at (x : FVec Ideal S8x64x1024 .f32) (g : FVec Ideal S1024 .f32) (w : FVec Ideal S1024x3456 .f32) (b : Fin 8) (s : Fin 64) (n : Fin 384) :
    val_main_v18 (F := Ideal) x g w (ix3 b s n : Cert.MixerRefIdeal.S8x64x384.Idx) = val_main_v13 (F := Ideal) x g w (ix3 b s ⟨1024 + (384 + n.val), by omega⟩) := by
  pointwise [val_main_v18, val_main_v14]

/-- The reference's new state at one entry of its block diagonal form. -/
theorem v170_at (x : FVec Ideal S8x64x1024 .f32) (g : FVec Ideal S1024 .f32) (w : FVec Ideal S1024x3456 .f32) (p : S64.Idx → BitVec 32) (lg : FVec Ideal S6 .f32) (R : FVec Ideal S8x6x32x64 .f32) (b : Fin 8) (v : Fin 384) (k : Fin 192) :
    val_main_v170 (F := Ideal) x g w lg p R (ix3 b v k : Cert.MixerRefIdeal.S8x384x192.Idx)
      = if v.val / 64 = k.val / 32 then
          Ideal.exp (lg (ix1 ⟨v.val / 64, by omega⟩) * Ideal.ofBits .f32 0x42800000#32) * R (ix4 b ⟨v.val / 64, by omega⟩ ⟨k.val % 32, by omega⟩ ⟨v.val % 64, by omega⟩)
            + ∑ s : Fin 64, (val_main_v79 (F := Ideal) x g w p (ix4 b s ⟨v.val / 64, by omega⟩ ⟨k.val % 32, by omega⟩ : Cert.MixerRefIdeal.S8x64x6x32.Idx) * Ideal.ofBits .f32 0x3E3504F3#32)
                * (val_main_v18 (F := Ideal) x g w (ix3 b s v : Cert.MixerRefIdeal.S8x64x384.Idx) * val_main_v126 (F := Ideal) lg (ix2 ⟨v.val / 64, by omega⟩ s : Cert.MixerRefIdeal.S6x64.Idx))
        else 0 := by
  pointwise [val_main_v170, val_main_v169, val_main_call2_v0, val_main_call2_v1, val_main_call2_v2, val_main_call2_v3, val_main_v168, val_main_v167, val_main_v166, val_main_v165, val_main_v164, val_main_v163, val_main_v162, val_main_v161, val_main_c, val_main_cst_18, val_main_v137, val_main_v136, val_main_v135, val_main_v134, val_main_v133, val_main_v132, val_main_v131, val_main_v130, val_main_cst_12, val_main_v87, val_main_v129, val_main_v128, val_main_v127, val_main_v85, val_main_v84, val_main_v83, val_main_v81, val_main_v80, val_main_cst_6]
  exact sel_head ⟨v.val / 64, by omega⟩ ⟨k.val / 32, by omega⟩ _ _ (by show Ideal.ofBits .f32 0#32 = 0; simp [Ideal.ofBits, Ideal.ieee])

/-- The new state's block from its matrix. -/
theorem pay3_at (u : FVec Ideal S384x192 .f32) (v : Fin 384) (k : Fin 192) : k0_pay3 (F := Ideal) u (ix3 0 v k : S1x384x192.Idx) = u (ix2 v k) := by
  pointwise [k0_pay3]
/-- The old state's matrix from its block. -/
theorem pay7_at (u : Vec Ideal S1x384x192 .f32) (v : Fin 384) (k : Fin 192) : k0_pay7 (F := Ideal) u (ix2 v k : S384x192.Idx) = u (ix3 0 v k) := by
  pointwise [k0_pay7]
/-- The values weighted for the new state. -/
theorem pay73_at (u : FVec Ideal S64x384 .f32) (l : Vec Ideal S1x384 .f32) (s : Fin 64) (v : Fin 384) : k0_pay73 (F := Ideal) u (k0_pay22 l) (ix2 s v : S64x384.Idx)
    = u (ix2 s v) * Ideal.exp (l (ix2 0 v) * (Ideal.ofBits .f32 0x427C0000#32 - FloatOps.sitofp (F := Ideal) .f32 (BitVec.ofNat 32 s.val))) := by
  pointwise [k0_pay73, k0_pay22]
/-- The row of decays over the key columns. -/
theorem lgk (c : Dev nD) (t : Fin cfg0.N) (k : Fin 192) : View.ld (iblk m c 12 t) (Rect.unit ![0, 0] ![1, 192] inb_S2x384_S1x192_0_0) (ix2 0 k : S1x192.Idx)
    = (m ((c : Thread nD τ).loc main_arg5)) (ix1 ⟨k.val / 32, by omega⟩) := by
  rw [← iblk12_0 m c t k]
  refine congrArg (iblk m c 12 t) ?_
  funext i; fin_cases i <;> (apply Fin.ext; simp [Rect.unit, Rect.emb])
/-- The row of decays over the value columns. -/
theorem lgv (c : Dev nD) (t : Fin cfg0.N) (k : Fin 384) : View.ld (iblk m c 12 t) (Rect.unit ![1, 0] ![1, 384] inb_S2x384_S1x384_1_0) (ix2 0 k : S1x384.Idx)
    = (m ((c : Thread nD τ).loc main_arg5)) (ix1 ⟨k.val / 64, by omega⟩) := by
  rw [← iblk12_1 m c t k]
  refine congrArg (iblk m c 12 t) ?_
  funext i; fin_cases i <;> (apply Fin.ext; simp [Rect.unit, Rect.emb])
/-- The row of decays as the state's payload takes it. -/
theorem pay33_at (u : Vec Ideal S1x192 .f32) (k : Fin 192) : k0_pay33 (F := Ideal) u (ix2 0 k : S1x192.Idx) = u (ix2 0 k) := by
  pointwise [k0_pay33]

/-- The reference's rotated keys before their scale, as a column of the rotated row. -/
theorem v79_row (c : Dev nD) (t : Fin cfg0.N) (r : Fin 64) (h : Fin 6) (d : Fin 32) :
    val_main_v79 (F := Ideal) (m ((c : Thread nD τ).loc main_arg0)) (m ((c : Thread nD τ).loc main_arg1)) (m ((c : Thread nD τ).loc main_arg2)) (m ((c : Thread nD τ).loc main_arg6)) (ix4 (brow t) r h d : Cert.MixerRefIdeal.S8x64x6x32.Idx) = qkrow m c t r ⟨192 + h.val * 32 + d.val, by omega⟩ :=
  v79_at _ _ _ _ _ _ _ _

/-- A sum over two heads' columns, kept to the head of column `j`, is the sum over that head's columns. -/
theorem sum_seg (f : Fin 128 → EReal) (j : Fin 128) : ∑ x : Fin 128, f x * (if x.val / 64 = j.val / 64 then 1 else 0)
    = ∑ i : Fin 64, f ⟨j.val / 64 * 64 + i.val, by omega⟩ := by
  rw [Fin.sum_univ_tiles 2 64 rfl, Finset.sum_eq_single (⟨j.val / 64, by omega⟩ : Fin 2)]
  · refine Finset.sum_congr rfl fun i _ => ?_
    rw [if_pos (show (j.val / 64 * 64 + i.val) / 64 = j.val / 64 by omega), mul_one]
  · intro b _ hb
    refine Finset.sum_eq_zero fun i _ => ?_
    have hb' : b.val ≠ j.val / 64 := fun e => hb (Fin.ext e)
    rw [if_neg (show ¬ (b.val * 64 + i.val) / 64 = j.val / 64 by omega), mul_zero]
  · exact fun h => absurd (Finset.mem_univ _) h

/-- A sum over all heads' key columns against a block of head `a` alone is the sum over that head's columns. -/
theorem sum_head (f g : Fin 192 → EReal) (a : Fin 6) : ∑ k : Fin 192, f k * (if a.val = k.val / 32 then g k else 0)
    = ∑ d : Fin 32, f ⟨a.val * 32 + d.val, by omega⟩ * g ⟨a.val * 32 + d.val, by omega⟩ := by
  rw [Fin.sum_univ_tiles 6 32 rfl, Finset.sum_eq_single a]
  · refine Finset.sum_congr rfl fun i _ => ?_
    rw [if_pos (show a.val = (a.val * 32 + i.val) / 32 by omega)]
  · intro b _ hb
    refine Finset.sum_eq_zero fun i _ => ?_
    have hb' : b.val ≠ a.val := fun e => hb (Fin.ext e)
    rw [if_neg (show ¬ a.val = (b.val * 32 + i.val) / 32 by omega), mul_zero]
  · exact fun h => absurd (Finset.mem_univ _) h

/-- The kernel's head number of a column among two heads. -/
theorem pair_word : ∀ x : Fin 128, (Scalar.select (IntOp.andi (IntOp.cmpi CmpIPredicate.ne (IntOp.subi (BitVec.setWidth 32 (IntOp.cmpi CmpIPredicate.sgt (BitVec.ofNat 32 x.val) 0#32)) (BitVec.setWidth 32 (IntOp.cmpi CmpIPredicate.slt (BitVec.ofNat 32 x.val) 0#32))) 1#32) (IntOp.cmpi CmpIPredicate.ne (IntOp.remsi ArithUnit.vector (BitVec.ofNat 32 x.val) 64#32) 0#32)) (IntOp.subi (IntOp.divsi ArithUnit.vector (BitVec.ofNat 32 x.val) 64#32) 1#32) (IntOp.divsi ArithUnit.vector (BitVec.ofNat 32 x.val) 64#32)) = BitVec.ofNat 32 (x.val / 64) := by decide +kernel
/-- Two such head numbers compared. -/
theorem pair_eq : ∀ a b : Fin 2, IntOp.cmpi CmpIPredicate.eq (BitVec.ofNat 32 a.val) (BitVec.ofNat 32 b.val) = if a.val = b.val then 1#1 else 0#1 := by decide +kernel
/-- The kernel's mask of equal heads as a number. -/
theorem mask_val (x j : Fin 128) (C C' : BitVec 32) (hC : C = 1#32) (hC' : C' = 1#32) :
    FloatOps.sitofp (F := Ideal) .f32 (BitVec.setWidth 32 (IntOp.cmpi CmpIPredicate.eq (Scalar.select (IntOp.andi (IntOp.cmpi CmpIPredicate.ne (IntOp.subi (BitVec.setWidth 32 (IntOp.cmpi CmpIPredicate.sgt (BitVec.ofNat 32 x.val) 0#32)) (BitVec.setWidth 32 (IntOp.cmpi CmpIPredicate.slt (BitVec.ofNat 32 x.val) 0#32))) C) (IntOp.cmpi CmpIPredicate.ne (IntOp.remsi ArithUnit.vector (BitVec.ofNat 32 x.val) 64#32) 0#32)) (IntOp.subi (IntOp.divsi ArithUnit.vector (BitVec.ofNat 32 x.val) 64#32) 1#32) (IntOp.divsi ArithUnit.vector (BitVec.ofNat 32 x.val) 64#32)) (Scalar.select (IntOp.andi (IntOp.cmpi CmpIPredicate.ne (IntOp.subi (BitVec.setWidth 32 (IntOp.cmpi CmpIPredicate.sgt (BitVec.ofNat 32 j.val) 0#32)) (BitVec.setWidth 32 (IntOp.cmpi CmpIPredicate.slt (BitVec.ofNat 32 j.val) 0#32))) C') (IntOp.cmpi CmpIPredicate.ne (IntOp.remsi ArithUnit.vector (BitVec.ofNat 32 j.val) 64#32) 0#32)) (IntOp.subi (IntOp.divsi ArithUnit.vector (BitVec.ofNat 32 j.val) 64#32) 1#32) (IntOp.divsi ArithUnit.vector (BitVec.ofNat 32 j.val) 64#32))))
      = (if x.val / 64 = j.val / 64 then 1 else 0 : EReal) := by
  subst hC hC'
  rw [pair_word x, pair_word j, pair_eq ⟨x.val / 64, by omega⟩ ⟨j.val / 64, by omega⟩]
  by_cases h : x.val / 64 = j.val / 64
  · rw [if_pos h, if_pos h]
    show (((BitVec.setWidth 32 1#1).toInt : ℝ) : EReal) = 1
    rw [show (BitVec.setWidth 32 1#1).toInt = 1 from by decide]; simp
  · rw [if_neg h, if_neg h]
    show (((BitVec.setWidth 32 0#1).toInt : ℝ) : EReal) = 0
    rw [show (BitVec.setWidth 32 0#1).toInt = 0 from by decide]; simp
/-- A product with the mask of equal heads sums over the head. -/
theorem seg_of (f M : Fin 128 → EReal) (j : Fin 128) (h : ∀ x, M x = if x.val / 64 = j.val / 64 then 1 else 0) :
    ∑ x : Fin 128, f x * M x = ∑ i : Fin 64, f ⟨j.val / 64 * 64 + i.val, by omega⟩ := by
  rw [← sum_seg]; exact Finset.sum_congr rfl fun x _ => by rw [h x]

/-- The first pair of heads, summed head by head. -/
theorem pay46_at (u : FVec Ideal S64x128 .bf16) (r : Fin 64) (j : Fin 128) :
    k0_pay46 (F := Ideal) u (iota Kind.tc S128x128 32 [0] iota_S128x128_d0_w32) 64#32 k0_pay44 k0_pay45 1#1 (ix2 r j) = ∑ i : Fin 64, u (ix2 r ⟨j.val / 64 * 64 + i.val, by omega⟩) := by
  pointwise [k0_pay46, k0_pay44, k0_pay45]
  exact seg_of _ _ j fun x => mask_val x j _ _ rfl rfl
/-- The second pair of heads, summed head by head, for any words whose comparison is the mask of equal heads. -/
theorem pay53_at (u : FVec Ideal S64x128 .bf16) (a b d : IVec S128x128 32) (e : IVec S128x128 1)
    (h : ∀ x j : Fin 128, FloatOps.sitofp (F := Ideal) .f32 (BitVec.setWidth 32 (IntOp.cmpi CmpIPredicate.eq (a (ix2 x j)) (Scalar.select (e (ix2 x j)) (d (ix2 x j)) (b (ix2 x j))))) = (if x.val / 64 = j.val / 64 then 1 else 0 : EReal))
    (r : Fin 64) (j : Fin 128) :
    k0_pay53 (F := Ideal) u a b e d (ix2 r j) = ∑ i : Fin 64, u (ix2 r ⟨j.val / 64 * 64 + i.val, by omega⟩) := by
  pointwise [k0_pay53]
  exact seg_of _ _ j fun x => h x j
/-- The second pair's words. -/
theorem words53 (x j : Fin 128) : FloatOps.sitofp (F := Ideal) .f32 (BitVec.setWidth 32 (IntOp.cmpi CmpIPredicate.eq (k0_pay49 (iota Kind.tc S128x128 32 [0] iota_S128x128_d0_w32) 64#32 k0_pay48 (ix2 x j)) (Scalar.select (k0_pay51 (ix2 x j)) (k0_pay52 (ix2 x j)) (k0_pay50 (ix2 x j))))) = (if x.val / 64 = j.val / 64 then 1 else 0 : EReal) := by
  pointwise [k0_pay49, k0_pay48, k0_pay51, k0_pay52, k0_pay50]
  exact mask_val x j _ _ rfl rfl
/-- The first pair of heads, squares summed head by head. -/
theorem pay62_at (u : FVec Ideal S64x128 .bf16) (r : Fin 64) (j : Fin 128) :
    k0_pay62 (F := Ideal) u k0_pay61 (iota Kind.tc S128x128 32 [1] iota_S128x128_d1_w32) (ix2 r j) = ∑ i : Fin 64, u (ix2 r ⟨j.val / 64 * 64 + i.val, by omega⟩) := by
  pointwise [k0_pay62, k0_pay61]
  exact seg_of _ _ j fun x => mask_val x j _ _ rfl rfl
/-- The second pair of heads, squares summed head by head. -/
theorem pay67_at (u : FVec Ideal S64x128 .bf16) (r : Fin 64) (j : Fin 128) :
    k0_pay67 (F := Ideal) u (iota Kind.tc S128x128 32 [0] iota_S128x128_d0_w32) 64#32 k0_pay64 k0_pay65 k0_pay66 (ix2 r j) = ∑ i : Fin 64, u (ix2 r ⟨j.val / 64 * 64 + i.val, by omega⟩) := by
  pointwise [k0_pay67, k0_pay64, k0_pay65, k0_pay66]
  exact seg_of _ _ j fun x => mask_val x j _ _ rfl rfl

/-- A product with the reciprocal of 64 is a division by 64. -/
theorem div_64 (x : EReal) : x * Ideal.ofBits .f32 0x3C800000#32 = Ideal.div x (Ideal.ofBits .f32 0x42800000#32) := by
  have h1 : Ideal.ofBits .f32 0x3C800000#32 = ((1 / 64 : ℝ) : EReal) := by simp [Ideal.ofBits, Ideal.ieee, -EReal.coe_mul]; norm_num
  have h2 : Ideal.ofBits .f32 0x42800000#32 = ((64 : ℝ) : EReal) := by simp [Ideal.ofBits, Ideal.ieee, -EReal.coe_mul]; norm_num
  rw [h1, h2, Ideal.div_coe (by norm_num)]
/-- The first pair of heads, as the kernel slices it from the squares. -/
theorem pay60_at (OO : FVec Ideal S64x384 .f32) (u1 u2 : FVec Ideal S64x128 .f32) (u3 : FVec Ideal S64x128 .bf16) (a b d e : IVec S128x128 32) (w x y : BitVec 32) (r : Fin 64) (j : Fin 128) :
    k0_pay60 (F := Ideal) OO u1 u2 u3 a b w d e x y (ix2 r j) = k0_pay59 (F := Ideal) OO u1 u2 u3 a b w d e x y (ix2 r ⟨j.val, by omega⟩ : S64x384.Idx) := by
  pointwise [k0_pay60]
/-- The squares of the centred outputs. -/
theorem pay59_at (OO : FVec Ideal S64x384 .f32) (u1 u2 : FVec Ideal S64x128 .f32) (u3 : FVec Ideal S64x128 .bf16) (a b d e : IVec S128x128 32) (w x y : BitVec 32) (r : Fin 64) (j : Fin 384) :
    k0_pay59 (F := Ideal) OO u1 u2 u3 a b w d e x y (ix2 r j) = k0_pay58 (F := Ideal) OO u1 u2 u3 a b w d e x y (ix2 r j) * k0_pay58 (F := Ideal) OO u1 u2 u3 a b w d e x y (ix2 r j) := by
  pointwise [k0_pay59]
/-- The second pair of heads, as the kernel slices it from the outputs. -/
theorem pay47_at (X : FVec Ideal S64x384 .f32) (r : Fin 64) (j : Fin 128) : k0_pay47 (F := Ideal) X (ix2 r j : S64x128.Idx) = X (ix2 r ⟨128 + j.val, by omega⟩) := by
  pointwise [k0_pay47]
/-- The second pair of heads, as the kernel slices it from the squares. -/
theorem pay63_at (X : FVec Ideal S64x384 .f32) (r : Fin 64) (j : Fin 128) : k0_pay63 (F := Ideal) X (ix2 r j : S64x128.Idx) = X (ix2 r ⟨128 + j.val, by omega⟩) := by
  pointwise [k0_pay63]
/-- The third pair of heads, as the kernel slices it from the squares. -/
theorem pay68_at (X : FVec Ideal S64x384 .f32) (r : Fin 64) (j : Fin 128) : k0_pay68 (F := Ideal) X (ix2 r j : S64x128.Idx) = X (ix2 r ⟨256 + j.val, by omega⟩) := by
  pointwise [k0_pay68]
/-- The outputs less the mean of their head, at one entry. -/
theorem pay58_at (OO : FVec Ideal S64x384 .f32) (u1 u2 : FVec Ideal S64x128 .f32)
    (h1 : ∀ (r : Fin 64) (j : Fin 128), u1 (ix2 r j) = ∑ i : Fin 64, OO (ix2 r ⟨j.val / 64 * 64 + i.val, by omega⟩))
    (h2 : ∀ (r : Fin 64) (j : Fin 128), u2 (ix2 r j) = ∑ i : Fin 64, OO (ix2 r ⟨128 + (j.val / 64 * 64 + i.val), by omega⟩)) (r : Fin 64) (n : Fin 384) :
    k0_pay58 (F := Ideal) OO u1 u2 (k0_pay54 OO) k0_pay55 (iota Kind.tc S128x128 32 [1] iota_S128x128_d1_w32) 64#32 k0_pay56 k0_pay57 1#32 0#32 (ix2 r n) = OO (ix2 r n) - Ideal.div (∑ i : Fin 64, OO (ix2 r ⟨n.val / 64 * 64 + i.val, by omega⟩)) (Ideal.ofBits .f32 0x42800000#32) := by
  pointwise [k0_pay58, k0_pay54, k0_pay55, k0_pay56, k0_pay57]
  rw [← div_64]
  refine congrArg (fun z => OO (ix2 r n) - z * Ideal.ofBits .f32 0x3C800000#32) ?_
  have eO : ∀ (a b : ℕ) (ha : a < 384) (hb : b < 384), a = b → OO (ix2 r ⟨a, ha⟩) = OO (ix2 r ⟨b, hb⟩) := by rintro a _ _ _ rfl; rfl
  by_cases c1 : n.val < 128
  · rw [dif_pos c1, h1]
  · rw [dif_neg c1]
    by_cases c2 : n.val - 128 < 128
    · rw [dif_pos c2, h2]
      exact Finset.sum_congr rfl fun i _ => eO _ _ _ _ (by dsimp only; omega)
    · rw [dif_neg c2]
      refine (seg_of _ _ (⟨n.val - 128 - 128, by omega⟩ : Fin 128) fun x => mask_val x ⟨n.val - 128 - 128, by omega⟩ _ _ rfl rfl).trans ?_
      exact Finset.sum_congr rfl fun i _ => eO _ _ _ _ (by dsimp only; omega)
/-- The variance of every head, at one entry. -/
theorem pay72_at (X : FVec Ideal S64x384 .f32) (u1 u2 : FVec Ideal S64x128 .f32) (u3 : FVec Ideal S64x128 .bf16)
    (h1 : ∀ (r : Fin 64) (j : Fin 128), u1 (ix2 r j) = ∑ i : Fin 64, X (ix2 r ⟨j.val / 64 * 64 + i.val, by omega⟩))
    (h2 : ∀ (r : Fin 64) (j : Fin 128), u2 (ix2 r j) = ∑ i : Fin 64, X (ix2 r ⟨128 + (j.val / 64 * 64 + i.val), by omega⟩))
    (h3 : ∀ (r : Fin 64) (j : Fin 128), u3 (ix2 r j) = X (ix2 r ⟨256 + j.val, by omega⟩)) (r : Fin 64) (n : Fin 384) :
    k0_pay72 (F := Ideal) u1 u2 u3 (k0_pay71 (iota Kind.tc S128x128 32 [0] iota_S128x128_d0_w32) 64#32 k0_pay69 k0_pay70 0#32) (constant S64x128 .f32 0x00000000#32) (ix2 r n)
      = Ideal.div (∑ i : Fin 64, X (ix2 r ⟨n.val / 64 * 64 + i.val, by omega⟩)) (Ideal.ofBits .f32 0x42800000#32) := by
  pointwise [k0_pay72, k0_pay71, k0_pay69, k0_pay70]
  rw [← div_64]
  refine congrArg (fun z => z * Ideal.ofBits .f32 0x3C800000#32) ?_
  have eO : ∀ (a b : ℕ) (ha : a < 384) (hb : b < 384), a = b → X (ix2 r ⟨a, ha⟩) = X (ix2 r ⟨b, hb⟩) := by rintro a _ _ _ rfl; rfl
  by_cases c1 : n.val < 128
  · rw [dif_pos c1, h1]
  · rw [dif_neg c1]
    by_cases c2 : n.val - 128 < 128
    · rw [dif_pos c2, h2]
      exact Finset.sum_congr rfl fun i _ => eO _ _ _ _ (by dsimp only; omega)
    · rw [dif_neg c2]
      refine (seg_of _ _ (⟨n.val - 128 - 128, by omega⟩ : Fin 128) fun x => mask_val x ⟨n.val - 128 - 128, by omega⟩ _ _ rfl rfl).trans ?_
      exact Finset.sum_congr rfl fun i _ => (h3 _ _).trans (eO _ _ _ _ (by dsimp only; omega))
/-- The normed and gated outputs, at one entry. -/
theorem pay78_at (a b g : FVec Ideal S64x384 .f32) (r : Fin 64) (n : Fin 384) :
    k0_pay78 (F := Ideal) g a b (ix3 0 r n : S1x64x384.Idx)
      = a (ix2 r n) * Ideal.rsqrt (b (ix2 r n) + Ideal.ofBits .f32 0x358637BD#32) * (g (ix2 r n) * Ideal.div 1 (1 + Ideal.exp (-g (ix2 r n)))) := by
  rw [← sigmoid_eq]
  pointwise [k0_pay78]

/-- Layer norm of one row within the head of column `n`, without scale. -/
def lnAt (o : Fin 384 → EReal) (n : Fin 384) : EReal :=
  (o n - Ideal.div (∑ i : Fin 64, o ⟨n.val / 64 * 64 + i.val, by omega⟩) (Ideal.ofBits .f32 0x42800000#32))
    * Ideal.rsqrt (Ideal.div (∑ i : Fin 64, (o ⟨n.val / 64 * 64 + i.val, by omega⟩ - Ideal.div (∑ i : Fin 64, o ⟨n.val / 64 * 64 + i.val, by omega⟩) (Ideal.ofBits .f32 0x42800000#32))
        * (o ⟨n.val / 64 * 64 + i.val, by omega⟩ - Ideal.div (∑ i : Fin 64, o ⟨n.val / 64 * 64 + i.val, by omega⟩) (Ideal.ofBits .f32 0x42800000#32))) (Ideal.ofBits .f32 0x42800000#32) + Ideal.ofBits .f32 0x358637BD#32)

/-- What the kernel makes of a row of outputs: its layer norm head by head, gated. -/
theorem norm_at (z OO : FVec Ideal S64x384 .f32) (OT : FVec Ideal S64x128 .bf16) (a b d : IVec S128x128 32) (e : IVec S128x128 1)
    (h : ∀ x j : Fin 128, FloatOps.sitofp (F := Ideal) .f32 (BitVec.setWidth 32 (IntOp.cmpi CmpIPredicate.eq (a (ix2 x j)) (Scalar.select (e (ix2 x j)) (d (ix2 x j)) (b (ix2 x j))))) = (if x.val / 64 = j.val / 64 then 1 else 0 : EReal))
    (hOT : ∀ (r : Fin 64) (j : Fin 128), OT (ix2 r j) = OO (ix2 r ⟨j.val, by omega⟩)) (r : Fin 64) (n : Fin 384) :
    k0_pay78 (F := Ideal) z (k0_pay58 OO (k0_pay46 OT (iota Kind.tc S128x128 32 [0] iota_S128x128_d0_w32) 64#32 k0_pay44 k0_pay45 1#1) (k0_pay53 (k0_pay47 OO) a b e d) (k0_pay54 OO) k0_pay55 (iota Kind.tc S128x128 32 [1] iota_S128x128_d1_w32) 64#32 k0_pay56 k0_pay57 1#32 0#32)
      (k0_pay72 (k0_pay62 (k0_pay60 OO (k0_pay46 OT (iota Kind.tc S128x128 32 [0] iota_S128x128_d0_w32) 64#32 k0_pay44 k0_pay45 1#1) (k0_pay53 (k0_pay47 OO) a b e d) (k0_pay54 OO) k0_pay55 (iota Kind.tc S128x128 32 [1] iota_S128x128_d1_w32) 64#32 k0_pay56 k0_pay57 1#32 0#32) k0_pay61 (iota Kind.tc S128x128 32 [1] iota_S128x128_d1_w32))
        (k0_pay67 (k0_pay63 (k0_pay59 OO (k0_pay46 OT (iota Kind.tc S128x128 32 [0] iota_S128x128_d0_w32) 64#32 k0_pay44 k0_pay45 1#1) (k0_pay53 (k0_pay47 OO) a b e d) (k0_pay54 OO) k0_pay55 (iota Kind.tc S128x128 32 [1] iota_S128x128_d1_w32) 64#32 k0_pay56 k0_pay57 1#32 0#32)) (iota Kind.tc S128x128 32 [0] iota_S128x128_d0_w32) 64#32 k0_pay64 k0_pay65 k0_pay66)
        (k0_pay68 (k0_pay59 OO (k0_pay46 OT (iota Kind.tc S128x128 32 [0] iota_S128x128_d0_w32) 64#32 k0_pay44 k0_pay45 1#1) (k0_pay53 (k0_pay47 OO) a b e d) (k0_pay54 OO) k0_pay55 (iota Kind.tc S128x128 32 [1] iota_S128x128_d1_w32) 64#32 k0_pay56 k0_pay57 1#32 0#32)) (k0_pay71 (iota Kind.tc S128x128 32 [0] iota_S128x128_d0_w32) 64#32 k0_pay69 k0_pay70 0#32) (constant S64x128 .f32 0x00000000#32)) (ix3 0 r n : S1x64x384.Idx)
      = lnAt (fun j => OO (ix2 r j)) n * (z (ix2 r n) * Ideal.div 1 (1 + Ideal.exp (-z (ix2 r n)))) := by
  have hX : ∀ (r : Fin 64) (n : Fin 384), k0_pay58 (F := Ideal) OO (k0_pay46 OT (iota Kind.tc S128x128 32 [0] iota_S128x128_d0_w32) 64#32 k0_pay44 k0_pay45 1#1) (k0_pay53 (k0_pay47 OO) a b e d) (k0_pay54 OO) k0_pay55 (iota Kind.tc S128x128 32 [1] iota_S128x128_d1_w32) 64#32 k0_pay56 k0_pay57 1#32 0#32 (ix2 r n) = OO (ix2 r n) - Ideal.div (∑ i : Fin 64, OO (ix2 r ⟨n.val / 64 * 64 + i.val, by omega⟩)) (Ideal.ofBits .f32 0x42800000#32) :=
    pay58_at OO _ _ (fun r j => by rw [pay46_at]; simp only [hOT]) (fun r j => by rw [pay53_at _ a b d e h]; simp only [pay47_at])
  rw [pay78_at, hX, pay72_at (k0_pay59 OO (k0_pay46 OT (iota Kind.tc S128x128 32 [0] iota_S128x128_d0_w32) 64#32 k0_pay44 k0_pay45 1#1) (k0_pay53 (k0_pay47 OO) a b e d) (k0_pay54 OO) k0_pay55 (iota Kind.tc S128x128 32 [1] iota_S128x128_d1_w32) 64#32 k0_pay56 k0_pay57 1#32 0#32) _ _ _ (fun r j => by rw [pay62_at]; simp only [pay60_at]) (fun r j => by rw [pay67_at]; simp only [pay63_at]) (fun r j => by rw [pay68_at])]
  simp only [pay59_at, hX]
  unfold lnAt
  have eO : ∀ (a b : ℕ) (ha : a < 384) (hb : b < 384), a = b → OO (ix2 r ⟨a, ha⟩) = OO (ix2 r ⟨b, hb⟩) := by rintro a _ _ _ rfl; rfl
  have hm : ∀ i : Fin 64, (∑ k : Fin 64, OO (ix2 r ⟨(n.val / 64 * 64 + i.val) / 64 * 64 + k.val, by omega⟩)) = ∑ k : Fin 64, OO (ix2 r ⟨n.val / 64 * 64 + k.val, by omega⟩) :=
    fun i => Finset.sum_congr rfl fun k _ => eO _ _ _ _ (by omega)
  simp only [hm]

/-- The retention's outputs before their norm, at one entry: the scores of the head against the values, and the old state's part. -/
theorem pay42_at (z CR : FVec Ideal S64x384 .f32) (Q K : FVec Ideal S64x192 .f32) (Q0 : FVec Ideal S64x32 .f32) (D0 D1 D2 D3 D4 D5 : Vec Ideal S1x64x64 .f32) (E : Fin 6 → Fin 64 → Fin 64 → EReal)
    (hQ : ∀ (r : Fin 64) (d : Fin 32), Q0 (ix2 r d) = Q (ix2 r ⟨d.val, by omega⟩))
    (h0 : ∀ r s : Fin 64, D0 (ix3 0 r s) = E 0 r s) (h1 : ∀ r s : Fin 64, D1 (ix3 0 r s) = E 1 r s) (h2 : ∀ r s : Fin 64, D2 (ix3 0 r s) = E 2 r s)
    (h3 : ∀ r s : Fin 64, D3 (ix3 0 r s) = E 3 r s) (h4 : ∀ r s : Fin 64, D4 (ix3 0 r s) = E 4 r s) (h5 : ∀ r s : Fin 64, D5 (ix3 0 r s) = E 5 r s) (r : Fin 64) (n : Fin 384) :
    k0_pay42 (F := Ideal) z CR (k0_pay36 Q K) (k0_pay37 Q K) (k0_pay38 Q K) (k0_pay39 Q K) (k0_pay40 z K Q0 D0) (k0_pay41 z Q K D1) D2 D3 D4 D5 (ix2 r n)
      = (∑ s : Fin 64, (∑ d : Fin 32, Q (ix2 r ⟨n.val / 64 * 32 + d.val, by omega⟩) * K (ix2 s ⟨n.val / 64 * 32 + d.val, by omega⟩)) * E ⟨n.val / 64, by omega⟩ r s * z (ix2 s n)) + CR (ix2 r n) := by
  pointwise [k0_pay42, k0_pay41, k0_pay40, k0_pay39, k0_pay38, k0_pay37, k0_pay36]
  simp only [hQ, h0, h1, h2, h3, h4, h5]
  refine congrArg (· + CR (ix2 r n)) ?_
  have eQ : ∀ (a b : ℕ) (ha : a < 192) (hb : b < 192), a = b → Q (ix2 r ⟨a, ha⟩) = Q (ix2 r ⟨b, hb⟩) := by rintro a _ _ _ rfl; rfl
  have eK : ∀ (s : Fin 64) (a b : ℕ) (ha : a < 192) (hb : b < 192), a = b → K (ix2 s ⟨a, ha⟩) = K (ix2 s ⟨b, hb⟩) := by rintro s a _ _ _ rfl; rfl
  have ez : ∀ (s : Fin 64) (a : ℕ) (ha : a < 384), a = n.val → z (ix2 s ⟨a, ha⟩) = z (ix2 s n) := by intro s a ha e; subst e; rfl
  by_cases c0 : n.val < 64
  · rw [dif_pos c0]
    rw [show (⟨n.val / 64, by omega⟩ : Fin 6) = 0 from Fin.ext (show n.val / 64 = 0 by omega)]
    exact Finset.sum_congr rfl fun s _ => congrArg₂ (· * ·) (congrArg₂ (· * ·) (Finset.sum_congr rfl fun d _ => congrArg₂ (· * ·) (eQ _ _ _ _ (by omega)) (eK _ _ _ _ _ (by omega))) rfl) (ez _ _ _ (by omega))
  · rw [dif_neg c0]
    by_cases c1 : n.val - 64 < 64
    · rw [dif_pos c1]
      rw [show (⟨n.val / 64, by omega⟩ : Fin 6) = 1 from Fin.ext (show n.val / 64 = 1 by omega)]
      exact Finset.sum_congr rfl fun s _ => congrArg₂ (· * ·) (congrArg₂ (· * ·) (Finset.sum_congr rfl fun d _ => congrArg₂ (· * ·) (eQ _ _ _ _ (by omega)) (eK _ _ _ _ _ (by omega))) rfl) (ez _ _ _ (by omega))
    · rw [dif_neg c1]
      by_cases c2 : n.val - 64 - 64 < 64
      · rw [dif_pos c2]
        rw [show (⟨n.val / 64, by omega⟩ : Fin 6) = 2 from Fin.ext (show n.val / 64 = 2 by omega)]
        exact Finset.sum_congr rfl fun s _ => congrArg₂ (· * ·) (congrArg₂ (· * ·) (Finset.sum_congr rfl fun d _ => congrArg₂ (· * ·) (eQ _ _ _ _ (by omega)) (eK _ _ _ _ _ (by omega))) rfl) (ez _ _ _ (by omega))
      · rw [dif_neg c2]
        by_cases c3 : n.val - 64 - 64 - 64 < 64
        · rw [dif_pos c3]
          rw [show (⟨n.val / 64, by omega⟩ : Fin 6) = 3 from Fin.ext (show n.val / 64 = 3 by omega)]
          exact Finset.sum_congr rfl fun s _ => congrArg₂ (· * ·) (congrArg₂ (· * ·) (Finset.sum_congr rfl fun d _ => congrArg₂ (· * ·) (eQ _ _ _ _ (by omega)) (eK _ _ _ _ _ (by omega))) rfl) (ez _ _ _ (by omega))
        · rw [dif_neg c3]
          by_cases c4 : n.val - 64 - 64 - 64 - 64 < 64
          · rw [dif_pos c4]
            rw [show (⟨n.val / 64, by omega⟩ : Fin 6) = 4 from Fin.ext (show n.val / 64 = 4 by omega)]
            exact Finset.sum_congr rfl fun s _ => congrArg₂ (· * ·) (congrArg₂ (· * ·) (Finset.sum_congr rfl fun d _ => congrArg₂ (· * ·) (eQ _ _ _ _ (by omega)) (eK _ _ _ _ _ (by omega))) rfl) (ez _ _ _ (by omega))
          · rw [dif_neg c4]
            rw [show (⟨n.val / 64, by omega⟩ : Fin 6) = 5 from Fin.ext (show n.val / 64 = 5 by omega)]
            exact Finset.sum_congr rfl fun s _ => congrArg₂ (· * ·) (congrArg₂ (· * ·) (Finset.sum_congr rfl fun d _ => congrArg₂ (· * ·) (eQ _ _ _ _ (by omega)) (eK _ _ _ _ _ (by omega))) rfl) (ez _ _ _ (by omega))

/-- The number of a token, as the programs make it from its index. -/
def tok (i : Fin 64) : EReal := FloatOps.sitofp (F := Ideal) .f32 (BitVec.ofNat 32 i.val)
/-- The decay from token `s` to token `r` at the log decay `l`: zero for a later `s`. -/
def decay (l : EReal) (r s : Fin 64) : EReal := if 0 ≤ tok r - tok s then Ideal.exp (l * max (tok r - tok s) 0) else 0
/-- The difference of two token numbers, taken in words or in numbers. -/
theorem tok_sub (r s : Fin 64) : FloatOps.sitofp (F := Ideal) .f32 (IntOp.subi (BitVec.ofNat 32 r.val) (BitVec.ofNat 32 s.val)) = tok r - tok s := by
  have e : ∀ r s : Fin 64, (IntOp.subi (BitVec.ofNat 32 r.val) (BitVec.ofNat 32 s.val)).toInt = (BitVec.ofNat 32 r.val).toInt - (BitVec.ofNat 32 s.val).toInt := by decide +kernel
  show (((IntOp.subi (BitVec.ofNat 32 r.val) (BitVec.ofNat 32 s.val)).toInt : ℝ) : EReal) = (((BitVec.ofNat 32 r.val).toInt : ℝ) : EReal) - (((BitVec.ofNat 32 s.val).toInt : ℝ) : EReal)
  rw [e r s, Int.cast_sub, EReal.coe_sub]
/-- The reference's table of decays. -/
theorem v103_at (lg : FVec Ideal S6 .f32) (h : Fin 6) (i j : Fin 64) :
    val_main_v103 (F := Ideal) lg (ix3 h i j : Cert.MixerRefIdeal.S6x64x64.Idx) = decay (lg (ix1 h)) i j := by
  pointwise [val_main_v103, val_main_call0_v0, val_main_call0_v1, val_main_call0_v2, val_main_v102, val_main_v101, val_main_v100, val_main_v99, val_main_v98, val_main_v97, val_main_v96, val_main_v95, val_main_v94, val_main_v93, val_main_v92, val_main_v91, val_main_v90, val_main_v89, val_main_v88, val_main_v87, val_main_v86, val_main_cst_7, val_main_cst_8, val_main_cst_9]
  unfold decay tok
  refine if_congr Iff.rfl rfl ?_
  show Ideal.ofBits .f32 0#32 = 0
  simp [Ideal.ofBits, Ideal.ieee]
/-- The reference's decay of the old state at token `i`. -/
theorem v115_at (lg : FVec Ideal S6 .f32) (h : Fin 6) (i : Fin 64) :
    val_main_v115 (F := Ideal) lg (ix2 h i : Cert.MixerRefIdeal.S6x64.Idx) = Ideal.exp (lg (ix1 h) * (tok i + 1)) := by
  unfold tok
  pointwise [val_main_v115, val_main_v114, val_main_v113, val_main_v112, val_main_v111, val_main_v110, val_main_v109, val_main_cst_10, val_main_v87, val_main_v86]
/-- The kernel's decays of the old state. -/
theorem pay21_at (l : Vec Ideal S1x192 .f32) (r : Fin 64) (n : Fin 192) :
    k0_pay21 (F := Ideal) k0_pay20 l (ix2 r n : S64x192.Idx) = Ideal.exp (l (ix2 0 n) * (tok r + 1)) := by
  unfold tok
  pointwise [k0_pay21, k0_pay20]
/-- The old state's part of the outputs. -/
theorem pay34_at (z : FVec Ideal S64x384 .f32) (ct st : Vec Ideal S64x384 .f32) (ST : Vec Ideal S384x192 .f32) (W : Vec Ideal S64x192 .f32) (r : Fin 64) (n : Fin 384) :
    k0_pay34 (F := Ideal) z (iota Kind.tc S64x384 32 [1] iota_S64x384_d1_w32) 32#32 ct st ST W (ix2 r n)
      = ∑ k : Fin 192, k0_pay31 (F := Ideal) z (iota Kind.tc S64x384 32 [1] iota_S64x384_d1_w32) 32#32 ct st (ix2 r k) * W (ix2 r k) * ST (ix2 n k) := by
  pointwise [k0_pay34]
/-- The first head's queries. -/
theorem pay35_at (z : FVec Ideal S64x384 .f32) (ct st : Vec Ideal S64x384 .f32) (r : Fin 64) (n : Fin 32) :
    k0_pay35 (F := Ideal) z (iota Kind.tc S64x384 32 [1] iota_S64x384_d1_w32) 32#32 ct st (ix2 r n)
      = k0_pay31 (F := Ideal) z (iota Kind.tc S64x384 32 [1] iota_S64x384_d1_w32) 32#32 ct st (ix2 r ⟨n.val, by omega⟩) := by
  pointwise [k0_pay35]
/-- The first pair of heads, as the kernel slices it from the outputs. -/
theorem pay43_at (z CR : FVec Ideal S64x384 .f32) (S2 S3 S4 S5 I0 I1 : FVec Ideal S64x64 .f32) (D2 D3 D4 D5 : Vec Ideal S1x64x64 .f32) (r : Fin 64) (n : Fin 128) :
    k0_pay43 (F := Ideal) z CR S2 S3 S4 S5 I0 I1 D2 D3 D4 D5 (ix2 r n) = k0_pay42 (F := Ideal) z CR S2 S3 S4 S5 I0 I1 D2 D3 D4 D5 (ix2 r ⟨n.val, by omega⟩) := by
  pointwise [k0_pay43]
/-- The kernel's table of decays for head 0. -/
theorem dec0_at (l : Elt Ideal .f32) (r s : Fin 64) : k0_pay13 (F := Ideal) (k0_pay11 (F := Ideal)) l k0_pay12 (ix3 0 r s : S1x64x64.Idx) = decay l r s := by
  unfold decay; simp only [← tok_sub]
  pointwise [k0_pay10, k0_pay11, k0_pay12, k0_pay13]
/-- The kernel's table of decays for head 1. -/
theorem dec1_at (l : Elt Ideal .f32) (r s : Fin 64) : k0_pay14 (F := Ideal) k0_pay10 l (ix3 0 r s : S1x64x64.Idx) = decay l r s := by
  unfold decay; simp only [← tok_sub]
  pointwise [k0_pay10, k0_pay14]
/-- The kernel's table of decays for head 2. -/
theorem dec2_at (l : Elt Ideal .f32) (r s : Fin 64) : k0_pay15 (F := Ideal) k0_pay10 l (ix3 0 r s : S1x64x64.Idx) = decay l r s := by
  unfold decay; simp only [← tok_sub]
  pointwise [k0_pay10, k0_pay15]
/-- The kernel's table of decays for head 3. -/
theorem dec3_at (l : Elt Ideal .f32) (r s : Fin 64) : k0_pay17 (F := Ideal) k0_pay10 (k0_pay16 (F := Ideal) k0_pay10) l (ix3 0 r s : S1x64x64.Idx) = decay l r s := by
  unfold decay; simp only [← tok_sub]
  pointwise [k0_pay10, k0_pay16, k0_pay17]
/-- The kernel's table of decays for head 4. -/
theorem dec4_at (l : Elt Ideal .f32) (r s : Fin 64) : k0_pay18 (F := Ideal) k0_pay10 l (ix3 0 r s : S1x64x64.Idx) = decay l r s := by
  unfold decay; simp only [← tok_sub]
  pointwise [k0_pay10, k0_pay18]
/-- The kernel's table of decays for head 5. -/
theorem dec5_at (l : Elt Ideal .f32) (r s : Fin 64) : k0_pay19 (F := Ideal) k0_pay10 l (ix3 0 r s : S1x64x64.Idx) = decay l r s := by
  unfold decay; simp only [← tok_sub]
  pointwise [k0_pay10, k0_pay19]
/-- The table of head 0, read back after all six are stored. -/
theorem tab0 (w5 w4 w3 w2 w1 w0 : S1x64x64.Idx → Elt Ideal .f32) :
    (View.whole cc0_scratch2).readCov (Val := Elt Ideal) [⟨Rect.unit ![5, 0, 0] ![1, 64, 64] inb_S6x64x64_S1x64x64_5_0_0, w5⟩, ⟨Rect.unit ![4, 0, 0] ![1, 64, 64] inb_S6x64x64_S1x64x64_4_0_0, w4⟩, ⟨Rect.unit ![3, 0, 0] ![1, 64, 64] inb_S6x64x64_S1x64x64_3_0_0, w3⟩, ⟨Rect.unit ![2, 0, 0] ![1, 64, 64] inb_S6x64x64_S1x64x64_2_0_0, w2⟩, ⟨Rect.unit ![1, 0, 0] ![1, 64, 64] inb_S6x64x64_S1x64x64_1_0_0, w1⟩, ⟨Rect.unit ![0, 0, 0] ![1, 64, 64] inb_S6x64x64_S1x64x64_0_0_0, w0⟩] (Rect.unit ![0, 0, 0] ![1, 64, 64] inb_S6x64x64_S1x64x64_0_0_0).toLoadRect = w0 := by
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
/-- The table of head 1, read back after all six are stored. -/
theorem tab1 (w5 w4 w3 w2 w1 w0 : S1x64x64.Idx → Elt Ideal .f32) :
    (View.whole cc0_scratch2).readCov (Val := Elt Ideal) [⟨Rect.unit ![5, 0, 0] ![1, 64, 64] inb_S6x64x64_S1x64x64_5_0_0, w5⟩, ⟨Rect.unit ![4, 0, 0] ![1, 64, 64] inb_S6x64x64_S1x64x64_4_0_0, w4⟩, ⟨Rect.unit ![3, 0, 0] ![1, 64, 64] inb_S6x64x64_S1x64x64_3_0_0, w3⟩, ⟨Rect.unit ![2, 0, 0] ![1, 64, 64] inb_S6x64x64_S1x64x64_2_0_0, w2⟩, ⟨Rect.unit ![1, 0, 0] ![1, 64, 64] inb_S6x64x64_S1x64x64_1_0_0, w1⟩, ⟨Rect.unit ![0, 0, 0] ![1, 64, 64] inb_S6x64x64_S1x64x64_0_0_0, w0⟩] (Rect.unit ![1, 0, 0] ![1, 64, 64] inb_S6x64x64_S1x64x64_1_0_0).toLoadRect = w1 := by
  rw [View.readCov_skip _ _ _ _ _ (by decide), View.readCov_skip _ _ _ _ _ (by decide), View.readCov_skip _ _ _ _ _ (by decide), View.readCov_skip _ _ _ _ _ (by decide), View.readCov_cons_toLoadRect]
/-- The table of head 2, read back after all six are stored. -/
theorem tab2 (w5 w4 w3 w2 w1 w0 : S1x64x64.Idx → Elt Ideal .f32) :
    (View.whole cc0_scratch2).readCov (Val := Elt Ideal) [⟨Rect.unit ![5, 0, 0] ![1, 64, 64] inb_S6x64x64_S1x64x64_5_0_0, w5⟩, ⟨Rect.unit ![4, 0, 0] ![1, 64, 64] inb_S6x64x64_S1x64x64_4_0_0, w4⟩, ⟨Rect.unit ![3, 0, 0] ![1, 64, 64] inb_S6x64x64_S1x64x64_3_0_0, w3⟩, ⟨Rect.unit ![2, 0, 0] ![1, 64, 64] inb_S6x64x64_S1x64x64_2_0_0, w2⟩, ⟨Rect.unit ![1, 0, 0] ![1, 64, 64] inb_S6x64x64_S1x64x64_1_0_0, w1⟩, ⟨Rect.unit ![0, 0, 0] ![1, 64, 64] inb_S6x64x64_S1x64x64_0_0_0, w0⟩] (Rect.unit ![2, 0, 0] ![1, 64, 64] inb_S6x64x64_S1x64x64_2_0_0).toLoadRect = w2 := by
  rw [View.readCov_skip _ _ _ _ _ (by decide), View.readCov_skip _ _ _ _ _ (by decide), View.readCov_skip _ _ _ _ _ (by decide), View.readCov_cons_toLoadRect]
/-- The table of head 3, read back after all six are stored. -/
theorem tab3 (w5 w4 w3 w2 w1 w0 : S1x64x64.Idx → Elt Ideal .f32) :
    (View.whole cc0_scratch2).readCov (Val := Elt Ideal) [⟨Rect.unit ![5, 0, 0] ![1, 64, 64] inb_S6x64x64_S1x64x64_5_0_0, w5⟩, ⟨Rect.unit ![4, 0, 0] ![1, 64, 64] inb_S6x64x64_S1x64x64_4_0_0, w4⟩, ⟨Rect.unit ![3, 0, 0] ![1, 64, 64] inb_S6x64x64_S1x64x64_3_0_0, w3⟩, ⟨Rect.unit ![2, 0, 0] ![1, 64, 64] inb_S6x64x64_S1x64x64_2_0_0, w2⟩, ⟨Rect.unit ![1, 0, 0] ![1, 64, 64] inb_S6x64x64_S1x64x64_1_0_0, w1⟩, ⟨Rect.unit ![0, 0, 0] ![1, 64, 64] inb_S6x64x64_S1x64x64_0_0_0, w0⟩] (Rect.unit ![3, 0, 0] ![1, 64, 64] inb_S6x64x64_S1x64x64_3_0_0).toLoadRect = w3 := by
  rw [View.readCov_skip _ _ _ _ _ (by decide), View.readCov_skip _ _ _ _ _ (by decide), View.readCov_cons_toLoadRect]
/-- The table of head 4, read back after all six are stored. -/
theorem tab4 (w5 w4 w3 w2 w1 w0 : S1x64x64.Idx → Elt Ideal .f32) :
    (View.whole cc0_scratch2).readCov (Val := Elt Ideal) [⟨Rect.unit ![5, 0, 0] ![1, 64, 64] inb_S6x64x64_S1x64x64_5_0_0, w5⟩, ⟨Rect.unit ![4, 0, 0] ![1, 64, 64] inb_S6x64x64_S1x64x64_4_0_0, w4⟩, ⟨Rect.unit ![3, 0, 0] ![1, 64, 64] inb_S6x64x64_S1x64x64_3_0_0, w3⟩, ⟨Rect.unit ![2, 0, 0] ![1, 64, 64] inb_S6x64x64_S1x64x64_2_0_0, w2⟩, ⟨Rect.unit ![1, 0, 0] ![1, 64, 64] inb_S6x64x64_S1x64x64_1_0_0, w1⟩, ⟨Rect.unit ![0, 0, 0] ![1, 64, 64] inb_S6x64x64_S1x64x64_0_0_0, w0⟩] (Rect.unit ![4, 0, 0] ![1, 64, 64] inb_S6x64x64_S1x64x64_4_0_0).toLoadRect = w4 := by
  rw [View.readCov_skip _ _ _ _ _ (by decide), View.readCov_cons_toLoadRect]
/-- The table of head 5, read back after all six are stored. -/
theorem tab5 (w5 w4 w3 w2 w1 w0 : S1x64x64.Idx → Elt Ideal .f32) :
    (View.whole cc0_scratch2).readCov (Val := Elt Ideal) [⟨Rect.unit ![5, 0, 0] ![1, 64, 64] inb_S6x64x64_S1x64x64_5_0_0, w5⟩, ⟨Rect.unit ![4, 0, 0] ![1, 64, 64] inb_S6x64x64_S1x64x64_4_0_0, w4⟩, ⟨Rect.unit ![3, 0, 0] ![1, 64, 64] inb_S6x64x64_S1x64x64_3_0_0, w3⟩, ⟨Rect.unit ![2, 0, 0] ![1, 64, 64] inb_S6x64x64_S1x64x64_2_0_0, w2⟩, ⟨Rect.unit ![1, 0, 0] ![1, 64, 64] inb_S6x64x64_S1x64x64_1_0_0, w1⟩, ⟨Rect.unit ![0, 0, 0] ![1, 64, 64] inb_S6x64x64_S1x64x64_0_0_0, w0⟩] (Rect.unit ![5, 0, 0] ![1, 64, 64] inb_S6x64x64_S1x64x64_5_0_0).toLoadRect = w5 := by
  rw [View.readCov_cons_toLoadRect]

/-- The reference's outputs before their norm. -/
theorem v138_at (x : FVec Ideal S8x64x1024 .f32) (g : FVec Ideal S1024 .f32) (w : FVec Ideal S1024x3456 .f32) (p : S64.Idx → BitVec 32) (lg : FVec Ideal S6 .f32) (R : FVec Ideal S8x6x32x64 .f32) (b : Fin 8) (h : Fin 6) (r : Fin 64) (v : Fin 64) :
    val_main_v138 (F := Ideal) x g w lg p R (ix4 b h r v : Cert.MixerRefIdeal.S8x6x64x64.Idx)
      = (∑ s : Fin 64, (∑ d : Fin 32, val_main_v49 (F := Ideal) x g w p (ix4 b r h d : Cert.MixerRefIdeal.S8x64x6x32.Idx) * (val_main_v79 (F := Ideal) x g w p (ix4 b s h d : Cert.MixerRefIdeal.S8x64x6x32.Idx) * Ideal.ofBits .f32 0x3E3504F3#32))
            * val_main_v103 (F := Ideal) lg (ix3 h r s : Cert.MixerRefIdeal.S6x64x64.Idx) * val_main_v18 (F := Ideal) x g w (ix3 b s ⟨h.val * 64 + v.val, by omega⟩ : Cert.MixerRefIdeal.S8x64x384.Idx))
        + ∑ d : Fin 32, val_main_v49 (F := Ideal) x g w p (ix4 b r h d : Cert.MixerRefIdeal.S8x64x6x32.Idx) * val_main_v115 (F := Ideal) lg (ix2 h r : Cert.MixerRefIdeal.S6x64.Idx) * R (ix4 b h d v) := by
  pointwise [val_main_v138, val_main_v119, val_main_v118, val_main_v117, val_main_v116, val_main_v108, val_main_v107, val_main_v106, val_main_v105, val_main_v104, val_main_v85, val_main_v84, val_main_v83, val_main_v82, val_main_v81, val_main_v80, val_main_cst_6]
/-- The reference's result: the outputs normed head by head, gated. -/
theorem v160_at (x : FVec Ideal S8x64x1024 .f32) (g : FVec Ideal S1024 .f32) (w : FVec Ideal S1024x3456 .f32) (p : S64.Idx → BitVec 32) (lg : FVec Ideal S6 .f32) (R : FVec Ideal S8x6x32x64 .f32) (b : Fin 8) (r : Fin 64) (n : Fin 384) :
    val_main_v160 (F := Ideal) x g w lg p R (ix3 b r n : Cert.MixerRefIdeal.S8x64x384.Idx)
      = lnAt (fun j => val_main_v138 (F := Ideal) x g w lg p R (ix4 b ⟨j.val / 64, by omega⟩ r ⟨j.val % 64, by omega⟩ : Cert.MixerRefIdeal.S8x6x64x64.Idx)) n
        * (val_main_v13 (F := Ideal) x g w (ix3 b r ⟨1024 + (768 + n.val), by omega⟩) * Ideal.div 1 (1 + Ideal.exp (-val_main_v13 (F := Ideal) x g w (ix3 b r ⟨1024 + (768 + n.val), by omega⟩)))) := by
  have hi : ∀ i : Fin 64, val_main_v138 (F := Ideal) x g w lg p R (ix4 b ⟨(n.val / 64 * 64 + i.val) / 64, by omega⟩ r ⟨(n.val / 64 * 64 + i.val) % 64, by omega⟩ : Cert.MixerRefIdeal.S8x6x64x64.Idx)
      = val_main_v138 (F := Ideal) x g w lg p R (ix4 b ⟨n.val / 64, by omega⟩ r i : Cert.MixerRefIdeal.S8x6x64x64.Idx) := fun i => by
    rw [show (⟨(n.val / 64 * 64 + i.val) / 64, by omega⟩ : Fin 6) = ⟨n.val / 64, by omega⟩ from Fin.ext (show (n.val / 64 * 64 + i.val) / 64 = n.val / 64 by omega),
      show (⟨(n.val / 64 * 64 + i.val) % 64, by omega⟩ : Fin 64) = i from Fin.ext (show (n.val / 64 * 64 + i.val) % 64 = i.val by omega)]
  unfold lnAt
  simp only [hi]
  pointwise [val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_cst_13, val_main_cst_14, val_main_cst_15, val_main_cst_16, val_main_cst_17, val_main_call1_v0, val_main_call1_v1, val_main_call1_v2, val_main_call1_v3, val_main_call1_v4, val_main_call1_v5, val_main_call1_cst, val_main_call1_cst_0, val_main_v19, val_main_v14]
/-- The log decay of head 0, as the kernel loads it. -/
theorem lgh0 (c : Dev nD) (t : Fin cfg0.N) : (View.ld (iblk m c 0 t) (Rect.unit ![0] ![1] inb_S6_S1_0) (Shape.Idx.first (by exact (by decide : 0 < S1.numel)))) = (m ((c : Thread nD τ).loc main_arg5)) (ix1 0 : S6.Idx) := by
  rw [← iblk0 m c t 0]
  refine congrArg (iblk m c 0 t) ?_
  funext i; fin_cases i; apply Fin.ext; simp [Rect.unit, Rect.emb, Shape.Idx.first]
/-- The log decay of head 1, as the kernel loads it. -/
theorem lgh1 (c : Dev nD) (t : Fin cfg0.N) : (View.ld (iblk m c 0 t) (Rect.unit ![1] ![1] inb_S6_S1_1) (Shape.Idx.first (by exact (by decide : 0 < S1.numel)))) = (m ((c : Thread nD τ).loc main_arg5)) (ix1 1 : S6.Idx) := by
  rw [← iblk0 m c t 1]
  refine congrArg (iblk m c 0 t) ?_
  funext i; fin_cases i; apply Fin.ext; simp [Rect.unit, Rect.emb, Shape.Idx.first]
/-- The log decay of head 2, as the kernel loads it. -/
theorem lgh2 (c : Dev nD) (t : Fin cfg0.N) : (View.ld (iblk m c 0 t) (Rect.unit ![2] ![1] inb_S6_S1_2) (Shape.Idx.first (by exact (by decide : 0 < S1.numel)))) = (m ((c : Thread nD τ).loc main_arg5)) (ix1 2 : S6.Idx) := by
  rw [← iblk0 m c t 2]
  refine congrArg (iblk m c 0 t) ?_
  funext i; fin_cases i; apply Fin.ext; simp [Rect.unit, Rect.emb, Shape.Idx.first]
/-- The log decay of head 3, as the kernel loads it. -/
theorem lgh3 (c : Dev nD) (t : Fin cfg0.N) : (View.ld (iblk m c 0 t) (Rect.unit ![3] ![1] inb_S6_S1_3) (Shape.Idx.first (by exact (by decide : 0 < S1.numel)))) = (m ((c : Thread nD τ).loc main_arg5)) (ix1 3 : S6.Idx) := by
  rw [← iblk0 m c t 3]
  refine congrArg (iblk m c 0 t) ?_
  funext i; fin_cases i; apply Fin.ext; simp [Rect.unit, Rect.emb, Shape.Idx.first]
/-- The log decay of head 4, as the kernel loads it. -/
theorem lgh4 (c : Dev nD) (t : Fin cfg0.N) : (View.ld (iblk m c 0 t) (Rect.unit ![4] ![1] inb_S6_S1_4) (Shape.Idx.first (by exact (by decide : 0 < S1.numel)))) = (m ((c : Thread nD τ).loc main_arg5)) (ix1 4 : S6.Idx) := by
  rw [← iblk0 m c t 4]
  refine congrArg (iblk m c 0 t) ?_
  funext i; fin_cases i; apply Fin.ext; simp [Rect.unit, Rect.emb, Shape.Idx.first]
/-- The log decay of head 5, as the kernel loads it. -/
theorem lgh5 (c : Dev nD) (t : Fin cfg0.N) : (View.ld (iblk m c 0 t) (Rect.unit ![5] ![1] inb_S6_S1_5) (Shape.Idx.first (by exact (by decide : 0 < S1.numel)))) = (m ((c : Thread nD τ).loc main_arg5)) (ix1 5 : S6.Idx) := by
  rw [← iblk0 m c t 5]
  refine congrArg (iblk m c 0 t) ?_
  funext i; fin_cases i; apply Fin.ext; simp [Rect.unit, Rect.emb, Shape.Idx.first]

/-- The reference's rotated queries, as a column of the rotated row. -/
theorem v49_row (c : Dev nD) (t : Fin cfg0.N) (r : Fin 64) (h : Fin 6) (d : Fin 32) :
    val_main_v49 (F := Ideal) (m ((c : Thread nD τ).loc main_arg0)) (m ((c : Thread nD τ).loc main_arg1)) (m ((c : Thread nD τ).loc main_arg2)) (m ((c : Thread nD τ).loc main_arg6)) (ix4 (brow t) r h d : Cert.MixerRefIdeal.S8x64x6x32.Idx) = qkrow m c t r ⟨h.val * 32 + d.val, by omega⟩ :=
  v49_at _ _ _ _ _ _ _ _
/-- The old state's part of the outputs, over the head's own columns. -/
theorem cross_at (c : Dev nD) (t : Fin cfg0.N) (LG : Fin 6 → EReal) (RS : Fin 6 → Fin 32 → Fin 64 → EReal) (hL : ∀ h, (m ((c : Thread nD τ).loc main_arg5)) (ix1 h : S6.Idx) = LG h)
    (hR : ∀ h d v, (m ((c : Thread nD τ).loc main_arg8)) (ix4 (brow t) h d v : S8x6x32x64.Idx) = RS h d v) (r : Fin 64) (n : Fin 384) : (k0_pay34 (F := Ideal) (k0_pay27 (iblk m c 1 t) (iblk m c 2 t) (iblk m c 4 t)) (iota Kind.tc S64x384 32 [1] iota_S64x384_d1_w32) 32#32 (iblk m c 10 t) (iblk m c 11 t) (k0_pay7 (iblk m c 13 t)) (k0_pay21 k0_pay20 (View.ld (iblk m c 12 t) (Rect.unit ![0, 0] ![1, 192] inb_S2x384_S1x192_0_0)))) (ix2 r n : S64x384.Idx)
    = ∑ d : Fin 32, qkrow m c t r ⟨n.val / 64 * 32 + d.val, by omega⟩ * Ideal.exp (LG ⟨n.val / 64, by omega⟩ * (tok r + 1)) * RS ⟨n.val / 64, by omega⟩ d ⟨n.val % 64, by omega⟩ := by
  rw [pay34_at]
  have e : ∀ k : Fin 192, k0_pay31 (F := Ideal) (k0_pay27 (iblk m c 1 t) (iblk m c 2 t) (iblk m c 4 t)) (iota Kind.tc S64x384 32 [1] iota_S64x384_d1_w32) 32#32 (iblk m c 10 t) (iblk m c 11 t) (ix2 r k) * (k0_pay21 (F := Ideal) k0_pay20 (View.ld (iblk m c 12 t) (Rect.unit ![0, 0] ![1, 192] inb_S2x384_S1x192_0_0))) (ix2 r k : S64x192.Idx) * k0_pay7 (F := Ideal) (iblk m c 13 t) (ix2 n k)
      = qkrow m c t r ⟨k.val, by omega⟩ * Ideal.exp (LG ⟨k.val / 32, by omega⟩ * (tok r + 1))
        * (if (⟨n.val / 64, by omega⟩ : Fin 6).val = k.val / 32 then RS ⟨n.val / 64, by omega⟩ ⟨k.val % 32, by omega⟩ ⟨n.val % 64, by omega⟩ else 0) := fun k => by
    rw [z31, pay21_at, lgk, pay7_at, iblk13, hL, hR]
  refine (Finset.sum_congr rfl fun k _ => e k).trans ((sum_head _ (fun k => RS ⟨n.val / 64, by omega⟩ ⟨k.val % 32, by omega⟩ ⟨n.val % 64, by omega⟩) ⟨n.val / 64, by omega⟩).trans ?_)
  refine Finset.sum_congr rfl fun d _ => ?_
  have eL : ∀ (a b : ℕ) (ha : a < 6) (hb : b < 6), a = b → LG ⟨a, ha⟩ = LG ⟨b, hb⟩ := by rintro a _ _ _ rfl; rfl
  have eR : ∀ (a : ℕ) (ha : a < 32) (q : Fin 6) (v : Fin 64), a = d.val → RS q ⟨a, ha⟩ v = RS q d v := by intro a ha q v ea; subst ea; rfl
  dsimp only
  rw [eL ((n.val / 64 * 32 + d.val) / 32) (n.val / 64) (by omega) (by omega) (by omega), eR ((n.val / 64 * 32 + d.val) % 32) (by omega) _ _ (by omega)]
/-- The kernel's outputs before their norm are the reference's. -/
theorem out_at (c : Dev nD) (t : Fin cfg0.N) (r : Fin 64) (n : Fin 384) : k0_pay42 (F := Ideal) (k0_pay28 (iblk m c 1 t) (iblk m c 2 t) (iblk m c 4 t)) (k0_pay34 (k0_pay27 (iblk m c 1 t) (iblk m c 2 t) (iblk m c 4 t)) (iota Kind.tc S64x384 32 [1] iota_S64x384_d1_w32) 32#32 (iblk m c 10 t) (iblk m c 11 t) (k0_pay7 (iblk m c 13 t)) (k0_pay21 k0_pay20 (View.ld (iblk m c 12 t) (Rect.unit ![0, 0] ![1, 192] inb_S2x384_S1x192_0_0)))) (k0_pay36 (k0_pay31 (k0_pay27 (iblk m c 1 t) (iblk m c 2 t) (iblk m c 4 t)) (iota Kind.tc S64x384 32 [1] iota_S64x384_d1_w32) 32#32 (iblk m c 10 t) (iblk m c 11 t)) (k0_pay32 (k0_pay27 (iblk m c 1 t) (iblk m c 2 t) (iblk m c 4 t)) (iota Kind.tc S64x384 32 [1] iota_S64x384_d1_w32) 32#32 (iblk m c 10 t) (iblk m c 11 t))) (k0_pay37 (k0_pay31 (k0_pay27 (iblk m c 1 t) (iblk m c 2 t) (iblk m c 4 t)) (iota Kind.tc S64x384 32 [1] iota_S64x384_d1_w32) 32#32 (iblk m c 10 t) (iblk m c 11 t)) (k0_pay32 (k0_pay27 (iblk m c 1 t) (iblk m c 2 t) (iblk m c 4 t)) (iota Kind.tc S64x384 32 [1] iota_S64x384_d1_w32) 32#32 (iblk m c 10 t) (iblk m c 11 t))) (k0_pay38 (k0_pay31 (k0_pay27 (iblk m c 1 t) (iblk m c 2 t) (iblk m c 4 t)) (iota Kind.tc S64x384 32 [1] iota_S64x384_d1_w32) 32#32 (iblk m c 10 t) (iblk m c 11 t)) (k0_pay32 (k0_pay27 (iblk m c 1 t) (iblk m c 2 t) (iblk m c 4 t)) (iota Kind.tc S64x384 32 [1] iota_S64x384_d1_w32) 32#32 (iblk m c 10 t) (iblk m c 11 t))) (k0_pay39 (k0_pay31 (k0_pay27 (iblk m c 1 t) (iblk m c 2 t) (iblk m c 4 t)) (iota Kind.tc S64x384 32 [1] iota_S64x384_d1_w32) 32#32 (iblk m c 10 t) (iblk m c 11 t)) (k0_pay32 (k0_pay27 (iblk m c 1 t) (iblk m c 2 t) (iblk m c 4 t)) (iota Kind.tc S64x384 32 [1] iota_S64x384_d1_w32) 32#32 (iblk m c 10 t) (iblk m c 11 t))) (k0_pay40 (k0_pay28 (iblk m c 1 t) (iblk m c 2 t) (iblk m c 4 t)) (k0_pay32 (k0_pay27 (iblk m c 1 t) (iblk m c 2 t) (iblk m c 4 t)) (iota Kind.tc S64x384 32 [1] iota_S64x384_d1_w32) 32#32 (iblk m c 10 t) (iblk m c 11 t)) (k0_pay35 (k0_pay27 (iblk m c 1 t) (iblk m c 2 t) (iblk m c 4 t)) (iota Kind.tc S64x384 32 [1] iota_S64x384_d1_w32) 32#32 (iblk m c 10 t) (iblk m c 11 t)) (k0_pay13 (F := Ideal) (k0_pay11 (F := Ideal)) (View.ld (iblk m c 0 t) (Rect.unit ![0] ![1] inb_S6_S1_0) (Shape.Idx.first (by exact (by decide : 0 < S1.numel)))) k0_pay12)) (k0_pay41 (k0_pay28 (iblk m c 1 t) (iblk m c 2 t) (iblk m c 4 t)) (k0_pay31 (k0_pay27 (iblk m c 1 t) (iblk m c 2 t) (iblk m c 4 t)) (iota Kind.tc S64x384 32 [1] iota_S64x384_d1_w32) 32#32 (iblk m c 10 t) (iblk m c 11 t)) (k0_pay32 (k0_pay27 (iblk m c 1 t) (iblk m c 2 t) (iblk m c 4 t)) (iota Kind.tc S64x384 32 [1] iota_S64x384_d1_w32) 32#32 (iblk m c 10 t) (iblk m c 11 t)) (k0_pay14 (F := Ideal) k0_pay10 (View.ld (iblk m c 0 t) (Rect.unit ![1] ![1] inb_S6_S1_1) (Shape.Idx.first (by exact (by decide : 0 < S1.numel)))))) (k0_pay15 (F := Ideal) k0_pay10 (View.ld (iblk m c 0 t) (Rect.unit ![2] ![1] inb_S6_S1_2) (Shape.Idx.first (by exact (by decide : 0 < S1.numel))))) (k0_pay17 (F := Ideal) k0_pay10 (k0_pay16 (F := Ideal) k0_pay10) (View.ld (iblk m c 0 t) (Rect.unit ![3] ![1] inb_S6_S1_3) (Shape.Idx.first (by exact (by decide : 0 < S1.numel))))) (k0_pay18 (F := Ideal) k0_pay10 (View.ld (iblk m c 0 t) (Rect.unit ![4] ![1] inb_S6_S1_4) (Shape.Idx.first (by exact (by decide : 0 < S1.numel))))) (k0_pay19 (F := Ideal) k0_pay10 (View.ld (iblk m c 0 t) (Rect.unit ![5] ![1] inb_S6_S1_5) (Shape.Idx.first (by exact (by decide : 0 < S1.numel))))) (ix2 r n)
    = val_main_v138 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) (ix4 (brow t) ⟨n.val / 64, by omega⟩ r ⟨n.val % 64, by omega⟩ : Cert.MixerRefIdeal.S8x6x64x64.Idx) := by
  rw [pay42_at _ _ _ _ _ _ _ _ _ _ _ (fun h r s => decay ((m ((c : Thread nD τ).loc main_arg5)) (ix1 h : S6.Idx)) r s) (fun r d => pay35_at _ _ _ r d)
    (fun r s => by rw [dec0_at, lgh0]) (fun r s => by rw [dec1_at, lgh1]) (fun r s => by rw [dec2_at, lgh2]) (fun r s => by rw [dec3_at, lgh3]) (fun r s => by rw [dec4_at, lgh4]) (fun r s => by rw [dec5_at, lgh5]), cross_at m c t (fun h => (m ((c : Thread nD τ).loc main_arg5)) (ix1 h : S6.Idx)) (fun h d v => (m ((c : Thread nD τ).loc main_arg8)) (ix4 (brow t) h d v : S8x6x32x64.Idx)) (fun _ => rfl) (fun _ _ _ => rfl), v138_at]
  simp only [z28, v49_row, v79_row, v18_at, v103_at, v115_at]
  refine congrArg₂ (· + ·) (Finset.sum_congr rfl fun s _ => ?_) rfl
  have eV : ∀ (a b : ℕ) (ha : a < 3456) (hb : b < 3456), a = b → val_main_v13 (F := Ideal) (m ((c : Thread nD τ).loc main_arg0)) (m ((c : Thread nD τ).loc main_arg1)) (m ((c : Thread nD τ).loc main_arg2)) (ix3 (brow t) s ⟨a, ha⟩) = val_main_v13 (F := Ideal) (m ((c : Thread nD τ).loc main_arg0)) (m ((c : Thread nD τ).loc main_arg1)) (m ((c : Thread nD τ).loc main_arg2)) (ix3 (brow t) s ⟨b, hb⟩) := by
    rintro a _ _ _ rfl; rfl
  have eQ : ∀ (s : Fin 64) (a b : ℕ) (ha : a < 384) (hb : b < 384), a = b → qkrow m c t s ⟨a, ha⟩ = qkrow m c t s ⟨b, hb⟩ := by
    rintro s a _ _ _ rfl; rfl
  refine congrArg₂ (· * ·) (congrArg₂ (· * ·) (Finset.sum_congr rfl fun d _ => ?_) rfl) (eV _ _ _ _ (by omega))
  rw [z31, z32]
  exact congrArg₂ (· * ·) rfl (congrArg₂ (· * ·) (eQ _ _ _ _ _ (by dsimp only; omega)) rfl)

/-- Where block index `y` of point `t` lies in the outputs' array. -/
theorem emb20 (t : Fin cfg0.N) (y : S1x64x384.Idx) : ((cfg0.win 20).blk t).view.emb y = (ix3 (brow t) (y 1) (y 2) : S8x64x384.Idx) := by
  unfold brow
  blk_ext [idx_val t]

/-- What point `t` stores in the outputs' block is the reference's result at the block's place. -/
theorem point20 (c : Dev nD) (t : Fin cfg0.N) (OO : FVec Ideal S64x384 .f32) (OT : FVec Ideal S64x128 .bf16) (a b d : IVec S128x128 32) (e : IVec S128x128 1)
    (hOO : ∀ (r : Fin 64) (n : Fin 384), OO (ix2 r n) = val_main_v138 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) (ix4 (brow t) ⟨n.val / 64, by omega⟩ r ⟨n.val % 64, by omega⟩ : Cert.MixerRefIdeal.S8x6x64x64.Idx))
    (h : ∀ x j : Fin 128, FloatOps.sitofp (F := Ideal) .f32 (BitVec.setWidth 32 (IntOp.cmpi CmpIPredicate.eq (a (ix2 x j)) (Scalar.select (e (ix2 x j)) (d (ix2 x j)) (b (ix2 x j))))) = (if x.val / 64 = j.val / 64 then 1 else 0 : EReal))
    (hOT : ∀ (r : Fin 64) (j : Fin 128), OT (ix2 r j) = OO (ix2 r ⟨j.val, by omega⟩)) (y : S1x64x384.Idx) :
    k0_pay78 (F := Ideal) (k0_pay29 (iblk m c 1 t) (iblk m c 2 t) (iblk m c 4 t)) (k0_pay58 OO (k0_pay46 OT (iota Kind.tc S128x128 32 [0] iota_S128x128_d0_w32) 64#32 k0_pay44 k0_pay45 1#1) (k0_pay53 (k0_pay47 OO) a b e d) (k0_pay54 OO) k0_pay55 (iota Kind.tc S128x128 32 [1] iota_S128x128_d1_w32) 64#32 k0_pay56 k0_pay57 1#32 0#32)
      (k0_pay72 (k0_pay62 (k0_pay60 OO (k0_pay46 OT (iota Kind.tc S128x128 32 [0] iota_S128x128_d0_w32) 64#32 k0_pay44 k0_pay45 1#1) (k0_pay53 (k0_pay47 OO) a b e d) (k0_pay54 OO) k0_pay55 (iota Kind.tc S128x128 32 [1] iota_S128x128_d1_w32) 64#32 k0_pay56 k0_pay57 1#32 0#32) k0_pay61 (iota Kind.tc S128x128 32 [1] iota_S128x128_d1_w32))
        (k0_pay67 (k0_pay63 (k0_pay59 OO (k0_pay46 OT (iota Kind.tc S128x128 32 [0] iota_S128x128_d0_w32) 64#32 k0_pay44 k0_pay45 1#1) (k0_pay53 (k0_pay47 OO) a b e d) (k0_pay54 OO) k0_pay55 (iota Kind.tc S128x128 32 [1] iota_S128x128_d1_w32) 64#32 k0_pay56 k0_pay57 1#32 0#32)) (iota Kind.tc S128x128 32 [0] iota_S128x128_d0_w32) 64#32 k0_pay64 k0_pay65 k0_pay66)
        (k0_pay68 (k0_pay59 OO (k0_pay46 OT (iota Kind.tc S128x128 32 [0] iota_S128x128_d0_w32) 64#32 k0_pay44 k0_pay45 1#1) (k0_pay53 (k0_pay47 OO) a b e d) (k0_pay54 OO) k0_pay55 (iota Kind.tc S128x128 32 [1] iota_S128x128_d1_w32) 64#32 k0_pay56 k0_pay57 1#32 0#32)) (k0_pay71 (iota Kind.tc S128x128 32 [0] iota_S128x128_d0_w32) 64#32 k0_pay69 k0_pay70 0#32) (constant S64x128 .f32 0x00000000#32)) y
      = val_main_v160 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) (((cfg0.win 20).blk t).view.emb y) := by
  rw [emb20]
  idx_vars y
  obtain rfl : y0 = 0 := Subsingleton.elim _ _
  refine (norm_at (k0_pay29 (iblk m c 1 t) (iblk m c 2 t) (iblk m c 4 t)) OO OT a b d e h hOT y1 y2).trans ((v160_at _ _ _ _ _ _ (brow t) y1 y2).trans ?_).symm
  simp only [hOO, z29]

/-- The outputs' array after the run is the reference's. -/
theorem final20 (c : Dev nD) : (dats m 0 c).arrAt 20 cfg0.N = val_main_v160 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) := by
  refine (dats m 0 c).arrAt_eq_of_covers 20 _ (by decide +kernel) fun t hf y => ?_
  blk_simp
  rw [after0_20]; unfold Gen.outsAt0; dsimp only; frame_out
  rw [tab0, tab1, tab2, tab3, tab4, tab5]
  exact point20 m c t _ _ _ _ _ _ (fun r n => out_at m c t r n) words53 (fun r j => pay43_at _ _ _ _ _ _ _ _ _ _ _ _ r j) y

/-- Where block index `y` of point `t` lies in the shift's array. -/
theorem emb25 (t : Fin cfg0.N) (y : S1x1x1280.Idx) : ((cfg0.win 25).blk t).view.emb y = (ix3 (brow t) (y 1) (y 2) : S8x1x1280.Idx) := by
  unfold brow
  blk_ext [idx_val t]

/-- What point `t` stores in the shift's block is the reference's shift at the block's place. -/
theorem point25 (c : Dev nD) (t : Fin cfg0.N) (y : S1x1x1280.Idx) :
    k0_pay5 (F := Ideal) (k0_pay191 (k0_pay26 (iblk m c 1 t) (iblk m c 2 t) (iblk m c 5 t))) y
      = val_main_v171 (F := Ideal) (m ((c : Thread nD τ).loc main_arg0)) (m ((c : Thread nD τ).loc main_arg1)) (m ((c : Thread nD τ).loc main_arg2)) (((cfg0.win 25).blk t).view.emb y) := by
  rw [emb25]
  idx_vars y
  obtain rfl : y0 = 0 := Subsingleton.elim _ _
  obtain rfl : y1 = 0 := Subsingleton.elim _ _
  rw [sh_at, v171_at, v13_at]
  simp only [iblk1, iblk2, iblk5]

/-- The shift's array after the run is the reference's. -/
theorem final25 (c : Dev nD) : (dats m 0 c).arrAt 25 cfg0.N = val_main_v171 (F := Ideal) (m ((c : Thread nD τ).loc main_arg0)) (m ((c : Thread nD τ).loc main_arg1)) (m ((c : Thread nD τ).loc main_arg2)) := by
  refine (dats m 0 c).arrAt_eq_of_covers 25 _ (by decide +kernel) fun t hf y => ?_
  blk_simp
  rw [after0_25]; unfold Gen.outsAt0; dsimp only; frame_out
  exact point25 m c t y

/-- Where block index `y` of point `t` lies in the new state's array. -/
theorem emb23 (t : Fin cfg0.N) (y : S1x384x192.Idx) : ((cfg0.win 23).blk t).view.emb y = (ix3 (brow t) (y 1) (y 2) : S8x384x192.Idx) := by
  unfold brow
  blk_ext [idx_val t]

/-- What point `t` stores in the new state's block is the reference's state at the block's place. -/
theorem point23 (c : Dev nD) (t : Fin cfg0.N) (y : S1x384x192.Idx) :
    k0_pay3 (F := Ideal) (k0_pay77 (k0_pay32 (k0_pay27 (iblk m c 1 t) (iblk m c 2 t) (iblk m c 4 t)) (iota Kind.tc S64x384 32 [1] iota_S64x384_d1_w32) 32#32 (iblk m c 10 t) (iblk m c 11 t)) (k0_pay33 (View.ld (iblk m c 12 t) (Rect.unit ![0, 0] ![1, 192] inb_S2x384_S1x192_0_0))) (k0_pay7 (iblk m c 13 t)) (k0_pay73 (k0_pay28 (iblk m c 1 t) (iblk m c 2 t) (iblk m c 4 t)) (k0_pay22 (View.ld (iblk m c 12 t) (Rect.unit ![1, 0] ![1, 384] inb_S2x384_S1x384_1_0)))) k0_pay74 (iota Kind.tc S384x192 32 [1] iota_S384x192_d1_w32) 32#32 k0_pay75 k0_pay76 1#32 0#32) y
      = val_main_v170 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) (((cfg0.win 23).blk t).view.emb y) := by
  rw [emb23]
  idx_vars y
  obtain rfl : y0 = 0 := Subsingleton.elim _ _
  rw [pay3_at, pay77_at]
  refine Eq.trans ?_ (v170_at _ _ _ _ _ _ (brow t) y1 y2).symm
  rw [pay7_at, pay33_at, lgk, iblk13]
  simp only [pay73_at, lgv, z28, z32, v79_row, v18_at, v126_at]
  by_cases hh : y1.val / 64 = y2.val / 32
  · rw [if_pos hh, if_pos hh, if_pos hh]
    have eL : ∀ (a b : ℕ) (ha : a < 6) (hb : b < 6), a = b → (m ((c : Thread nD τ).loc main_arg5)) (ix1 ⟨a, ha⟩ : S6.Idx) = (m ((c : Thread nD τ).loc main_arg5)) (ix1 ⟨b, hb⟩ : S6.Idx) := by
      rintro a _ _ _ rfl; rfl
    have eQ : ∀ (s : Fin 64) (a b : ℕ) (ha : a < 384) (hb : b < 384), a = b → qkrow m c t s ⟨a, ha⟩ = qkrow m c t s ⟨b, hb⟩ := by
      rintro s a _ _ _ rfl; rfl
    refine congrArg₂ (· + ·) ?_ (Finset.sum_congr rfl fun s _ => ?_)
    · rw [mul_comm, eL (y2.val / 32) (y1.val / 64) (by omega) (by omega) hh.symm]
    · rw [mul_comm, z32, eQ s (192 + y2.val) (192 + y1.val / 64 * 32 + y2.val % 32) (by omega) (by omega) (by omega)]
  · rw [if_neg hh, if_neg hh, if_neg hh, zero_mul, zero_add]

/-- The new state's array after the run is the reference's. -/
theorem final23 (c : Dev nD) : (dats m 0 c).arrAt 23 cfg0.N = val_main_v170 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) := by
  refine (dats m 0 c).arrAt_eq_of_covers 23 _ (by decide +kernel) fun t hf y => ?_
  blk_simp
  rw [after0_23]; unfold Gen.outsAt0; dsimp only; frame_out
  exact point23 m c t y

end Cert.Proof.Mixer

end
-- ==== Proof.MixerHgrn.lean ====
/- The fourth result array of the `Mixer` call after its run, the new states of the gated linear attention, as the reference's term
   of the arguments; and the call's value claim, over all four arrays. -/
module

public import proofs.«01_k».proof.Proof.Gen.MixerIdeal.Value
public import proofs.«01_k».proof.Proof.Gen.MixerRefIdeal.Read
public import proofs.«01_k».proof.Defs
public import Idealize.ShloMosaic.Lib.Pipeline.ValueKit
public import Idealize.ShloMosaic.Lib.Claim
public import Idealize.ShloMosaic.Lib.Pipeline.ReadBack
public import proofs.«01_k».proof.Proof.Scalars
public import proofs.«01_k».proof.Proof.MixerValue

@[expose] public section

set_option maxRecDepth 16384

noncomputable section

open Idealize.ShloMosaic Idealize.ShloMosaic.TcCoe Idealize.SL.Sem
open Idealize.ShloMosaic.Pipeline (Dat)

namespace Cert.Proof.Mixer

open Cert.MixerIdeal Cert.MixerIdeal.Gen
open Cert.MixerRefIdeal.Read

variable (m : (ℓ : Loc nD τ sig) → Buf (Elt Ideal) ℓ)

/-- The block indices of the windows the recurrent state depends on, decided over the grid. -/
theorem idx_hgrn : ∀ t : Fin cfg0.N, win0_3.index t = ![0, 0] ∧ win0_6.index t = ![0, 0] ∧ win0_7.index t = ![0, 0]
    ∧ win0_9.index t = ![t.val, 0, 0, 0] ∧ win0_22.index t = ![t.val, 0, 0, 0] :=
  (by decide +kernel : ∀ t : Fin grid0.N, _)

/-- The first 1024 columns of the projection, as the host operations leave them. -/
theorem V_v21 (c : Dev nD) (k : Fin 1024) (n : Fin 1024) : V m c main_v21 (ix2 k n : S1024x1024.Idx) = m ((c : Thread nD τ).loc main_arg2) (ix2 k ⟨n.val, by omega⟩) := by
  unfold V
  simp only [List.flatten_cons, List.flatten_nil, List.append_nil]
  simp only [hostOps0, hostOps0_1, hostOps0_2, List.cons_append, List.nil_append]
  entry_read
  pointwise

/-- The first 1024 columns of the projection, as staged at every point. -/
theorem iblk3 (c : Dev nD) (t : Fin cfg0.N) (k : Fin 1024) (n : Fin 1024) : iblk m c 3 t (ix2 k n : S1024x1024.Idx) = m ((c : Thread nD τ).loc main_arg2) (ix2 k ⟨n.val, by omega⟩) := by
  blk_simp [iblk, idx_hgrn t]
  rw [← V_v21 m c k n]
  blk_ext [idx_hgrn t]

/-- The bounded lower gate row, as the host operations leave it. -/
theorem V_v28 (c : Dev nD) (k : Fin 256) : V m c main_v28 (ix2 0 k : S1x256.Idx) = max (α := EReal) (m ((c : Thread nD τ).loc main_arg3) (ix1 k)) (Ideal.ofBits .f32 0x1E3CE508#32) := by
  unfold V
  simp only [List.flatten_cons, List.flatten_nil, List.append_nil]
  simp only [hostOps0, hostOps0_1, hostOps0_2, List.cons_append, List.nil_append]
  entry_read
  pointwise

/-- The bounded lower gate row, as staged at every point. -/
theorem iblk6 (c : Dev nD) (t : Fin cfg0.N) (k : Fin 256) : iblk m c 6 t (ix2 0 k : S1x256.Idx) = max (α := EReal) (m ((c : Thread nD τ).loc main_arg3) (ix1 k)) (Ideal.ofBits .f32 0x1E3CE508#32) := by
  blk_simp [iblk, idx_hgrn t]
  rw [← V_v28 m c k]
  blk_ext [idx_hgrn t]

/-- One minus the lower gate row, as the host operations leave it. -/
theorem V_v31 (c : Dev nD) (k : Fin 256) : V m c main_v31 (ix2 0 k : S1x256.Idx) = Ideal.ofBits .f32 0x3F800000#32 - (m ((c : Thread nD τ).loc main_arg3) (ix1 k) : EReal) := by
  unfold V
  simp only [List.flatten_cons, List.flatten_nil, List.append_nil]
  simp only [hostOps0, hostOps0_1, hostOps0_2, List.cons_append, List.nil_append]
  entry_read
  pointwise

/-- One minus the lower gate row, as staged at every point. -/
theorem iblk7 (c : Dev nD) (t : Fin cfg0.N) (k : Fin 256) : iblk m c 7 t (ix2 0 k : S1x256.Idx) = Ideal.ofBits .f32 0x3F800000#32 - (m ((c : Thread nD τ).loc main_arg3) (ix1 k) : EReal) := by
  blk_simp [iblk, idx_hgrn t]
  rw [← V_v31 m c k]
  blk_ext [idx_hgrn t]

/-- The start states of a pair of heads, transposed and side by side on the diagonal, as the host operations leave them. -/
theorem V_v83 (c : Dev nD) (b : Fin 8) (p : Fin 2) (v k : Fin 128) : V m c main_v83 (ix4 b p v k : S8x2x128x128.Idx)
    = if v.val / 64 = k.val / 64 then m ((c : Thread nD τ).loc main_arg7) (ix4 b ⟨p.val * 2 + v.val / 64, by omega⟩ ⟨k.val % 64, by omega⟩ ⟨v.val % 64, by omega⟩) else (0 : EReal) := by
  unfold V
  simp only [List.flatten_cons, List.flatten_nil, List.append_nil]
  simp only [hostOps0, hostOps0_1, hostOps0_2, List.cons_append, List.nil_append]
  entry_read
  pointwise
  exact eye_mul _ ⟨v.val / 64, by omega⟩ ⟨k.val / 64, by omega⟩

/-- The start states of a pair of heads, as staged at point `t`. -/
theorem iblk9 (c : Dev nD) (t : Fin cfg0.N) (p : Fin 2) (v k : Fin 128) : iblk m c 9 t (ix4 0 p v k : S1x2x128x128.Idx)
    = if v.val / 64 = k.val / 64 then m ((c : Thread nD τ).loc main_arg7) (ix4 (brow t) ⟨p.val * 2 + v.val / 64, by omega⟩ ⟨k.val % 64, by omega⟩ ⟨v.val % 64, by omega⟩) else (0 : EReal) := by
  blk_simp [iblk, idx_hgrn t]
  rw [← V_v83 m c (brow t) p v k]
  unfold brow
  blk_ext [idx_hgrn t]

/-- The kernel's projection on the first 1024 columns, at one entry. -/
theorem pay24_at (x : Vec Ideal S1x64x1024 .f32) (g : Vec Ideal S1x1024 .f32) (w : Vec Ideal S1024x1024 .bf16) (r : Fin 64) (n : Fin 1024) :
    k0_pay24 (F := Ideal) x g w (ix2 r n : S64x1024.Idx)
      = ∑ k : Fin 1024, x (ix3 0 r k) * Ideal.rsqrt (Ideal.div (∑ i : Fin 1024, x (ix3 0 r i) * x (ix3 0 r i)) (Ideal.ofBits .f32 0x44800000#32) + Ideal.ofBits .f32 0x358637BD#32) * g (ix2 0 k) * w (ix2 k n) := by
  pointwise [k0_pay24, k0_pay23]

/-- The gate columns. -/
theorem pay80_at (z : FVec Ideal S64x1024 .f32) (r : Fin 64) (n : Fin 256) : k0_pay80 (F := Ideal) z (ix2 r n : S64x256.Idx) = z (ix2 r ⟨256 + n.val, by omega⟩) := by
  pointwise [k0_pay80]
/-- The value columns. -/
theorem pay81_at (z : FVec Ideal S64x1024 .f32) (r : Fin 64) (n : Fin 256) : k0_pay81 (F := Ideal) z (ix2 r n : S64x256.Idx) = z (ix2 r ⟨512 + n.val, by omega⟩) := by
  pointwise [k0_pay81]

/-- The forget gate, at one entry. -/
def gateAt (l o f : EReal) : EReal := l + o * Ideal.div 1 (1 + Ideal.exp (-f))

/-- The logarithm of the kernel's forget gate. -/
theorem pay84_at (f : FVec Ideal S64x256 .f32) (l o : Vec Ideal S1x256 .f32) (r : Fin 64) (n : Fin 256) :
    k0_pay84 (F := Ideal) f l o (ix2 r n : S64x256.Idx) = Ideal.log (gateAt (l (ix2 0 n)) (o (ix2 0 n)) (f (ix2 r n))) := by
  unfold gateAt; rw [← sigmoid_eq]
  pointwise [k0_pay84, k0_pay83]
/-- The kernel's key: one minus the forget gate. -/
theorem pay85_at (f : FVec Ideal S64x256 .f32) (l o : Vec Ideal S1x256 .f32) (r : Fin 64) (n : Fin 256) :
    k0_pay85 (F := Ideal) f l o (ix2 r n : S64x256.Idx) = Ideal.ofBits .f32 0x3F800000#32 - gateAt (l (ix2 0 n)) (o (ix2 0 n)) (f (ix2 r n)) := by
  unfold gateAt; rw [← sigmoid_eq]
  pointwise [k0_pay85, k0_pay83]

/-- A product with the three parts of the log gates, summed. -/
theorem pay94_at (M : FVec Ideal S64x64 .bf16) (a b d : FVec Ideal S64x256 .bf16) (r : Fin 64) (n : Fin 256) :
    k0_pay94 (F := Ideal) M a b d (constant S64x256 FTy.f32 0#32) (ix2 r n : S64x256.Idx)
      = ∑ s : Fin 64, M (ix2 r s) * a (ix2 s n) + ∑ s : Fin 64, M (ix2 r s) * b (ix2 s n) + ∑ s : Fin 64, M (ix2 r s) * d (ix2 s n) := by
  pointwise [k0_pay94]

/-- The last row of each block of sixteen, repeated. -/
theorem pay95_at (M : FVec Ideal S64x64 .bf16) (a b d : FVec Ideal S64x256 .bf16) (z : FVec Ideal S64x256 .f32) (r : Fin 64) (n : Fin 256) :
    k0_pay95 (F := Ideal) M a b d z (ix2 r n : S64x256.Idx)
      = k0_pay94 (F := Ideal) M a b d z (ix2 ⟨r.val / 16 * 16 + 15, by omega⟩ n) := by
  pointwise [k0_pay95]

/-- The key with its decay up to the block's end. -/
theorem pay97_at (u : FVec Ideal S64x256 .f32) (M : FVec Ideal S64x64 .bf16) (a b d : FVec Ideal S64x256 .bf16) (z : FVec Ideal S64x256 .f32) (r : Fin 64) (n : Fin 256) :
    k0_pay97 (F := Ideal) u M a b d z (ix2 r n : S64x256.Idx)
      = u (ix2 r n) * Ideal.exp (k0_pay95 (F := Ideal) M a b d z (ix2 r n) - k0_pay94 (F := Ideal) M a b d z (ix2 r n)) := by
  pointwise [k0_pay97]

/-- The decay of a whole block. -/
theorem pay98_at (M : FVec Ideal S64x64 .bf16) (a b d : FVec Ideal S64x256 .bf16) (z : FVec Ideal S64x256 .f32) (r : Fin 64) (n : Fin 256) :
    k0_pay98 (F := Ideal) M a b d z (ix2 r n : S64x256.Idx) = Ideal.exp (k0_pay95 (F := Ideal) M a b d z (ix2 r n)) := by
  pointwise [k0_pay98]

/-- The third part of a log gate. -/
theorem pay93_at (u : FVec Ideal S64x256 .f32) (r : Fin 64) (n : Fin 256) :
    k0_pay93 (F := Ideal) u (ix2 r n : S64x256.Idx) = (u (ix2 r n) - u (ix2 r n)) - (u (ix2 r n) - u (ix2 r n)) := by
  pointwise [k0_pay93, k0_pay92, k0_pay91, k0_pay90]
/-- The second part of a log gate. -/
theorem pay92_at (u : FVec Ideal S64x256 .f32) (r : Fin 64) (n : Fin 256) :
    k0_pay92 (F := Ideal) u (ix2 r n : S64x256.Idx) = (u (ix2 r n) - u (ix2 r n)) := by
  pointwise [k0_pay92, k0_pay91, k0_pay90]
/-- The first part of a log gate. -/
theorem pay90_at (u : FVec Ideal S64x256 .f32) (r : Fin 64) (n : Fin 256) :
    k0_pay90 (F := Ideal) u (ix2 r n : S64x256.Idx) = u (ix2 r n) := by
  pointwise [k0_pay90]
/-- The kernel's block number of a row. -/
theorem blk_word : ∀ r : Fin 64, (Scalar.select (IntOp.andi (IntOp.cmpi CmpIPredicate.ne (IntOp.subi (BitVec.setWidth 32 (IntOp.cmpi CmpIPredicate.sgt (BitVec.ofNat 32 r.val) 0#32)) (BitVec.setWidth 32 (IntOp.cmpi CmpIPredicate.slt (BitVec.ofNat 32 r.val) 0#32))) 1#32) (IntOp.cmpi CmpIPredicate.ne (IntOp.remsi ArithUnit.vector (BitVec.ofNat 32 r.val) 16#32) 0#32)) (IntOp.subi (IntOp.divsi ArithUnit.vector (BitVec.ofNat 32 r.val) 16#32) 1#32) (IntOp.divsi ArithUnit.vector (BitVec.ofNat 32 r.val) 16#32)) = BitVec.ofNat 32 (r.val / 16) := by decide +kernel
/-- Two block numbers compared. -/
theorem blk_eq : ∀ a b : Fin 4, IntOp.cmpi CmpIPredicate.eq (BitVec.ofNat 32 a.val) (BitVec.ofNat 32 b.val) = if a.val = b.val then 1#1 else 0#1 := by decide +kernel
/-- Two row numbers compared. -/
theorem row_ge : ∀ r s : Fin 64, IntOp.cmpi CmpIPredicate.sge (BitVec.ofNat 32 r.val) (BitVec.ofNat 32 s.val) = if s.val ≤ r.val then 1#1 else 0#1 := by decide +kernel
/-- The kernel's mask: the rows of the same block up to this one. -/
theorem pay89_at (r s : Fin 64) : k0_pay89 (F := Ideal) (iota Kind.tc S64x64 32 [0] iota_S64x64_d0_w32) (iota Kind.tc S64x64 32 [1] iota_S64x64_d1_w32) (16#32) k0_pay87 k0_pay88 1#32 0#32 (ix2 r s : S64x64.Idx)
    = if r.val / 16 = s.val / 16 ∧ s.val ≤ r.val then 1 else 0 := by
  pointwise [k0_pay89, k0_pay87, k0_pay88]
  rw [show Scalar.subi (Scalar.extui (Scalar.cmpi CmpIPredicate.sgt 16#32 0#32)) (Scalar.extui (Scalar.cmpi CmpIPredicate.slt 16#32 0#32)) = 1#32 from by decide,
    show Scalar.subi (1#32) (Scalar.extui (Scalar.cmpi CmpIPredicate.slt 16#32 0#32)) = 1#32 from by decide]
  rw [blk_word r, blk_word s, blk_eq ⟨r.val / 16, by omega⟩ ⟨s.val / 16, by omega⟩, row_ge r s]
  have h1 : FloatOps.sitofp (F := Ideal) FTy.f32 (BitVec.setWidth 32 (1#1)) = (1 : EReal) := by
    show (((BitVec.setWidth 32 1#1).toInt : ℝ) : EReal) = 1
    rw [show (BitVec.setWidth 32 1#1).toInt = 1 from by decide]; simp
  have h0 : FloatOps.sitofp (F := Ideal) FTy.f32 (BitVec.setWidth 32 (0#1)) = (0 : EReal) := by
    show (((BitVec.setWidth 32 0#1).toInt : ℝ) : EReal) = 0
    rw [show (BitVec.setWidth 32 0#1).toInt = 0 from by decide]; simp
  by_cases ha : r.val / 16 = s.val / 16
  · by_cases hb : s.val ≤ r.val
    · rw [if_pos ha, if_pos hb, if_pos ⟨ha, hb⟩]; exact h1
    · rw [if_pos ha, if_neg hb, if_neg (fun h => hb h.2)]; exact h0
  · by_cases hb : s.val ≤ r.val
    · rw [if_neg ha, if_pos hb, if_neg (fun h => ha h.1)]; exact h0
    · rw [if_neg ha, if_neg hb, if_neg (fun h => ha h.1)]; exact h0

/-- The mask of equal heads within a pair. -/
theorem mask165 (x j : Fin 128) : k0_pay165 (iota Kind.tc S128x128 32 [0] iota_S128x128_d0_w32) (64#32) k0_pay162 k0_pay163 k0_pay164 (ix2 x j : S128x128.Idx)
    = if x.val / 64 = j.val / 64 then 1#1 else 0#1 := by
  pointwise [k0_pay165, k0_pay162, k0_pay163, k0_pay164]
  rw [show Scalar.subi (Scalar.extui (Scalar.cmpi CmpIPredicate.sgt 64#32 0#32)) (Scalar.extui (Scalar.cmpi CmpIPredicate.slt 64#32 0#32)) = 1#32 from by decide]
  rw [pair_word x, pair_word j, pair_eq ⟨x.val / 64, by omega⟩ ⟨j.val / 64, by omega⟩]

/-- The masked outer product of the first block, first pair of heads. -/
theorem pay167_at (vv kh : FVec Ideal S64x256 .f32) (M : IVec S128x128 1) (v k : Fin 128) : k0_pay167 (F := Ideal) M (k0_pay166 vv kh) (ix2 v k : S128x128.Idx)
    = Scalar.select (M (ix2 v k)) (∑ s : Fin 16, vv (ix2 ⟨s.val, by omega⟩ ⟨v.val, by omega⟩) * kh (ix2 ⟨s.val, by omega⟩ ⟨k.val, by omega⟩)) (0 : EReal) := by
  pointwise [k0_pay167, k0_pay166]
/-- The masked outer product of the second block, first pair of heads. -/
theorem pay169_at (vv kh : FVec Ideal S64x256 .f32) (M : IVec S128x128 1) (v k : Fin 128) : k0_pay169 (F := Ideal) vv kh M (ix2 v k : S128x128.Idx)
    = Scalar.select (M (ix2 v k)) (∑ s : Fin 16, vv (ix2 ⟨16 + s.val, by omega⟩ ⟨v.val, by omega⟩) * kh (ix2 ⟨16 + s.val, by omega⟩ ⟨k.val, by omega⟩)) (0 : EReal) := by
  pointwise [k0_pay169]
/-- The masked outer product of the third block, first pair of heads. -/
theorem pay171_at (vv kh : FVec Ideal S64x256 .f32) (M : IVec S128x128 1) (v k : Fin 128) : k0_pay171 (F := Ideal) vv kh M (ix2 v k : S128x128.Idx)
    = Scalar.select (M (ix2 v k)) (∑ s : Fin 16, vv (ix2 ⟨32 + s.val, by omega⟩ ⟨v.val, by omega⟩) * kh (ix2 ⟨32 + s.val, by omega⟩ ⟨k.val, by omega⟩)) (0 : EReal) := by
  pointwise [k0_pay171]
/-- The masked outer product of the fourth block, first pair of heads. -/
theorem pay173_at (vv kh : FVec Ideal S64x256 .f32) (M : IVec S128x128 1) (v k : Fin 128) : k0_pay173 (F := Ideal) vv kh M (ix2 v k : S128x128.Idx)
    = Scalar.select (M (ix2 v k)) (∑ s : Fin 16, vv (ix2 ⟨48 + s.val, by omega⟩ ⟨v.val, by omega⟩) * kh (ix2 ⟨48 + s.val, by omega⟩ ⟨k.val, by omega⟩)) (0 : EReal) := by
  pointwise [k0_pay173]
/-- The masked outer product of the first block, second pair of heads. -/
theorem pay168_at (vv kh : FVec Ideal S64x256 .f32) (M : IVec S128x128 1) (v k : Fin 128) : k0_pay168 (F := Ideal) vv kh M (ix2 v k : S128x128.Idx)
    = Scalar.select (M (ix2 v k)) (∑ s : Fin 16, vv (ix2 ⟨s.val, by omega⟩ ⟨128 + v.val, by omega⟩) * kh (ix2 ⟨s.val, by omega⟩ ⟨128 + k.val, by omega⟩)) (0 : EReal) := by
  pointwise [k0_pay168]
/-- The masked outer product of the second block, second pair of heads. -/
theorem pay170_at (vv kh : FVec Ideal S64x256 .f32) (M : IVec S128x128 1) (v k : Fin 128) : k0_pay170 (F := Ideal) vv kh M (ix2 v k : S128x128.Idx)
    = Scalar.select (M (ix2 v k)) (∑ s : Fin 16, vv (ix2 ⟨16 + s.val, by omega⟩ ⟨128 + v.val, by omega⟩) * kh (ix2 ⟨16 + s.val, by omega⟩ ⟨128 + k.val, by omega⟩)) (0 : EReal) := by
  pointwise [k0_pay170]
/-- The masked outer product of the third block, second pair of heads. -/
theorem pay172_at (vv kh : FVec Ideal S64x256 .f32) (M : IVec S128x128 1) (v k : Fin 128) : k0_pay172 (F := Ideal) vv kh M (ix2 v k : S128x128.Idx)
    = Scalar.select (M (ix2 v k)) (∑ s : Fin 16, vv (ix2 ⟨32 + s.val, by omega⟩ ⟨128 + v.val, by omega⟩) * kh (ix2 ⟨32 + s.val, by omega⟩ ⟨128 + k.val, by omega⟩)) (0 : EReal) := by
  pointwise [k0_pay172]
/-- The state of the second pair of heads after its four blocks. -/
theorem pay184_at (D vv kh : FVec Ideal S64x256 .f32) (M : IVec S128x128 1) (o0 o1 o2 : FVec Ideal S128x128 .f32) (S : Vec Ideal S1x128x128 .f32) (v k : Fin 128) :
    k0_pay184 (F := Ideal) D M o0 o1 o2 (k0_pay174 kh) (k0_pay175 vv) S (ix2 v k : S128x128.Idx)
      = (((S (ix3 0 v k) * D (ix2 0 ⟨128 + k.val, by omega⟩) + o0 (ix2 v k)) * D (ix2 16 ⟨128 + k.val, by omega⟩) + o1 (ix2 v k)) * D (ix2 32 ⟨128 + k.val, by omega⟩) + o2 (ix2 v k)) * D (ix2 48 ⟨128 + k.val, by omega⟩)
        + Scalar.select (M (ix2 v k)) (∑ s : Fin 16, vv (ix2 ⟨48 + s.val, by omega⟩ ⟨128 + v.val, by omega⟩) * kh (ix2 ⟨48 + s.val, by omega⟩ ⟨128 + k.val, by omega⟩)) (0 : EReal) := by
  pointwise [k0_pay184, k0_pay183, k0_pay181, k0_pay179, k0_pay177, k0_pay174, k0_pay175]
/-- The state of the first pair of heads after its four blocks. -/
theorem pay185_at (D : FVec Ideal S64x256 .f32) (o0 o1 o2 o3 : FVec Ideal S128x128 .f32) (S : Vec Ideal S1x128x128 .f32) (v k : Fin 128) :
    k0_pay185 (F := Ideal) D o0 o1 o2 o3 S (ix3 0 v k : S1x128x128.Idx)
      = (((S (ix3 0 v k) * D (ix2 0 ⟨k.val, by omega⟩) + o0 (ix2 v k)) * D (ix2 16 ⟨k.val, by omega⟩) + o1 (ix2 v k)) * D (ix2 32 ⟨k.val, by omega⟩) + o2 (ix2 v k)) * D (ix2 48 ⟨k.val, by omega⟩)
        + o3 (ix2 v k) := by
  pointwise [k0_pay185, k0_pay182, k0_pay180, k0_pay178, k0_pay176]
/-- The stored state of the second pair. -/
theorem pay186_at (u : FVec Ideal S128x128 .f32) (v k : Fin 128) : k0_pay186 (F := Ideal) u (ix3 0 v k : S1x128x128.Idx) = u (ix2 v k) := by
  pointwise [k0_pay186]
/-- The stored block of both pairs. -/
theorem pay2_at (u : Vec Ideal S2x128x128 .f32) (p : Fin 2) (v k : Fin 128) : k0_pay2 (F := Ideal) u (ix4 0 p v k : S1x2x128x128.Idx) = u (ix3 p v k) := by
  pointwise [k0_pay2]
/-- The staged block of both pairs. -/
theorem pay6_at (u : Vec Ideal S1x2x128x128 .f32) (p : Fin 2) (v k : Fin 128) : k0_pay6 (F := Ideal) u (ix3 p v k : S2x128x128.Idx) = u (ix4 0 p v k) := by
  pointwise [k0_pay6]

/-- The kernel's projection is the reference's, column by column. -/
theorem z24 (c : Dev nD) (t : Fin cfg0.N) (r : Fin 64) (n : Fin 1024) : k0_pay24 (F := Ideal) (iblk m c 1 t) (iblk m c 2 t) (iblk m c 3 t) (ix2 r n : S64x1024.Idx)
    = val_main_v13 (F := Ideal) (m ((c : Thread nD τ).loc main_arg0)) (m ((c : Thread nD τ).loc main_arg1)) (m ((c : Thread nD τ).loc main_arg2)) (ix3 (brow t) r ⟨n.val, by omega⟩) := by
  rw [pay24_at, v13_at]
  simp only [iblk1, iblk2, iblk3]

/-- Both pairs' states, read back after the two stores: each pair reads its own store. -/
theorem back (w1 w0 : S1x128x128.Idx → Elt Ideal .f32) (w : S2x128x128.Idx → Elt Ideal .f32) :
    (View.whole cc0_scratch0).readCov (Val := Elt Ideal) [⟨Rect.unit ![1, 0, 0] ![1, 128, 128] inb_S2x128x128_S1x128x128_1_0_0, w1⟩, ⟨Rect.unit ![0, 0, 0] ![1, 128, 128] inb_S2x128x128_S1x128x128_0_0_0, w0⟩, ⟨Rect.unit ![0, 0, 0] ![2, 128, 128] inb_S2x128x128_S2x128x128_0_0_0, w⟩] (Rect.unit ![0, 0, 0] ![2, 128, 128] inb_S2x128x128_S2x128x128_0_0_0).toLoadRect
      = (fun y : S2x128x128.Idx => if (y 0).val = 0 then w0 (ix3 0 (y 1) (y 2)) else w1 (ix3 0 (y 1) (y 2))) := by
  rw [View.readCov_eq_canon']
  funext j
  have hj : ((Rect.unit (s := S2x128x128) ![0, 0, 0] ![2, 128, 128] inb_S2x128x128_S2x128x128_0_0_0).toLoadRect.idx j) = j := by
    funext a; fin_cases a <;> (apply Fin.ext; simp [Rect.unit, LoadRect.idx])
  refine (View.canon_append_of_piecesOf (fun y : S2x128x128.Idx => if (y 0).val = 0 then w0 (ix3 0 (y 1) (y 2)) else w1 (ix3 0 (y 1) (y 2))) [_] [_, _] ⟨fun x => ?_, fun x => ?_, trivial⟩ _ ?_).trans ?_
  · show w1 x = _
    beta_reduce
    rw [if_neg (by simp [Rect.unit, Rect.emb])]
    refine congrArg w1 ?_
    funext a; fin_cases a <;> (apply Fin.ext; simp [Rect.unit, Rect.emb])
  · show w0 x = _
    beta_reduce
    rw [if_pos (by simp [Rect.unit, Rect.emb])]
    refine congrArg w0 ?_
    funext a; fin_cases a <;> (apply Fin.ext; simp [Rect.unit, Rect.emb])
  · rw [hj]
    have h0 : (j 0).val < 2 := (j 0).isLt
    by_cases h : (j 0).val = 0
    · have e : (Rect.unit (s := S2x128x128) ![0, 0, 0] ![1, 128, 128] inb_S2x128x128_S1x128x128_0_0_0).toLoadRect.idx (ix3 0 (j 1) (j 2) : S1x128x128.Idx) = j := by
        funext a; fin_cases a <;> (apply Fin.ext; simp [Rect.unit, Rect.emb, LoadRect.idx, h])
      have hm := LoadRect.idx_mem (Rect.unit (s := S2x128x128) ![0, 0, 0] ![1, 128, 128] inb_S2x128x128_S1x128x128_0_0_0).toLoadRect (ix3 0 (j 1) (j 2) : S1x128x128.Idx)
      rw [e] at hm
      exact ⟨_, List.mem_cons_of_mem _ (List.mem_cons_self ..), hm⟩
    · have e : (Rect.unit (s := S2x128x128) ![1, 0, 0] ![1, 128, 128] inb_S2x128x128_S1x128x128_1_0_0).toLoadRect.idx (ix3 0 (j 1) (j 2) : S1x128x128.Idx) = j := by
        funext a; fin_cases a <;> (apply Fin.ext; simp [Rect.unit, Rect.emb, LoadRect.idx]; try omega)
      have hm := LoadRect.idx_mem (Rect.unit (s := S2x128x128) ![1, 0, 0] ![1, 128, 128] inb_S2x128x128_S1x128x128_1_0_0).toLoadRect (ix3 0 (j 1) (j 2) : S1x128x128.Idx)
      rw [e] at hm
      exact ⟨_, List.mem_cons_self .., hm⟩
  · beta_reduce
    rw [hj]
/-- The first pair's start state. -/
theorem start0 (w : S2x128x128.Idx → Elt Ideal .f32) (v k : Fin 128) :
    ((View.whole cc0_scratch0).readCov (Val := Elt Ideal) [⟨Rect.unit ![0, 0, 0] ![2, 128, 128] inb_S2x128x128_S2x128x128_0_0_0, w⟩] (Rect.unit (s := S2x128x128) ![0, 0, 0] ![1, 128, 128] inb_S2x128x128_S1x128x128_0_0_0).toLoadRect : S1x128x128.Idx → Elt Ideal .f32) (ix3 0 v k : S1x128x128.Idx) = w (ix3 0 v k) := by
  refine (congrFun (View.readCov_fill (View.whole cc0_scratch0) inb_S2x128x128_S2x128x128_0_0_0 w [] _ (by decide)) _).trans ?_
  refine congrArg w ?_
  funext i; fin_cases i <;> (apply Fin.ext; simp [Rect.unit, Rect.emb])
/-- The second pair's start state. -/
theorem start1 (w : S2x128x128.Idx → Elt Ideal .f32) (v k : Fin 128) :
    ((View.whole cc0_scratch0).readCov (Val := Elt Ideal) [⟨Rect.unit ![0, 0, 0] ![2, 128, 128] inb_S2x128x128_S2x128x128_0_0_0, w⟩] (Rect.unit (s := S2x128x128) ![1, 0, 0] ![1, 128, 128] inb_S2x128x128_S1x128x128_1_0_0).toLoadRect : S1x128x128.Idx → Elt Ideal .f32) (ix3 0 v k : S1x128x128.Idx) = w (ix3 1 v k) := by
  refine (congrFun (View.readCov_fill (View.whole cc0_scratch0) inb_S2x128x128_S2x128x128_0_0_0 w [] _ (by decide)) _).trans ?_
  refine congrArg w ?_
  funext i; fin_cases i <;> (apply Fin.ext; simp [Rect.unit, Rect.emb])

/-- The sum of the log gates from a block's start up to row `r`. -/
def inBlk (l : Fin 64 → ℝ) (r : Fin 64) : ℝ := ∑ s : Fin 64, if r.val / 16 = s.val / 16 ∧ s.val ≤ r.val then l s else 0
/-- The sum of the log gates up to row `r`. -/
def upTo (l : Fin 64 → ℝ) (r : Fin 64) : ℝ := ∑ s : Fin 64, if s.val ≤ r.val then l s else 0

/-- A product with a 0/1 mask is the masked sum. -/
theorem sum_mask (P : Fin 64 → Prop) [DecidablePred P] (l : Fin 64 → ℝ) :
    ∑ s : Fin 64, (if P s then 1 else 0 : EReal) * (l s : EReal) = ((∑ s : Fin 64, if P s then l s else 0 : ℝ) : EReal) := by
  rw [show ((∑ s : Fin 64, if P s then l s else 0 : ℝ) : EReal) = ∑ s : Fin 64, ((if P s then l s else 0 : ℝ) : EReal) from map_sum (⟨⟨Real.toEReal, EReal.coe_zero⟩, EReal.coe_add⟩ : ℝ →+ EReal) _ _]
  refine Finset.sum_congr rfl fun s _ => ?_
  by_cases h : P s
  · rw [if_pos h, if_pos h, one_mul]
  · rw [if_neg h, if_neg h, zero_mul, EReal.coe_zero]

/-- A sum times a real is the sum of the products. -/
theorem sum_mul_real {n : ℕ} (f : Fin n → EReal) (d : ℝ) (hd : 0 ≤ d) : (∑ s : Fin n, f s) * (d : EReal) = ∑ s : Fin n, f s * (d : EReal) := by
  induction n with
  | zero => simp
  | succ n ih =>
    rw [Fin.sum_univ_succ, Fin.sum_univ_succ, ← ih, EReal.right_distrib_of_nonneg_of_ne_top (by exact_mod_cast hd) (EReal.coe_ne_top d)]

/-- A sum times a real is the sum of the products, two terms. -/
theorem add_mul_real (x y : EReal) (d : ℝ) (hd : 0 ≤ d) : (x + y) * (d : EReal) = x * (d : EReal) + y * (d : EReal) :=
  EReal.right_distrib_of_nonneg_of_ne_top (by exact_mod_cast hd) (EReal.coe_ne_top d) x y

/-- A sum over 64 rows, sixteen at a time. -/
theorem sum_four (F : Fin 64 → EReal) : ∑ s : Fin 64, F s = ∑ s : Fin 16, F ⟨s.val, by omega⟩ + ∑ s : Fin 16, F ⟨16 + s.val, by omega⟩ + ∑ s : Fin 16, F ⟨32 + s.val, by omega⟩ + ∑ s : Fin 16, F ⟨48 + s.val, by omega⟩ := by
  have h3 := Fin.sum_univ_add (a := 48) (b := 16) F
  have h2 := Fin.sum_univ_add (a := 32) (b := 16) (fun i : Fin 48 => F ⟨i.val, by omega⟩)
  have h1 := Fin.sum_univ_add (a := 16) (b := 16) (fun i : Fin 32 => F ⟨i.val, by omega⟩)
  refine h3.trans (congrArg₂ (· + ·) (h2.trans (congrArg₂ (· + ·) (h1.trans rfl) rfl)) rfl)

/-- The four blocks' recurrence is the whole chunk's sum. -/
theorem chain (l : Fin 64 → ℝ) (S : EReal) (va ka : Fin 64 → EReal) :
    (((S * Ideal.exp (inBlk l 15 : EReal) + ∑ s : Fin 16, va ⟨s.val, by omega⟩ * (ka ⟨s.val, by omega⟩ * Ideal.exp ((inBlk l 15 : EReal) - (inBlk l ⟨s.val, by omega⟩ : EReal))))
      * Ideal.exp (inBlk l 31 : EReal) + ∑ s : Fin 16, va ⟨16 + s.val, by omega⟩ * (ka ⟨16 + s.val, by omega⟩ * Ideal.exp ((inBlk l 31 : EReal) - (inBlk l ⟨16 + s.val, by omega⟩ : EReal))))
      * Ideal.exp (inBlk l 47 : EReal) + ∑ s : Fin 16, va ⟨32 + s.val, by omega⟩ * (ka ⟨32 + s.val, by omega⟩ * Ideal.exp ((inBlk l 47 : EReal) - (inBlk l ⟨32 + s.val, by omega⟩ : EReal))))
      * Ideal.exp (inBlk l 63 : EReal) + ∑ s : Fin 16, va ⟨48 + s.val, by omega⟩ * (ka ⟨48 + s.val, by omega⟩ * Ideal.exp ((inBlk l 63 : EReal) - (inBlk l ⟨48 + s.val, by omega⟩ : EReal)))
    = Ideal.exp (upTo l 63 : EReal) * S + ∑ s : Fin 64, ka s * Ideal.exp ((upTo l 63 : EReal) - (upTo l s : EReal)) * va s := by
  have tot : upTo l 63 = inBlk l 15 + inBlk l 31 + inBlk l 47 + inBlk l 63 := by
    unfold upTo inBlk
    rw [← Finset.sum_add_distrib, ← Finset.sum_add_distrib, ← Finset.sum_add_distrib]
    refine Finset.sum_congr rfl fun s _ => ?_
    have h63 : ((63 : Fin 64) : ℕ) = 63 := rfl
    have h47 : ((47 : Fin 64) : ℕ) = 47 := rfl
    have h31 : ((31 : Fin 64) : ℕ) = 31 := rfl
    have h15 : ((15 : Fin 64) : ℕ) = 15 := rfl
    rw [h63, h47, h31, h15]
    have := s.isLt
    split_ifs <;> first | omega | simp
  have part : ∀ (j : ℕ) (hj : j < 4) (i : Fin 16), upTo l ⟨16 * j + i.val, by omega⟩
      = (if 0 < j then inBlk l 15 else 0) + (if 1 < j then inBlk l 31 else 0) + (if 2 < j then inBlk l 47 else 0) + inBlk l ⟨16 * j + i.val, by omega⟩ := by
    intro j hj i
    unfold upTo inBlk
    have h47 : ((47 : Fin 64) : ℕ) = 47 := rfl
    have h31 : ((31 : Fin 64) : ℕ) = 31 := rfl
    have h15 : ((15 : Fin 64) : ℕ) = 15 := rfl
    simp only [h47, h31, h15]
    have hi := i.isLt
    interval_cases j <;> simp only [lt_irrefl, if_false, if_true, Nat.lt_irrefl, Nat.not_lt_zero, zero_add, Nat.zero_lt_one, (by decide : (0:ℕ) < 2), (by decide : (0:ℕ) < 3), (by decide : (1:ℕ) < 2), (by decide : (1:ℕ) < 3), (by decide : (2:ℕ) < 3), (by decide : ¬ (1:ℕ) < 0), (by decide : ¬ (2:ℕ) < 0), (by decide : ¬ (2:ℕ) < 1), add_zero, ← Finset.sum_add_distrib] <;>
    · refine Finset.sum_congr rfl fun s _ => ?_
      have := s.isLt
      split_ifs <;> first | omega | simp
  have d0 := (Real.exp_pos (inBlk l 15)).le
  have d1 := (Real.exp_pos (inBlk l 31)).le
  have d2 := (Real.exp_pos (inBlk l 47)).le
  have d3 := (Real.exp_pos (inBlk l 63)).le
  simp only [← EReal.coe_sub, Ideal.exp_coe]
  simp only [add_mul_real _ _ _ d1, add_mul_real _ _ _ d2, add_mul_real _ _ _ d3, sum_mul_real _ _ d1, sum_mul_real _ _ d2, sum_mul_real _ _ d3]
  rw [sum_four]
  simp only [← add_assoc]
  refine congrArg₂ (· + ·) (congrArg₂ (· + ·) (congrArg₂ (· + ·) (congrArg₂ (· + ·) ?_ ?_) ?_) ?_) ?_
  · rw [tot, Real.exp_add, Real.exp_add, Real.exp_add, EReal.coe_mul, EReal.coe_mul, EReal.coe_mul]
    ac_rfl
  · refine Finset.sum_congr rfl fun s _ => ?_
    have e := part 0 (by omega) s
    simp only [Nat.mul_zero, Nat.zero_add] at e
    rw [show upTo l 63 - upTo l ⟨s.val, by omega⟩ = (inBlk l 15 - inBlk l ⟨s.val, by omega⟩) + inBlk l 31 + inBlk l 47 + inBlk l 63 from by rw [tot, e]; simp; ring]
    rw [Real.exp_add, Real.exp_add, Real.exp_add, EReal.coe_mul, EReal.coe_mul, EReal.coe_mul]
    ac_rfl
  · refine Finset.sum_congr rfl fun s _ => ?_
    have e := part 1 (by omega) s
    simp only [Nat.mul_one] at e
    rw [show upTo l 63 - upTo l ⟨16 + s.val, by omega⟩ = (inBlk l 31 - inBlk l ⟨16 + s.val, by omega⟩) + inBlk l 47 + inBlk l 63 from by rw [tot, e]; simp; ring]
    rw [Real.exp_add, Real.exp_add, EReal.coe_mul, EReal.coe_mul]
    ac_rfl
  · refine Finset.sum_congr rfl fun s _ => ?_
    have e := part 2 (by omega) s
    simp only [show 16 * 2 = 32 from rfl] at e
    rw [show upTo l 63 - upTo l ⟨32 + s.val, by omega⟩ = (inBlk l 47 - inBlk l ⟨32 + s.val, by omega⟩) + inBlk l 63 from by rw [tot, e]; simp; ring]
    rw [Real.exp_add, EReal.coe_mul]
    ac_rfl
  · refine Finset.sum_congr rfl fun s _ => ?_
    have e := part 3 (by omega) s
    simp only [show 16 * 3 = 48 from rfl] at e
    rw [show upTo l 63 - upTo l ⟨48 + s.val, by omega⟩ = (inBlk l 63 - inBlk l ⟨48 + s.val, by omega⟩) from by rw [tot, e]; simp]
    ac_rfl

/-- The larger of two reals, as extended reals. -/
theorem max_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]
/-- The bits of the kernel's lower bound of a gate are a positive real. -/
theorem floor_real : ∃ q : ℝ, 0 < q ∧ Ideal.ofBits .f32 0x1E3CE508#32 = (q : EReal) := by
  refine ⟨_, ?_, by simp [Ideal.ofBits, Ideal.ieee, -EReal.coe_mul]; rfl⟩
  norm_num
/-- The logistic function is a real between zero and one. -/
theorem logistic_real (f : EReal) : ∃ s : ℝ, 0 ≤ s ∧ s ≤ 1 ∧ Ideal.div 1 (1 + Ideal.exp (-f)) = (s : EReal) := by
  induction f using EReal.rec with
  | bot =>
    have e : (1 : EReal) + ⊤ = ⊤ := by rw [← EReal.coe_one]; exact EReal.coe_add_top _
    exact ⟨0, le_refl _, zero_le_one, by simp [Ideal.div, e]⟩
  | top => exact ⟨1, zero_le_one, le_refl _, by simp [Ideal.div]⟩
  | coe r =>
    have h0 : (0 : ℝ) < 1 + Real.exp (-r) := by positivity
    refine ⟨1 / (1 + Real.exp (-r)), by positivity, ?_, ?_⟩
    · rw [div_le_one h0]; linarith [Real.exp_pos (-r)]
    · rw [← EReal.coe_neg, Ideal.exp_coe, ← EReal.coe_one, ← EReal.coe_add, Ideal.div_coe h0.ne']
      rw [EReal.coe_one, one_mul]
theorem one_f32 : Ideal.ofBits .f32 0x3F800000#32 = ((1 : ℝ) : EReal) := by
  simp [Ideal.ofBits, Ideal.ieee, -EReal.coe_mul]
  norm_num
/-- The forget gate is a positive real when the bound is a real below one. -/
theorem gate_real (lb : ℝ) (hlb : lb < 1) (f : EReal) : ∃ g : ℝ, 0 < g ∧ gateAt (max (lb : EReal) (Ideal.ofBits .f32 0x1E3CE508#32)) (Ideal.ofBits .f32 0x3F800000#32 - (lb : EReal)) f = (g : EReal) := by
  obtain ⟨q, hq, eq⟩ := floor_real
  obtain ⟨s, h0, h1, es⟩ := logistic_real f
  refine ⟨max lb q + (1 - lb) * s, ?_, ?_⟩
  · have := le_max_right lb q
    have := mul_nonneg (sub_nonneg.mpr hlb.le) h0
    linarith
  · unfold gateAt
    rw [eq, es, one_f32, ← EReal.coe_sub, ← EReal.coe_mul, max_real, ← EReal.coe_add]
/-- The reference's logarithm of the gate, term by term. -/
def logGate (lb f : EReal) : EReal :=
  let a : EReal := Ideal.log (max lb (Ideal.ofBits .f32 0x1E3CE508#32))
  let b : EReal := Ideal.log1p (-lb) + -(max (-f) 0 + Ideal.log1p (Ideal.exp (-(max (-f) (-(-f))))))
  max a b + Ideal.log1p (Ideal.exp (-(max (a - b) (-(a - b)))))
/-- Adding two exponentials under the logarithm, over the reals. -/
theorem lae_real (a b : ℝ) : max a b + Real.log (1 + Real.exp (-(max (a - b) (-(a - b))))) = Real.log (Real.exp a + Real.exp b) := by
  rcases le_total a b with h | h
  · rw [max_eq_right h, max_eq_right (by linarith)]
    rw [show Real.exp a + Real.exp b = Real.exp b * (1 + Real.exp (-(-(a - b)))) from by rw [mul_add, ← Real.exp_add, mul_one]; ring_nf]
    rw [Real.log_mul (Real.exp_pos _).ne' (by positivity), Real.log_exp]
  · rw [max_eq_left h, max_eq_left (by linarith)]
    rw [show Real.exp a + Real.exp b = Real.exp a * (1 + Real.exp (-(a - b))) from by rw [mul_add, ← Real.exp_add, mul_one]; ring_nf]
    rw [Real.log_mul (Real.exp_pos _).ne' (by positivity), Real.log_exp]
/-- The logarithm of a positive real. -/
theorem log_pos_coe (x : ℝ) (h : 0 < x) : Ideal.log (x : EReal) = (Real.log x : EReal) := by
  show (if x ≤ 0 then ⊥ else (Real.log x : EReal)) = _
  rw [if_neg (not_le.mpr h)]
/-- The same, with the exact operations. -/
theorem lae_coe (a b : ℝ) : max (a : EReal) b + Ideal.log1p (Ideal.exp (-(max ((a : EReal) - b) (-((a : EReal) - b))))) = (Real.log (Real.exp a + Real.exp b) : EReal) := by
  rw [← lae_real, ← EReal.coe_sub, ← EReal.coe_neg, max_real, max_real, ← EReal.coe_neg, Ideal.exp_coe]
  unfold Ideal.log1p
  rw [← EReal.coe_one, ← EReal.coe_add, log_pos_coe _ (by positivity), ← EReal.coe_add]
/-- The reference's logarithm of the gate is the logarithm of the kernel's gate. -/
theorem logGate_eq (lb : ℝ) (hlb : lb < 1) (f : EReal) : logGate (lb : EReal) f = Ideal.log (gateAt (max (lb : EReal) (Ideal.ofBits .f32 0x1E3CE508#32)) (Ideal.ofBits .f32 0x3F800000#32 - (lb : EReal)) f) := by
  obtain ⟨q, hq, eq⟩ := floor_real
  have hm : 0 < max lb q := lt_max_of_lt_right hq
  have h1 : 0 < 1 - lb := by linarith
  have eA : Ideal.log (max (lb : EReal) (Ideal.ofBits .f32 0x1E3CE508#32)) = (Real.log (max lb q) : EReal) := by
    rw [eq, max_real, log_pos_coe _ hm]
  have eB : Ideal.log1p (-(lb : EReal)) = (Real.log (1 - lb) : EReal) := by
    unfold Ideal.log1p
    rw [← EReal.coe_one, ← EReal.coe_neg, ← EReal.coe_add, ← sub_eq_add_neg, log_pos_coe _ h1]
  unfold logGate gateAt
  dsimp only
  rw [eA, eB, eq, one_f32, ← EReal.coe_sub, max_real]
  induction f using EReal.rec with
  | bot =>
    have e : (1 : EReal) + ⊤ = ⊤ := by rw [← EReal.coe_one]; exact EReal.coe_add_top _
    have e0 : Ideal.log 1 = 0 := by rw [← EReal.coe_one, log_pos_coe _ one_pos]; simp
    simp [Ideal.div, e, Ideal.log1p, e0, log_pos_coe _ hm]
  | top =>
    have e0 : Ideal.log 1 = 0 := by rw [← EReal.coe_one, log_pos_coe _ one_pos]; simp
    have hs : Ideal.div 1 (1 + Ideal.exp (-(⊤ : EReal))) = ((1 : ℝ) : EReal) := by simp [Ideal.div]
    have hz : max (-(⊤ : EReal)) 0 + Ideal.log1p (Ideal.exp (-(max (-(⊤ : EReal)) (-(-(⊤ : EReal)))))) = ((0 : ℝ) : EReal) := by simp [Ideal.log1p, e0]
    rw [hs, hz, ← EReal.coe_neg, ← EReal.coe_add, lae_coe, ← EReal.coe_mul, ← EReal.coe_add, log_pos_coe _ (by linarith)]
    rw [Real.exp_log hm, neg_zero, add_zero, Real.exp_log h1, mul_one]
  | coe r =>
    have h0 : (0 : ℝ) < 1 + Real.exp (-r) := by positivity
    have hl := lae_coe (-r) 0
    have hs : Ideal.div 1 (1 + Ideal.exp (-(r : EReal))) = ((1 / (1 + Real.exp (-r)) : ℝ) : EReal) := by
      rw [← EReal.coe_neg, Ideal.exp_coe, ← EReal.coe_one, ← EReal.coe_add, Ideal.div_coe h0.ne', EReal.coe_one, one_mul]
    rw [hs, ← EReal.coe_neg]
    rw [EReal.coe_zero, sub_zero] at hl
    rw [hl, ← EReal.coe_neg, ← EReal.coe_add, lae_coe, ← EReal.coe_mul, ← EReal.coe_add, log_pos_coe _ (by positivity)]
    rw [Real.exp_log hm, Real.exp_add, Real.exp_log h1, Real.exp_neg, Real.exp_log (by positivity), Real.exp_zero]
    congr 3
    rw [one_div, add_comm]

/-- The sum within the block, over real log gates. -/
theorem pay94_real (L : FVec Ideal S64x256 .f32) (l : Fin 64 → ℝ) (n : Fin 256) (hL : ∀ s : Fin 64, L (ix2 s n : S64x256.Idx) = (l s : EReal)) (r : Fin 64) :
    k0_pay94 (F := Ideal) (k0_pay89 (iota Kind.tc S64x64 32 [0] iota_S64x64_d0_w32) (iota Kind.tc S64x64 32 [1] iota_S64x64_d1_w32) (16#32) k0_pay87 k0_pay88 1#32 0#32) (k0_pay90 L) (k0_pay92 L) (k0_pay93 L) (constant S64x256 FTy.f32 0#32) (ix2 r n : S64x256.Idx)
      = (inBlk l r : EReal) := by
  rw [pay94_at]
  have z : ∀ s : Fin 64, (l s : EReal) - (l s : EReal) = 0 := fun s => by rw [← EReal.coe_sub, sub_self, EReal.coe_zero]
  simp only [pay90_at, pay92_at, pay93_at, hL, z, sub_zero, mul_zero, Finset.sum_const_zero, add_zero]
  exact (Finset.sum_congr rfl fun s _ => congrArg (· * (l s : EReal)) (pay89_at r s)).trans (sum_mask (fun s => r.val / 16 = s.val / 16 ∧ s.val ≤ r.val) l)

/-- One block's outer product, its decays written as sums within the block. -/
theorem block_sum (f : Fin 16 → Fin 64) (e : Fin 64) (he : ∀ s, (f s).val / 16 * 16 + 15 = e.val) (l : Fin 64 → ℝ) (V KH va ka : Fin 64 → EReal) (hV : ∀ s, V s = va s)
    (hK : ∀ s : Fin 64, KH s = ka s * Ideal.exp ((inBlk l ⟨s.val / 16 * 16 + 15, by omega⟩ : EReal) - (inBlk l s : EReal))) :
    ∑ s : Fin 16, V (f s) * KH (f s) = ∑ s : Fin 16, va (f s) * (ka (f s) * Ideal.exp ((inBlk l e : EReal) - (inBlk l (f s) : EReal))) := by
  refine Finset.sum_congr rfl fun s _ => ?_
  rw [hV, hK, show (⟨(f s).val / 16 * 16 + 15, by omega⟩ : Fin 64) = e from Fin.ext (he s)]
/-- One entry of a pair's state after its four blocks: the chunk's sum within a head, zero across heads. -/
theorem nested (P : Prop) [Decidable P] (M : BitVec 1) (hM : M = if P then 1#1 else 0#1) (l : Fin 64 → ℝ) (S : EReal) (D V KH va ka : Fin 64 → EReal) (h0 : ¬ P → S = 0)
    (hD : ∀ r : Fin 64, D r = Ideal.exp (inBlk l ⟨r.val / 16 * 16 + 15, by omega⟩ : EReal)) (hV : ∀ s, V s = va s)
    (hK : ∀ s : Fin 64, KH s = ka s * Ideal.exp ((inBlk l ⟨s.val / 16 * 16 + 15, by omega⟩ : EReal) - (inBlk l s : EReal))) :
    (((S * D 0 + Scalar.select M (∑ s : Fin 16, V ⟨s.val, by omega⟩ * KH ⟨s.val, by omega⟩) (0 : EReal)) * D 16
      + Scalar.select M (∑ s : Fin 16, V ⟨16 + s.val, by omega⟩ * KH ⟨16 + s.val, by omega⟩) (0 : EReal)) * D 32
      + Scalar.select M (∑ s : Fin 16, V ⟨32 + s.val, by omega⟩ * KH ⟨32 + s.val, by omega⟩) (0 : EReal)) * D 48
      + Scalar.select M (∑ s : Fin 16, V ⟨48 + s.val, by omega⟩ * KH ⟨48 + s.val, by omega⟩) (0 : EReal)
    = if P then Ideal.exp (upTo l 63 : EReal) * S + ∑ s : Fin 64, ka s * Ideal.exp ((upTo l 63 : EReal) - (upTo l s : EReal)) * va s else 0 := by
  have s1 : ∀ a b : EReal, Scalar.select 1#1 a b = a := fun _ _ => rfl
  have s0 : ∀ a b : EReal, Scalar.select 0#1 a b = b := fun _ _ => rfl
  by_cases h : P
  · rw [hM, if_pos h, if_pos h, ← chain]
    have d0 : D 0 = Ideal.exp (inBlk l 15 : EReal) := hD 0
    have d1 : D 16 = Ideal.exp (inBlk l 31 : EReal) := hD 16
    have d2 : D 32 = Ideal.exp (inBlk l 47 : EReal) := hD 32
    have d3 : D 48 = Ideal.exp (inBlk l 63 : EReal) := hD 48
    rw [d0, d1, d2, d3, s1, s1, s1, s1]
    refine congrArg₂ (· + ·) (congrArg (· * _) (congrArg₂ (· + ·) (congrArg (· * _) (congrArg₂ (· + ·) (congrArg (· * _) (congrArg₂ (· + ·) rfl ?_)) ?_)) ?_)) ?_
    · exact block_sum (fun s => ⟨s.val, by omega⟩) 15 (fun s => by show s.val / 16 * 16 + 15 = 15; omega) l V KH va ka hV hK
    · exact block_sum (fun s => ⟨16 + s.val, by omega⟩) 31 (fun s => by show (16 + s.val) / 16 * 16 + 15 = 31; omega) l V KH va ka hV hK
    · exact block_sum (fun s => ⟨32 + s.val, by omega⟩) 47 (fun s => by show (32 + s.val) / 16 * 16 + 15 = 47; omega) l V KH va ka hV hK
    · exact block_sum (fun s => ⟨48 + s.val, by omega⟩) 63 (fun s => by show (48 + s.val) / 16 * 16 + 15 = 63; omega) l V KH va ka hV hK
  · rw [hM, if_neg h, if_neg h, s0, s0, s0, s0, h0 h]
    simp only [zero_mul, add_zero]

/-- The first pair's state at one entry. -/
theorem pair0 (D V KH : FVec Ideal S64x256 .f32) (S : Vec Ideal S1x128x128 .f32) (l : Fin 64 → ℝ) (va ka : Fin 64 → EReal) (v k : Fin 128) (h0 : ¬ v.val / 64 = k.val / 64 → S (ix3 0 v k) = (0 : EReal))
    (hD : ∀ r : Fin 64, D (ix2 r ⟨k.val, by omega⟩) = Ideal.exp (inBlk l ⟨r.val / 16 * 16 + 15, by omega⟩ : EReal)) (hV : ∀ s : Fin 64, V (ix2 s ⟨v.val, by omega⟩) = va s)
    (hK : ∀ s : Fin 64, KH (ix2 s ⟨k.val, by omega⟩) = ka s * Ideal.exp ((inBlk l ⟨s.val / 16 * 16 + 15, by omega⟩ : EReal) - (inBlk l s : EReal))) :
    k0_pay185 (F := Ideal) D (k0_pay167 (k0_pay165 (iota Kind.tc S128x128 32 [0] iota_S128x128_d0_w32) (64#32) k0_pay162 k0_pay163 k0_pay164) (k0_pay166 V KH)) (k0_pay169 V KH (k0_pay165 (iota Kind.tc S128x128 32 [0] iota_S128x128_d0_w32) (64#32) k0_pay162 k0_pay163 k0_pay164)) (k0_pay171 V KH (k0_pay165 (iota Kind.tc S128x128 32 [0] iota_S128x128_d0_w32) (64#32) k0_pay162 k0_pay163 k0_pay164)) (k0_pay173 V KH (k0_pay165 (iota Kind.tc S128x128 32 [0] iota_S128x128_d0_w32) (64#32) k0_pay162 k0_pay163 k0_pay164)) S (ix3 0 v k : S1x128x128.Idx)
      = if v.val / 64 = k.val / 64 then Ideal.exp (upTo l 63 : EReal) * S (ix3 0 v k) + ∑ s : Fin 64, ka s * Ideal.exp ((upTo l 63 : EReal) - (upTo l s : EReal)) * va s else 0 := by
  rw [pay185_at, pay167_at, pay169_at, pay171_at, pay173_at]
  exact nested (v.val / 64 = k.val / 64) _ (mask165 v k) l (S (ix3 0 v k)) (fun r => D (ix2 r ⟨k.val, by omega⟩)) (fun s => V (ix2 s ⟨v.val, by omega⟩)) (fun s => KH (ix2 s ⟨k.val, by omega⟩)) va ka h0 hD hV hK
/-- The second pair's state at one entry. -/
theorem pair1 (D V KH : FVec Ideal S64x256 .f32) (S : Vec Ideal S1x128x128 .f32) (l : Fin 64 → ℝ) (va ka : Fin 64 → EReal) (v k : Fin 128) (h0 : ¬ v.val / 64 = k.val / 64 → S (ix3 0 v k) = (0 : EReal))
    (hD : ∀ r : Fin 64, D (ix2 r ⟨128 + k.val, by omega⟩) = Ideal.exp (inBlk l ⟨r.val / 16 * 16 + 15, by omega⟩ : EReal)) (hV : ∀ s : Fin 64, V (ix2 s ⟨128 + v.val, by omega⟩) = va s)
    (hK : ∀ s : Fin 64, KH (ix2 s ⟨128 + k.val, by omega⟩) = ka s * Ideal.exp ((inBlk l ⟨s.val / 16 * 16 + 15, by omega⟩ : EReal) - (inBlk l s : EReal))) :
    k0_pay186 (F := Ideal) (k0_pay184 D (k0_pay165 (iota Kind.tc S128x128 32 [0] iota_S128x128_d0_w32) (64#32) k0_pay162 k0_pay163 k0_pay164) (k0_pay168 V KH (k0_pay165 (iota Kind.tc S128x128 32 [0] iota_S128x128_d0_w32) (64#32) k0_pay162 k0_pay163 k0_pay164)) (k0_pay170 V KH (k0_pay165 (iota Kind.tc S128x128 32 [0] iota_S128x128_d0_w32) (64#32) k0_pay162 k0_pay163 k0_pay164)) (k0_pay172 V KH (k0_pay165 (iota Kind.tc S128x128 32 [0] iota_S128x128_d0_w32) (64#32) k0_pay162 k0_pay163 k0_pay164)) (k0_pay174 KH) (k0_pay175 V) S) (ix3 0 v k : S1x128x128.Idx)
      = if v.val / 64 = k.val / 64 then Ideal.exp (upTo l 63 : EReal) * S (ix3 0 v k) + ∑ s : Fin 64, ka s * Ideal.exp ((upTo l 63 : EReal) - (upTo l s : EReal)) * va s else 0 := by
  rw [pay186_at, pay184_at, pay168_at, pay170_at, pay172_at]
  exact nested (v.val / 64 = k.val / 64) _ (mask165 v k) l (S (ix3 0 v k)) (fun r => D (ix2 r ⟨128 + k.val, by omega⟩)) (fun s => V (ix2 s ⟨128 + v.val, by omega⟩)) (fun s => KH (ix2 s ⟨128 + k.val, by omega⟩)) va ka h0 hD hV hK

/-- The kernel's decay of a whole block, over real log gates. -/
theorem pay98_real (L : FVec Ideal S64x256 .f32) (l : Fin 64 → ℝ) (n : Fin 256) (hL : ∀ s : Fin 64, L (ix2 s n : S64x256.Idx) = (l s : EReal)) (r : Fin 64) :
    k0_pay98 (F := Ideal) (k0_pay89 (iota Kind.tc S64x64 32 [0] iota_S64x64_d0_w32) (iota Kind.tc S64x64 32 [1] iota_S64x64_d1_w32) (16#32) k0_pay87 k0_pay88 1#32 0#32) (k0_pay90 L) (k0_pay92 L) (k0_pay93 L) (constant S64x256 FTy.f32 0#32) (ix2 r n : S64x256.Idx)
      = Ideal.exp (inBlk l ⟨r.val / 16 * 16 + 15, by omega⟩ : EReal) := by
  rw [pay98_at, pay95_at, pay94_real L l n hL]
/-- The kernel's decayed key, over real log gates. -/
theorem pay97_real (u L : FVec Ideal S64x256 .f32) (l : Fin 64 → ℝ) (n : Fin 256) (hL : ∀ s : Fin 64, L (ix2 s n : S64x256.Idx) = (l s : EReal)) (r : Fin 64) :
    k0_pay97 (F := Ideal) u (k0_pay89 (iota Kind.tc S64x64 32 [0] iota_S64x64_d0_w32) (iota Kind.tc S64x64 32 [1] iota_S64x64_d1_w32) (16#32) k0_pay87 k0_pay88 1#32 0#32) (k0_pay90 L) (k0_pay92 L) (k0_pay93 L) (constant S64x256 FTy.f32 0#32) (ix2 r n : S64x256.Idx)
      = u (ix2 r n) * Ideal.exp ((inBlk l ⟨r.val / 16 * 16 + 15, by omega⟩ : EReal) - (inBlk l r : EReal)) := by
  rw [pay97_at, pay95_at, pay94_real L l n hL, pay94_real L l n hL]

/-- The reference's log gate. -/
theorem v199_at (x : FVec Ideal S8x64x1024 .f32) (g : FVec Ideal S1024 .f32) (w : FVec Ideal S1024x3456 .f32) (a : FVec Ideal S256 .f32) (b : Fin 8) (s : Fin 64) (n : Fin 256) :
    val_main_v199 (F := Ideal) x g w a (ix3 b s n : Cert.MixerRefIdeal.S8x64x256.Idx) = logGate (a (ix1 n)) (val_main_v13 (F := Ideal) x g w (ix3 b s ⟨256 + n.val, by omega⟩)) := by
  pointwise [val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v174, val_main_v172, val_main_cst_19, val_main_call3_v1, val_main_call3_v0, val_main_call3_call0_cst, val_main_call3_call0_v0, val_main_call3_call0_v1, val_main_call3_call0_v2, val_main_call3_call0_v3, val_main_call3_call0_v4, val_main_call3_call0_v5, val_main_call3_call0_v6, val_main_call3_call0_v7, val_main_call3_call0_v8, val_main_call3_call0_v9, val_main_call3_call0_v10, val_main_call3_call0_v11]
  simp only [ne_eq, not_true_eq_false, if_false]
  rfl

/-- Two row numbers compared, the first with nothing added. -/
theorem row_ge0 : ∀ r s : Fin 64, IntOp.cmpi CmpIPredicate.sge (IntOp.addi (BitVec.ofNat 32 r.val) 0#32) (BitVec.ofNat 32 s.val) = if s.val ≤ r.val then 1#1 else 0#1 := by decide +kernel
/-- The reference's running sum of log gates. -/
theorem v211_at (x : FVec Ideal S8x64x1024 .f32) (g : FVec Ideal S1024 .f32) (w : FVec Ideal S1024x3456 .f32) (a : FVec Ideal S256 .f32) (b : Fin 8) (h : Fin 4) (r d : Fin 64) :
    val_main_v211 (F := Ideal) x g w a (ix4 b h r d : Cert.MixerRefIdeal.S8x4x64x64.Idx) = ∑ s : Fin 64, if s.val ≤ r.val then val_main_v199 (F := Ideal) x g w a (ix3 b s ⟨h.val * 64 + d.val, by omega⟩) else (0 : EReal) := by
  pointwise [val_main_v211, val_main_v210, val_main_v205, val_main_v204, val_main_v209, val_main_v208, val_main_cst_20, val_main_call4_v0, val_main_call4_v1, val_main_call4_v2, val_main_call4_v3, val_main_call4_v4, val_main_call4_v5, val_main_call4_c, val_main_call4_cst]
  refine Finset.sum_congr rfl fun s _ => ?_
  rw [row_ge0 r s]
  by_cases hs : s.val ≤ r.val
  · rw [if_pos hs, if_pos hs]; rfl
  · rw [if_neg hs, if_neg hs]; rfl

/-- The reference's keys. -/
theorem v203_at (x : FVec Ideal S8x64x1024 .f32) (g : FVec Ideal S1024 .f32) (w : FVec Ideal S1024x3456 .f32) (a : FVec Ideal S256 .f32) (b : Fin 8) (h : Fin 4) (s d : Fin 64) :
    val_main_v203 (F := Ideal) x g w a (ix4 b h s d : Cert.MixerRefIdeal.S8x4x64x64.Idx) = -(Ideal.exp (val_main_v199 (F := Ideal) x g w a (ix3 b s ⟨h.val * 64 + d.val, by omega⟩)) - 1) := by
  pointwise [val_main_v203, val_main_v202, val_main_v201, val_main_v200]
/-- The reference's values of the gated linear attention. -/
theorem v207_at (x : FVec Ideal S8x64x1024 .f32) (g : FVec Ideal S1024 .f32) (w : FVec Ideal S1024x3456 .f32) (b : Fin 8) (h : Fin 4) (s v : Fin 64) :
    val_main_v207 (F := Ideal) x g w (ix4 b h s v : Cert.MixerRefIdeal.S8x4x64x64.Idx) = val_main_v13 (F := Ideal) x g w (ix3 b s ⟨512 + (h.val * 64 + v.val), by omega⟩) := by
  pointwise [val_main_v207, val_main_v206, val_main_v175, val_main_v172]

/-- The reference's new states of a pair of heads at one entry of their block diagonal form. -/
theorem v233_at (x : FVec Ideal S8x64x1024 .f32) (g : FVec Ideal S1024 .f32) (w : FVec Ideal S1024x3456 .f32) (a : FVec Ideal S256 .f32) (R : FVec Ideal S8x4x64x64 .f32) (b : Fin 8) (p : Fin 2) (v k : Fin 128) :
    val_main_v233 (F := Ideal) x g w a R (ix4 b p v k : Cert.MixerRefIdeal.S8x2x128x128.Idx)
      = if v.val / 64 = k.val / 64 then
          Ideal.exp (val_main_v211 (F := Ideal) x g w a (ix4 b ⟨p.val * 2 + v.val / 64, by omega⟩ 63 ⟨k.val % 64, by omega⟩ : Cert.MixerRefIdeal.S8x4x64x64.Idx)) * R (ix4 b ⟨p.val * 2 + v.val / 64, by omega⟩ ⟨k.val % 64, by omega⟩ ⟨v.val % 64, by omega⟩)
            + ∑ s : Fin 64, val_main_v203 (F := Ideal) x g w a (ix4 b ⟨p.val * 2 + v.val / 64, by omega⟩ s ⟨k.val % 64, by omega⟩ : Cert.MixerRefIdeal.S8x4x64x64.Idx)
                * Ideal.exp (val_main_v211 (F := Ideal) x g w a (ix4 b ⟨p.val * 2 + v.val / 64, by omega⟩ 63 ⟨k.val % 64, by omega⟩ : Cert.MixerRefIdeal.S8x4x64x64.Idx) - val_main_v211 (F := Ideal) x g w a (ix4 b ⟨p.val * 2 + v.val / 64, by omega⟩ s ⟨k.val % 64, by omega⟩ : Cert.MixerRefIdeal.S8x4x64x64.Idx))
                * val_main_v207 (F := Ideal) x g w (ix4 b ⟨p.val * 2 + v.val / 64, by omega⟩ s ⟨v.val % 64, by omega⟩ : Cert.MixerRefIdeal.S8x4x64x64.Idx)
        else 0 := by
  pointwise [val_main_v233, val_main_v232, val_main_call5_v0, val_main_call5_v1, val_main_call5_v2, val_main_call5_v3, val_main_v231, val_main_v230, val_main_v229, val_main_v228, val_main_v227, val_main_v226, val_main_c_21, val_main_cst_22, val_main_v225, val_main_v224, val_main_v223, val_main_v222, val_main_v221, val_main_v220, val_main_v219, val_main_v218, val_main_v217, val_main_v216, val_main_v215, val_main_v214, val_main_v213, val_main_v212]
  have e : (b.val * 2 + p.val) % 2 = p.val := by omega
  simp only [e]
  exact sel_head ⟨v.val / 64, by omega⟩ ⟨k.val / 64, by omega⟩ _ _ (by show Ideal.ofBits .f32 0#32 = 0; simp [Ideal.ofBits, Ideal.ieee])

/-- A masked sum of reals, as extended reals. -/
theorem sum_if (P : Fin 64 → Prop) [DecidablePred P] (l : Fin 64 → ℝ) :
    ∑ s : Fin 64, (if P s then (l s : EReal) else 0) = ((∑ s : Fin 64, if P s then l s else 0 : ℝ) : EReal) := by
  rw [← sum_mask]
  refine Finset.sum_congr rfl fun s _ => ?_
  by_cases h : P s
  · rw [if_pos h, if_pos h, one_mul]
  · rw [if_neg h, if_neg h, zero_mul]
/-- The reference's new state at an entry within a head, over real log gates. -/
theorem v233_real (x : FVec Ideal S8x64x1024 .f32) (g : FVec Ideal S1024 .f32) (w : FVec Ideal S1024x3456 .f32) (a : FVec Ideal S256 .f32) (R : FVec Ideal S8x4x64x64 .f32) (b : Fin 8) (p : Fin 2) (v k : Fin 128)
    (n nv : Fin 256) (hn : n.val = p.val * 128 + k.val) (hnv : nv.val = p.val * 128 + v.val) (l : Fin 64 → ℝ)
    (hl : ∀ s : Fin 64, val_main_v199 (F := Ideal) x g w a (ix3 b s n : Cert.MixerRefIdeal.S8x64x256.Idx) = (l s : EReal)) :
    val_main_v233 (F := Ideal) x g w a R (ix4 b p v k : Cert.MixerRefIdeal.S8x2x128x128.Idx)
      = if v.val / 64 = k.val / 64 then
          Ideal.exp (upTo l 63 : EReal) * R (ix4 b ⟨p.val * 2 + v.val / 64, by omega⟩ ⟨k.val % 64, by omega⟩ ⟨v.val % 64, by omega⟩)
            + ∑ s : Fin 64, -(Ideal.exp (l s : EReal) - 1) * Ideal.exp ((upTo l 63 : EReal) - (upTo l s : EReal)) * val_main_v13 (F := Ideal) x g w (ix3 b s ⟨512 + nv.val, by omega⟩)
        else 0 := by
  rw [v233_at]
  by_cases hh : v.val / 64 = k.val / 64
  · rw [if_pos hh, if_pos hh]
    have en : (⟨(p.val * 2 + v.val / 64) * 64 + k.val % 64, by omega⟩ : Fin 256) = n := Fin.ext (by rw [hn]; show (p.val * 2 + v.val / 64) * 64 + k.val % 64 = p.val * 128 + k.val; omega)
    have ev : (⟨512 + ((p.val * 2 + v.val / 64) * 64 + v.val % 64), by omega⟩ : Fin 3456) = ⟨512 + nv.val, by omega⟩ := Fin.ext (by show 512 + ((p.val * 2 + v.val / 64) * 64 + v.val % 64) = 512 + nv.val; omega)
    have h199 : ∀ s : Fin 64, val_main_v199 (F := Ideal) x g w a (ix3 b s ⟨(p.val * 2 + v.val / 64) * 64 + k.val % 64, by omega⟩ : Cert.MixerRefIdeal.S8x64x256.Idx) = (l s : EReal) := fun s => by rw [en]; exact hl s
    have h211 : ∀ r : Fin 64, val_main_v211 (F := Ideal) x g w a (ix4 b ⟨p.val * 2 + v.val / 64, by omega⟩ r ⟨k.val % 64, by omega⟩ : Cert.MixerRefIdeal.S8x4x64x64.Idx) = (upTo l r : EReal) := fun r => by
      refine (v211_at x g w a b _ r _).trans ((Finset.sum_congr rfl fun s _ => ?_).trans (sum_if (fun s => s.val ≤ r.val) l))
      exact congrArg (fun z : EReal => if s.val ≤ r.val then z else 0) (h199 s)
    have h203 : ∀ s : Fin 64, val_main_v203 (F := Ideal) x g w a (ix4 b ⟨p.val * 2 + v.val / 64, by omega⟩ s ⟨k.val % 64, by omega⟩ : Cert.MixerRefIdeal.S8x4x64x64.Idx) = -(Ideal.exp (l s : EReal) - 1) := fun s =>
      (v203_at x g w a b _ s _).trans (congrArg (fun z : EReal => -(Ideal.exp z - 1)) (h199 s))
    have h207 : ∀ s : Fin 64, val_main_v207 (F := Ideal) x g w (ix4 b ⟨p.val * 2 + v.val / 64, by omega⟩ s ⟨v.val % 64, by omega⟩ : Cert.MixerRefIdeal.S8x4x64x64.Idx) = val_main_v13 (F := Ideal) x g w (ix3 b s ⟨512 + nv.val, by omega⟩) := fun s =>
      (v207_at x g w b _ s _).trans (congrArg (fun z => val_main_v13 (F := Ideal) x g w (ix3 b s z)) ev)
    rw [h211 63]
    refine congrArg₂ (· + ·) rfl (Finset.sum_congr rfl fun s _ => ?_)
    rw [h211 s, h203 s, h207 s]
  · rw [if_neg hh, if_neg hh]

/-- The side conditions of the precondition's operations hold: they are those of the reference's. -/
theorem pre_facts : Cert.Pre_lb_below_one.Facts where
  bcast_S_S256 := Cert.MixerRefIdeal.Gen.bcast_S_S256
/-- Under the precondition the lower bounds of the gates are reals below one. -/
theorem lb_real (a0 : FVec Ideal S8x64x1024 .f32) (a1 : FVec Ideal S1024 .f32) (a2 : FVec Ideal S1024x3456 .f32) (a3 : FVec Ideal S256 .f32) (a4 : FVec Ideal S64 .f32) (a5 : FVec Ideal S6 .f32) (a6 : IVec S64 32)
    (a7 : FVec Ideal S8x4x64x64 .f32) (a8 : FVec Ideal S8x6x32x64 .f32) (a9 : FVec Ideal S8x6x64x64 .f32) (a10 : FVec Ideal S8x1x1280 .f32) (a11 : FVec Ideal S1280 .f32) (a12 : FVec Ideal S384 .f32) (a13 : FVec Ideal S32x384 .f32)
    (a14 : FVec Ideal S384 .f32) (a15 : FVec Ideal S32x384 .f32) (a16 : FVec Ideal S64x384 .f32) (a17 a18 : FVec Ideal S384 .f32) (a19 : FVec Ideal S6x64 .f32) (a20 a21 : FVec Ideal S384 .f32)
    (hp : letI := pre_facts; Cert.Pre_lb_below_one.fn (F := Ideal) a0 a1 a2 a3 a4 a5 a6 a7 a8 a9 a10 a11 a12 a13 a14 a15 a16 a17 a18 a19 a20 a21 = fun _ => 1#1)
    (n : Fin 256) : ∃ q : ℝ, q < 1 ∧ a3 (ix1 n) = (q : EReal) := by
  have e := congrFun hp (ix1 n)
  have e' : IntOp.andi (Ideal.cmp .olt (max (a3 (ix1 n) : EReal) (-(a3 (ix1 n) : EReal))) (Ideal.ofBits .f32 0x7F800000#32)) (Ideal.cmp .olt (a3 (ix1 n) : EReal) (Ideal.ofBits .f32 0x3F800000#32)) = 1#1 := e
  have hb : Ideal.ofBits .f32 0x7F800000#32 = ⊤ := by simp [Ideal.ofBits, Ideal.ieee]
  rw [hb, one_f32] at e'
  generalize (a3 (ix1 n) : EReal) = z at e' ⊢
  have hand : ∀ a b : BitVec 1, IntOp.andi a b = 1#1 → a = 1#1 ∧ b = 1#1 := by decide
  obtain ⟨h1, h2⟩ := hand _ _ e'
  induction z using EReal.rec with
  | bot => simp [Ideal.cmp] at h1
  | top => simp [Ideal.cmp] at h1
  | coe r =>
    refine ⟨r, ?_, rfl⟩
    by_contra hc
    have : ¬ ((r : EReal) < ((1 : ℝ) : EReal)) := fun h => hc (EReal.coe_lt_coe_iff.mp h)
    simp only [Ideal.cmp, this] at h2
    exact absurd h2 (by decide)

/-- The log gates of one block of tokens are reals, the same in the kernel and in the reference; so are the keys. -/
theorem gates (c : Dev nD) (t : Fin cfg0.N) (hlb : ∀ n : Fin 256, ∃ q : ℝ, q < 1 ∧ m ((c : Thread nD τ).loc main_arg3) (ix1 n) = (q : EReal)) :
    ∃ l : Fin 64 → Fin 256 → ℝ, ∀ (s : Fin 64) (n : Fin 256),
      k0_pay84 (F := Ideal) (k0_pay80 (k0_pay24 (iblk m c 1 t) (iblk m c 2 t) (iblk m c 3 t))) (iblk m c 6 t) (iblk m c 7 t) (ix2 s n : S64x256.Idx) = (l s n : EReal)
      ∧ k0_pay85 (F := Ideal) (k0_pay80 (k0_pay24 (iblk m c 1 t) (iblk m c 2 t) (iblk m c 3 t))) (iblk m c 6 t) (iblk m c 7 t) (ix2 s n : S64x256.Idx) = -(Ideal.exp (l s n : EReal) - 1)
      ∧ val_main_v199 (F := Ideal) (m ((c : Thread nD τ).loc main_arg0)) (m ((c : Thread nD τ).loc main_arg1)) (m ((c : Thread nD τ).loc main_arg2)) (m ((c : Thread nD τ).loc main_arg3)) (ix3 (brow t) s n : Cert.MixerRefIdeal.S8x64x256.Idx) = (l s n : EReal) := by
  have one : ∀ (s : Fin 64) (n : Fin 256), ∃ l : ℝ,
      k0_pay84 (F := Ideal) (k0_pay80 (k0_pay24 (iblk m c 1 t) (iblk m c 2 t) (iblk m c 3 t))) (iblk m c 6 t) (iblk m c 7 t) (ix2 s n : S64x256.Idx) = (l : EReal)
      ∧ k0_pay85 (F := Ideal) (k0_pay80 (k0_pay24 (iblk m c 1 t) (iblk m c 2 t) (iblk m c 3 t))) (iblk m c 6 t) (iblk m c 7 t) (ix2 s n : S64x256.Idx) = -(Ideal.exp (l : EReal) - 1)
      ∧ val_main_v199 (F := Ideal) (m ((c : Thread nD τ).loc main_arg0)) (m ((c : Thread nD τ).loc main_arg1)) (m ((c : Thread nD τ).loc main_arg2)) (m ((c : Thread nD τ).loc main_arg3)) (ix3 (brow t) s n : Cert.MixerRefIdeal.S8x64x256.Idx) = (l : EReal) := by
    intro s n
    obtain ⟨q, hq, eq⟩ := hlb n
    obtain ⟨r, hr, er⟩ := gate_real q hq (val_main_v13 (F := Ideal) (m ((c : Thread nD τ).loc main_arg0)) (m ((c : Thread nD τ).loc main_arg1)) (m ((c : Thread nD τ).loc main_arg2)) (ix3 (brow t) s ⟨256 + n.val, by omega⟩))
    refine ⟨Real.log r, ?_, ?_, ?_⟩
    · rw [pay84_at, pay80_at, z24, iblk6, iblk7, eq]
      exact (congrArg Ideal.log er).trans (log_pos_coe r hr)
    · rw [pay85_at, pay80_at, z24, iblk6, iblk7, eq]
      refine (congrArg (fun z : EReal => Ideal.ofBits .f32 0x3F800000#32 - z) er).trans ?_
      rw [Ideal.exp_coe, Real.exp_log hr]
      show Ideal.ofBits .f32 0x3F800000#32 - (r : EReal) = -((r : EReal) - 1)
      rw [one_f32, ← EReal.coe_one, ← EReal.coe_sub, ← EReal.coe_sub, ← EReal.coe_neg]
      congr 1; ring
    · rw [v199_at, eq, logGate_eq q hq]
      exact (congrArg Ideal.log er).trans (log_pos_coe r hr)
  choose l hl using one
  exact ⟨l, hl⟩

/-- Where an entry of the stored states of point `t` lies in the array. -/
theorem emb22 (t : Fin cfg0.N) (y : S1x2x128x128.Idx) : ((cfg0.win 22).blk t).view.emb y = (ix4 (brow t) (y 1) (y 2) (y 3) : S8x2x128x128.Idx) := by
  unfold brow
  blk_ext [show win0_22.index t = ![t.val, 0, 0, 0] from (by decide +kernel : ∀ t : Fin grid0.N, win0_22.index t = ![t.val, 0, 0, 0]) t]

/-- What point `t` stores of the states is the reference's result at the block's place. -/
theorem point22 (c : Dev nD) (t : Fin cfg0.N) (y : S1x2x128x128.Idx) (hlb : ∀ n : Fin 256, ∃ q : ℝ, q < 1 ∧ m ((c : Thread nD τ).loc main_arg3) (ix1 n) = (q : EReal)) :
    k0_pay2 (F := Ideal)
      ((View.whole cc0_scratch0).readCov
        [⟨Rect.unit ![1, 0, 0] ![1, 128, 128] inb_S2x128x128_S1x128x128_1_0_0,
            k0_pay186
              (k0_pay184
                (k0_pay98
                  (k0_pay89 (iota Kind.tc S64x64 32 [0] iota_S64x64_d0_w32)
                    (iota Kind.tc S64x64 32 [1] iota_S64x64_d1_w32) (16#32) k0_pay87 k0_pay88 1#32 0#32)
                  (k0_pay90
                    (k0_pay84 (k0_pay80 (k0_pay24 (iblk m c 1 t) (iblk m c 2 t) (iblk m c 3 t))) (iblk m c 6 t)
                      (iblk m c 7 t)))
                  (k0_pay92
                    (k0_pay84 (k0_pay80 (k0_pay24 (iblk m c 1 t) (iblk m c 2 t) (iblk m c 3 t))) (iblk m c 6 t)
                      (iblk m c 7 t)))
                  (k0_pay93
                    (k0_pay84 (k0_pay80 (k0_pay24 (iblk m c 1 t) (iblk m c 2 t) (iblk m c 3 t))) (iblk m c 6 t)
                      (iblk m c 7 t)))
                  (constant S64x256 FTy.f32 0#32))
                (k0_pay165 (iota Kind.tc S128x128 32 [0] iota_S128x128_d0_w32) (64#32) k0_pay162 k0_pay163 k0_pay164)
                (k0_pay168 (k0_pay81 (k0_pay24 (iblk m c 1 t) (iblk m c 2 t) (iblk m c 3 t)))
                  (k0_pay97
                    (k0_pay85 (k0_pay80 (k0_pay24 (iblk m c 1 t) (iblk m c 2 t) (iblk m c 3 t))) (iblk m c 6 t)
                      (iblk m c 7 t))
                    (k0_pay89 (iota Kind.tc S64x64 32 [0] iota_S64x64_d0_w32)
                      (iota Kind.tc S64x64 32 [1] iota_S64x64_d1_w32) (16#32) k0_pay87 k0_pay88 1#32 0#32)
                    (k0_pay90
                      (k0_pay84 (k0_pay80 (k0_pay24 (iblk m c 1 t) (iblk m c 2 t) (iblk m c 3 t))) (iblk m c 6 t)
                        (iblk m c 7 t)))
                    (k0_pay92
                      (k0_pay84 (k0_pay80 (k0_pay24 (iblk m c 1 t) (iblk m c 2 t) (iblk m c 3 t))) (iblk m c 6 t)
                        (iblk m c 7 t)))
                    (k0_pay93
                      (k0_pay84 (k0_pay80 (k0_pay24 (iblk m c 1 t) (iblk m c 2 t) (iblk m c 3 t))) (iblk m c 6 t)
                        (iblk m c 7 t)))
                    (constant S64x256 FTy.f32 0#32))
                  (k0_pay165 (iota Kind.tc S128x128 32 [0] iota_S128x128_d0_w32) (64#32) k0_pay162 k0_pay163 k0_pay164))
                (k0_pay170 (k0_pay81 (k0_pay24 (iblk m c 1 t) (iblk m c 2 t) (iblk m c 3 t)))
                  (k0_pay97
                    (k0_pay85 (k0_pay80 (k0_pay24 (iblk m c 1 t) (iblk m c 2 t) (iblk m c 3 t))) (iblk m c 6 t)
                      (iblk m c 7 t))
                    (k0_pay89 (iota Kind.tc S64x64 32 [0] iota_S64x64_d0_w32)
                      (iota Kind.tc S64x64 32 [1] iota_S64x64_d1_w32) (16#32) k0_pay87 k0_pay88 1#32 0#32)
                    (k0_pay90
                      (k0_pay84 (k0_pay80 (k0_pay24 (iblk m c 1 t) (iblk m c 2 t) (iblk m c 3 t))) (iblk m c 6 t)
                        (iblk m c 7 t)))
                    (k0_pay92
                      (k0_pay84 (k0_pay80 (k0_pay24 (iblk m c 1 t) (iblk m c 2 t) (iblk m c 3 t))) (iblk m c 6 t)
                        (iblk m c 7 t)))
                    (k0_pay93
                      (k0_pay84 (k0_pay80 (k0_pay24 (iblk m c 1 t) (iblk m c 2 t) (iblk m c 3 t))) (iblk m c 6 t)
                        (iblk m c 7 t)))
                    (constant S64x256 FTy.f32 0#32))
                  (k0_pay165 (iota Kind.tc S128x128 32 [0] iota_S128x128_d0_w32) (64#32) k0_pay162 k0_pay163 k0_pay164))
                (k0_pay172 (k0_pay81 (k0_pay24 (iblk m c 1 t) (iblk m c 2 t) (iblk m c 3 t)))
                  (k0_pay97
                    (k0_pay85 (k0_pay80 (k0_pay24 (iblk m c 1 t) (iblk m c 2 t) (iblk m c 3 t))) (iblk m c 6 t)
                      (iblk m c 7 t))
                    (k0_pay89 (iota Kind.tc S64x64 32 [0] iota_S64x64_d0_w32)
                      (iota Kind.tc S64x64 32 [1] iota_S64x64_d1_w32) (16#32) k0_pay87 k0_pay88 1#32 0#32)
                    (k0_pay90
                      (k0_pay84 (k0_pay80 (k0_pay24 (iblk m c 1 t) (iblk m c 2 t) (iblk m c 3 t))) (iblk m c 6 t)
                        (iblk m c 7 t)))
                    (k0_pay92
                      (k0_pay84 (k0_pay80 (k0_pay24 (iblk m c 1 t) (iblk m c 2 t) (iblk m c 3 t))) (iblk m c 6 t)
                        (iblk m c 7 t)))
                    (k0_pay93
                      (k0_pay84 (k0_pay80 (k0_pay24 (iblk m c 1 t) (iblk m c 2 t) (iblk m c 3 t))) (iblk m c 6 t)
                        (iblk m c 7 t)))
                    (constant S64x256 FTy.f32 0#32))
                  (k0_pay165 (iota Kind.tc S128x128 32 [0] iota_S128x128_d0_w32) (64#32) k0_pay162 k0_pay163 k0_pay164))
                (k0_pay174
                  (k0_pay97
                    (k0_pay85 (k0_pay80 (k0_pay24 (iblk m c 1 t) (iblk m c 2 t) (iblk m c 3 t))) (iblk m c 6 t)
                      (iblk m c 7 t))
                    (k0_pay89 (iota Kind.tc S64x64 32 [0] iota_S64x64_d0_w32)
                      (iota Kind.tc S64x64 32 [1] iota_S64x64_d1_w32) (16#32) k0_pay87 k0_pay88 1#32 0#32)
                    (k0_pay90
                      (k0_pay84 (k0_pay80 (k0_pay24 (iblk m c 1 t) (iblk m c 2 t) (iblk m c 3 t))) (iblk m c 6 t)
                        (iblk m c 7 t)))
                    (k0_pay92
                      (k0_pay84 (k0_pay80 (k0_pay24 (iblk m c 1 t) (iblk m c 2 t) (iblk m c 3 t))) (iblk m c 6 t)
                        (iblk m c 7 t)))
                    (k0_pay93
                      (k0_pay84 (k0_pay80 (k0_pay24 (iblk m c 1 t) (iblk m c 2 t) (iblk m c 3 t))) (iblk m c 6 t)
                        (iblk m c 7 t)))
                    (constant S64x256 FTy.f32 0#32)))
                (k0_pay175 (k0_pay81 (k0_pay24 (iblk m c 1 t) (iblk m c 2 t) (iblk m c 3 t))))
                ((View.whole cc0_scratch0).readCov
                  [⟨Rect.unit ![0, 0, 0] ![2, 128, 128] inb_S2x128x128_S2x128x128_0_0_0, k0_pay6 (iblk m c 9 t)⟩]
                  (Rect.unit (s := S2x128x128) ![1, 0, 0] ![1, 128, 128] inb_S2x128x128_S1x128x128_1_0_0).toLoadRect))⟩,
          ⟨Rect.unit ![0, 0, 0] ![1, 128, 128] inb_S2x128x128_S1x128x128_0_0_0,
            k0_pay185
              (k0_pay98
                (k0_pay89 (iota Kind.tc S64x64 32 [0] iota_S64x64_d0_w32)
                  (iota Kind.tc S64x64 32 [1] iota_S64x64_d1_w32) (16#32) k0_pay87 k0_pay88 1#32 0#32)
                (k0_pay90
                  (k0_pay84 (k0_pay80 (k0_pay24 (iblk m c 1 t) (iblk m c 2 t) (iblk m c 3 t))) (iblk m c 6 t)
                    (iblk m c 7 t)))
                (k0_pay92
                  (k0_pay84 (k0_pay80 (k0_pay24 (iblk m c 1 t) (iblk m c 2 t) (iblk m c 3 t))) (iblk m c 6 t)
                    (iblk m c 7 t)))
                (k0_pay93
                  (k0_pay84 (k0_pay80 (k0_pay24 (iblk m c 1 t) (iblk m c 2 t) (iblk m c 3 t))) (iblk m c 6 t)
                    (iblk m c 7 t)))
                (constant S64x256 FTy.f32 0#32))
              (k0_pay167
                (k0_pay165 (iota Kind.tc S128x128 32 [0] iota_S128x128_d0_w32) (64#32) k0_pay162 k0_pay163 k0_pay164)
                (k0_pay166 (k0_pay81 (k0_pay24 (iblk m c 1 t) (iblk m c 2 t) (iblk m c 3 t)))
                  (k0_pay97
                    (k0_pay85 (k0_pay80 (k0_pay24 (iblk m c 1 t) (iblk m c 2 t) (iblk m c 3 t))) (iblk m c 6 t)
                      (iblk m c 7 t))
                    (k0_pay89 (iota Kind.tc S64x64 32 [0] iota_S64x64_d0_w32)
                      (iota Kind.tc S64x64 32 [1] iota_S64x64_d1_w32) (16#32) k0_pay87 k0_pay88 1#32 0#32)
                    (k0_pay90
                      (k0_pay84 (k0_pay80 (k0_pay24 (iblk m c 1 t) (iblk m c 2 t) (iblk m c 3 t))) (iblk m c 6 t)
                        (iblk m c 7 t)))
                    (k0_pay92
                      (k0_pay84 (k0_pay80 (k0_pay24 (iblk m c 1 t) (iblk m c 2 t) (iblk m c 3 t))) (iblk m c 6 t)
                        (iblk m c 7 t)))
                    (k0_pay93
                      (k0_pay84 (k0_pay80 (k0_pay24 (iblk m c 1 t) (iblk m c 2 t) (iblk m c 3 t))) (iblk m c 6 t)
                        (iblk m c 7 t)))
                    (constant S64x256 FTy.f32 0#32))))
              (k0_pay169 (k0_pay81 (k0_pay24 (iblk m c 1 t) (iblk m c 2 t) (iblk m c 3 t)))
                (k0_pay97
                  (k0_pay85 (k0_pay80 (k0_pay24 (iblk m c 1 t) (iblk m c 2 t) (iblk m c 3 t))) (iblk m c 6 t)
                    (iblk m c 7 t))
                  (k0_pay89 (iota Kind.tc S64x64 32 [0] iota_S64x64_d0_w32)
                    (iota Kind.tc S64x64 32 [1] iota_S64x64_d1_w32) (16#32) k0_pay87 k0_pay88 1#32 0#32)
                  (k0_pay90
                    (k0_pay84 (k0_pay80 (k0_pay24 (iblk m c 1 t) (iblk m c 2 t) (iblk m c 3 t))) (iblk m c 6 t)
                      (iblk m c 7 t)))
                  (k0_pay92
                    (k0_pay84 (k0_pay80 (k0_pay24 (iblk m c 1 t) (iblk m c 2 t) (iblk m c 3 t))) (iblk m c 6 t)
                      (iblk m c 7 t)))
                  (k0_pay93
                    (k0_pay84 (k0_pay80 (k0_pay24 (iblk m c 1 t) (iblk m c 2 t) (iblk m c 3 t))) (iblk m c 6 t)
                      (iblk m c 7 t)))
                  (constant S64x256 FTy.f32 0#32))
                (k0_pay165 (iota Kind.tc S128x128 32 [0] iota_S128x128_d0_w32) (64#32) k0_pay162 k0_pay163 k0_pay164))
              (k0_pay171 (k0_pay81 (k0_pay24 (iblk m c 1 t) (iblk m c 2 t) (iblk m c 3 t)))
                (k0_pay97
                  (k0_pay85 (k0_pay80 (k0_pay24 (iblk m c 1 t) (iblk m c 2 t) (iblk m c 3 t))) (iblk m c 6 t)
                    (iblk m c 7 t))
                  (k0_pay89 (iota Kind.tc S64x64 32 [0] iota_S64x64_d0_w32)
                    (iota Kind.tc S64x64 32 [1] iota_S64x64_d1_w32) (16#32) k0_pay87 k0_pay88 1#32 0#32)
                  (k0_pay90
                    (k0_pay84 (k0_pay80 (k0_pay24 (iblk m c 1 t) (iblk m c 2 t) (iblk m c 3 t))) (iblk m c 6 t)
                      (iblk m c 7 t)))
                  (k0_pay92
                    (k0_pay84 (k0_pay80 (k0_pay24 (iblk m c 1 t) (iblk m c 2 t) (iblk m c 3 t))) (iblk m c 6 t)
                      (iblk m c 7 t)))
                  (k0_pay93
                    (k0_pay84 (k0_pay80 (k0_pay24 (iblk m c 1 t) (iblk m c 2 t) (iblk m c 3 t))) (iblk m c 6 t)
                      (iblk m c 7 t)))
                  (constant S64x256 FTy.f32 0#32))
                (k0_pay165 (iota Kind.tc S128x128 32 [0] iota_S128x128_d0_w32) (64#32) k0_pay162 k0_pay163 k0_pay164))
              (k0_pay173 (k0_pay81 (k0_pay24 (iblk m c 1 t) (iblk m c 2 t) (iblk m c 3 t)))
                (k0_pay97
                  (k0_pay85 (k0_pay80 (k0_pay24 (iblk m c 1 t) (iblk m c 2 t) (iblk m c 3 t))) (iblk m c 6 t)
                    (iblk m c 7 t))
                  (k0_pay89 (iota Kind.tc S64x64 32 [0] iota_S64x64_d0_w32)
                    (iota Kind.tc S64x64 32 [1] iota_S64x64_d1_w32) (16#32) k0_pay87 k0_pay88 1#32 0#32)
                  (k0_pay90
                    (k0_pay84 (k0_pay80 (k0_pay24 (iblk m c 1 t) (iblk m c 2 t) (iblk m c 3 t))) (iblk m c 6 t)
                      (iblk m c 7 t)))
                  (k0_pay92
                    (k0_pay84 (k0_pay80 (k0_pay24 (iblk m c 1 t) (iblk m c 2 t) (iblk m c 3 t))) (iblk m c 6 t)
                      (iblk m c 7 t)))
                  (k0_pay93
                    (k0_pay84 (k0_pay80 (k0_pay24 (iblk m c 1 t) (iblk m c 2 t) (iblk m c 3 t))) (iblk m c 6 t)
                      (iblk m c 7 t)))
                  (constant S64x256 FTy.f32 0#32))
                (k0_pay165 (iota Kind.tc S128x128 32 [0] iota_S128x128_d0_w32) (64#32) k0_pay162 k0_pay163 k0_pay164))
              ((View.whole cc0_scratch0).readCov
                [⟨Rect.unit ![0, 0, 0] ![2, 128, 128] inb_S2x128x128_S2x128x128_0_0_0, k0_pay6 (iblk m c 9 t)⟩]
                (Rect.unit (s := S2x128x128) ![0, 0, 0] ![1, 128, 128] inb_S2x128x128_S1x128x128_0_0_0).toLoadRect)⟩,
          ⟨Rect.unit ![0, 0, 0] ![2, 128, 128] inb_S2x128x128_S2x128x128_0_0_0, k0_pay6 (iblk m c 9 t)⟩]
        (Rect.unit ![0, 0, 0] ![2, 128, 128] inb_S2x128x128_S2x128x128_0_0_0).toLoadRect)
      y
    = val_main_v233 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (((cfg0.win 22).blk t).view.emb y) := by
  rw [emb22]
  idx_vars y
  obtain rfl : y0 = 0 := Subsingleton.elim _ _
  obtain ⟨l, hl⟩ := gates m c t hlb
  rw [back]
  refine (pay2_at _ y1 y2 y3).trans ?_
  show (if y1.val = 0 then _ else _) = _
  by_cases hp : y1.val = 0
  · rw [if_pos hp]
    obtain rfl : y1 = 0 := Fin.ext hp
    refine (pair0 _ _ _ _ (fun s => l s ⟨y3.val, by omega⟩) (fun s => val_main_v13 (F := Ideal) (m ((c : Thread nD τ).loc main_arg0)) (m ((c : Thread nD τ).loc main_arg1)) (m ((c : Thread nD τ).loc main_arg2)) (ix3 (brow t) s ⟨512 + y2.val, by omega⟩)) (fun s => -(Ideal.exp (l s ⟨y3.val, by omega⟩ : EReal) - 1)) y2 y3 (fun hh => ?_)
      (fun r => pay98_real _ (fun s => l s ⟨y3.val, by omega⟩) ⟨y3.val, by omega⟩ (fun s => (hl s ⟨y3.val, by omega⟩).1) r) (fun s => ?_)
      (fun s => (pay97_real _ _ (fun s => l s ⟨y3.val, by omega⟩) ⟨y3.val, by omega⟩ (fun s => (hl s ⟨y3.val, by omega⟩).1) s).trans (congrArg (· * _) (hl s ⟨y3.val, by omega⟩).2.1))).trans ?_
    · rw [start0, pay6_at, iblk9, if_neg hh]
    · rw [pay81_at, z24]
    · refine Eq.trans ?_ (v233_real (m ((c : Thread nD τ).loc main_arg0)) (m ((c : Thread nD τ).loc main_arg1)) (m ((c : Thread nD τ).loc main_arg2)) (m ((c : Thread nD τ).loc main_arg3)) (m ((c : Thread nD τ).loc main_arg7)) (brow t) 0 y2 y3 ⟨y3.val, by omega⟩ ⟨y2.val, by omega⟩ (by show y3.val = 0 * 128 + y3.val; omega) (by show y2.val = 0 * 128 + y2.val; omega) (fun s => l s ⟨y3.val, by omega⟩) (fun s => (hl s ⟨y3.val, by omega⟩).2.2)).symm
      by_cases hh : y2.val / 64 = y3.val / 64
      · rw [if_pos hh, if_pos hh]
        refine congrArg₂ (· + ·) (congrArg₂ (· * ·) rfl ?_) rfl
        rw [start0, pay6_at, iblk9, if_pos hh]
      · rw [if_neg hh, if_neg hh]
  · rw [if_neg hp]
    obtain rfl : y1 = 1 := Fin.ext (by show y1.val = 1; omega)
    refine (pair1 _ _ _ _ (fun s => l s ⟨128 + y3.val, by omega⟩) (fun s => val_main_v13 (F := Ideal) (m ((c : Thread nD τ).loc main_arg0)) (m ((c : Thread nD τ).loc main_arg1)) (m ((c : Thread nD τ).loc main_arg2)) (ix3 (brow t) s ⟨512 + (128 + y2.val), by omega⟩)) (fun s => -(Ideal.exp (l s ⟨128 + y3.val, by omega⟩ : EReal) - 1)) y2 y3 (fun hh => ?_)
      (fun r => pay98_real _ (fun s => l s ⟨128 + y3.val, by omega⟩) ⟨128 + y3.val, by omega⟩ (fun s => (hl s ⟨128 + y3.val, by omega⟩).1) r) (fun s => ?_)
      (fun s => (pay97_real _ _ (fun s => l s ⟨128 + y3.val, by omega⟩) ⟨128 + y3.val, by omega⟩ (fun s => (hl s ⟨128 + y3.val, by omega⟩).1) s).trans (congrArg (· * _) (hl s ⟨128 + y3.val, by omega⟩).2.1))).trans ?_
    · rw [start1, pay6_at, iblk9, if_neg hh]
    · rw [pay81_at, z24]
    · refine Eq.trans ?_ (v233_real (m ((c : Thread nD τ).loc main_arg0)) (m ((c : Thread nD τ).loc main_arg1)) (m ((c : Thread nD τ).loc main_arg2)) (m ((c : Thread nD τ).loc main_arg3)) (m ((c : Thread nD τ).loc main_arg7)) (brow t) 1 y2 y3 ⟨128 + y3.val, by omega⟩ ⟨128 + y2.val, by omega⟩ (by show 128 + y3.val = 1 * 128 + y3.val; omega) (by show 128 + y2.val = 1 * 128 + y2.val; omega) (fun s => l s ⟨128 + y3.val, by omega⟩) (fun s => (hl s ⟨128 + y3.val, by omega⟩).2.2)).symm
      by_cases hh : y2.val / 64 = y3.val / 64
      · rw [if_pos hh, if_pos hh]
        refine congrArg₂ (· + ·) (congrArg₂ (· * ·) rfl ?_) rfl
        rw [start1, pay6_at, iblk9, if_pos hh]
      · rw [if_neg hh, if_neg hh]

/-- The states' array after the run is the reference's, where the lower bounds of the gates are below one. -/
theorem final22 (c : Dev nD) (hlb : ∀ n : Fin 256, ∃ q : ℝ, q < 1 ∧ m ((c : Thread nD τ).loc main_arg3) (ix1 n) = (q : EReal)) :
    (dats m 0 c).arrAt 22 cfg0.N = val_main_v233 (F := Ideal) (m ((c : Thread nD τ).loc main_arg0)) (m ((c : Thread nD τ).loc main_arg1)) (m ((c : Thread nD τ).loc main_arg2)) (m ((c : Thread nD τ).loc main_arg3)) (m ((c : Thread nD τ).loc main_arg7)) := by
  refine (dats m 0 c).arrAt_eq_of_covers 22 _ (by decide +kernel) fun t hf y => ?_
  blk_simp
  rw [after0_22]; unfold Gen.outsAt0; dsimp only; frame_out
  exact point22 m c t y hlb

/-- `Mixer` and its reference run, and from equal arguments whose lower bounds of the gates are below one the four result arrays are
    equal. -/
theorem algebraic : Cert.algebraic_MixerIdeal_MixerRefIdeal_pre_lb_below_one (hMixerIdeal := Cert.MixerIdeal.Gen.facts)
    (hMixerRefIdeal := Cert.MixerRefIdeal.Gen.facts) (hPre_lb_below_one := pre_facts) := by
  intro m g m' g' hpre hagree
  refine ⟨fun c => (dats m 0 c).arrAt 20 cfg0.N, fun c => (dats m 0 c).arrAt 23 cfg0.N,
    fun c => (dats m 0 c).arrAt 25 cfg0.N, fun c => (dats m 0 c).arrAt 22 cfg0.N, ?_, ?_⟩
  · refine θ_run_mono (θ_run_and (Cert.MixerIdeal.Gen.run_main m g) (Cert.MixerIdeal.Gen.unchanged m g)) ?_
    intro r h c
    refine ⟨?_, ?_, ?_, ?_, h.2 c⟩
    · exact (h.1 c).1 20
    · exact (h.1 c).1 23
    · exact (h.1 c).1 25
    · exact (h.1 c).1 22
  · refine θ_run_mono (Cert.MixerRefIdeal.Value.run m' g') ?_
    intro r h c
    obtain ⟨h1, h2, h3, h4, h5⟩ := h c
    refine ⟨h1.trans ?_, h2.trans ?_, h3.trans ?_, h4.trans ?_, h5⟩
    · rw [val_main_v160_eq]; simp only [hagree c]; exact (final20 m c).symm
    · rw [val_main_v170_eq]; simp only [hagree c]; exact (final23 m c).symm
    · rw [val_main_v171_eq]; simp only [hagree c]; exact (final25 m c).symm
    · rw [val_main_v233_eq]; simp only [hagree c]
      exact (final22 m c (lb_real _ _ _ _ _ _ _ _ _ _ _ _ _ _ _ _ _ _ _ _ _ _ (hpre c))).symm

end Cert.Proof.Mixer

end
-- ==== Proof.lean ====
module

public import proofs.«01_k».proof.Defs
public import proofs.«01_k».proof.Proof.Gen.Ffn
public import proofs.«01_k».proof.Proof.Gen.FfnIdeal
public import proofs.«01_k».proof.Proof.Gen.FfnRefIdeal
public import proofs.«01_k».proof.Proof.Gen.Ffn.Frame
public import proofs.«01_k».proof.Proof.Gen.FfnIdeal.Frame
public import proofs.«01_k».proof.Proof.Gen.FfnRefIdeal.Run
public import proofs.«01_k».proof.Proof.FfnValue
public import proofs.«01_k».proof.Proof.Gen.FfnFinal
public import proofs.«01_k».proof.Proof.Gen.FfnFinalIdeal
public import proofs.«01_k».proof.Proof.Gen.FfnFinalRefIdeal
public import proofs.«01_k».proof.Proof.Gen.FfnFinal.Frame
public import proofs.«01_k».proof.Proof.Gen.FfnFinalIdeal.Frame
public import proofs.«01_k».proof.Proof.Gen.FfnFinalRefIdeal.Run
public import proofs.«01_k».proof.Proof.FfnFinalValue
public import proofs.«01_k».proof.Proof.Gen.MemKv
public import proofs.«01_k».proof.Proof.Gen.MemKvIdeal
public import proofs.«01_k».proof.Proof.Gen.MemKvRefIdeal
public import proofs.«01_k».proof.Proof.Gen.MemKv.Frame
public import proofs.«01_k».proof.Proof.Gen.MemKvIdeal.Frame
public import proofs.«01_k».proof.Proof.Gen.MemKvRefIdeal.Run
public import proofs.«01_k».proof.Proof.MemKvValue
public import proofs.«01_k».proof.Proof.Gen.OutAttn
public import proofs.«01_k».proof.Proof.Gen.OutAttnIdeal
public import proofs.«01_k».proof.Proof.Gen.OutAttnRefIdeal
public import proofs.«01_k».proof.Proof.Gen.OutAttn.Frame
public import proofs.«01_k».proof.Proof.Gen.OutAttnIdeal.Frame
public import proofs.«01_k».proof.Proof.Gen.OutAttnRefIdeal.Run
public import proofs.«01_k».proof.Proof.OutAttnValue
public import proofs.«01_k».proof.Proof.Gen.Mixer
public import proofs.«01_k».proof.Proof.Gen.MixerIdeal
public import proofs.«01_k».proof.Proof.Gen.MixerRefIdeal
public import proofs.«01_k».proof.Proof.Gen.Mixer.Frame
public import proofs.«01_k».proof.Proof.Gen.MixerIdeal.Frame
public import proofs.«01_k».proof.Proof.Gen.MixerRefIdeal.Run
public import proofs.«01_k».proof.Proof.MixerValue
public import proofs.«01_k».proof.Proof.MixerHgrn
public import Idealize.ShloMosaic.Lib.Claim
public import Idealize.ShloMosaic.Adequacy
public import Idealize.ShloMosaic.Init

@[expose] public section

noncomputable section

namespace Cert.Proof

open Idealize.ShloMosaic Idealize.SL.Sem

/-- Every claim of this certificate: each program's frame, each idealization's sameness, and each value equality. -/
theorem claim : Cert.Claim :=
  ⟨Cert.Ffn.Gen.facts, Cert.FfnIdeal.Gen.facts, Cert.FfnRefIdeal.Gen.facts, Cert.FfnFinal.Gen.facts, Cert.FfnFinalIdeal.Gen.facts, Cert.FfnFinalRefIdeal.Gen.facts, Cert.MemKv.Gen.facts, Cert.MemKvIdeal.Gen.facts, Cert.MemKvRefIdeal.Gen.facts, Cert.OutAttn.Gen.facts, Cert.OutAttnIdeal.Gen.facts, Cert.OutAttnRefIdeal.Gen.facts, Cert.Mixer.Gen.facts, Cert.MixerIdeal.Gen.facts, Cert.MixerRefIdeal.Gen.facts, OutAttn.pre_facts, Mixer.pre_facts,
    fun m ρ _ => Cert.Ffn.Gen.frame m ρ,
    fun m ρ _ => Cert.FfnIdeal.Gen.frame m ρ,
    fun m ρ _ => θ_run_mono (Cert.FfnRefIdeal.Value.run m ρ) fun r h => ⟨fun c => (h c).2, sem_eq_zero_of_no_sems (by decide) r.2⟩,
    fun m ρ _ => Cert.FfnFinal.Gen.frame m ρ,
    fun m ρ _ => Cert.FfnFinalIdeal.Gen.frame m ρ,
    fun m ρ _ => θ_run_mono (Cert.FfnFinalRefIdeal.Value.run m ρ) fun r h => ⟨fun c => (h c).2, sem_eq_zero_of_no_sems (by decide) r.2⟩,
    fun m ρ _ => Cert.MemKv.Gen.frame m ρ,
    fun m ρ _ => Cert.MemKvIdeal.Gen.frame m ρ,
    fun m ρ _ => θ_run_mono (Cert.MemKvRefIdeal.Value.run m ρ) fun r h => ⟨fun c => (h c).2.2, sem_eq_zero_of_no_sems (by decide) r.2⟩,
    fun m ρ _ => Cert.OutAttn.Gen.frame m ρ,
    fun m ρ _ => Cert.OutAttnIdeal.Gen.frame m ρ,
    fun m ρ _ => Cert.OutAttnIdeal.Gen.frame m ρ,
    fun m ρ _ => θ_run_mono (Cert.OutAttnRefIdeal.Value.run m ρ) fun r h => ⟨fun c => (h c).2, sem_eq_zero_of_no_sems (by decide) r.2⟩,
    fun m ρ _ => θ_run_mono (Cert.OutAttnRefIdeal.Value.run m ρ) fun r h => ⟨fun c => (h c).2, sem_eq_zero_of_no_sems (by decide) r.2⟩,
    fun m ρ _ => Cert.Mixer.Gen.frame m ρ,
    fun m ρ _ => Cert.MixerIdeal.Gen.frame m ρ,
    fun m ρ _ => Cert.MixerIdeal.Gen.frame m ρ,
    fun m ρ _ => θ_run_mono (Cert.MixerRefIdeal.Value.run m ρ) fun r h => ⟨fun c => (h c).2.2.2.2, sem_eq_zero_of_no_sems (by decide) r.2⟩,
    fun m ρ _ => θ_run_mono (Cert.MixerRefIdeal.Value.run m ρ) fun r h => ⟨fun c => (h c).2.2.2.2, sem_eq_zero_of_no_sems (by decide) r.2⟩,
    trivial,
    Ffn.algebraic,
    trivial,
    FfnFinal.algebraic,
    trivial,
    MemKv.algebraic,
    trivial,
    OutAttn.algebraic,
    trivial,
    Mixer.algebraic⟩

end Cert.Proof

end
